-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelFinal (m : (ℓ : Loc Cert.KernelFinal.nD Cert.KernelFinal.τ Cert.KernelFinal.sig) → Buf (Elt Bits) ℓ) : Prop :=
  True

def Pre_KernelFinalIdeal (m : (ℓ : Loc Cert.KernelFinalIdeal.nD Cert.KernelFinalIdeal.τ Cert.KernelFinalIdeal.sig) → Buf (Elt Ideal) ℓ) : Prop :=
  True

def Pre_ReferenceFinalIdeal (m : (ℓ : Loc Cert.ReferenceFinalIdeal.nD Cert.ReferenceFinalIdeal.τ Cert.ReferenceFinalIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_KernelFinal [hKernelFinal : Cert.KernelFinal.Facts] : Prop :=
  ∀ (m : (ℓ : Loc Cert.KernelFinal.nD Cert.KernelFinal.τ Cert.KernelFinal.sig) → Buf (Elt Bits) ℓ) (g : Dev Cert.KernelFinal.nD → PrngReg), Pre_KernelFinal m →
    θ_run (Cert.KernelFinal.defs (F := Bits)) (onTc (τ := Cert.KernelFinal.τ) (Cert.KernelFinal.main (F := Bits))) ⟨m, fun _ => 0, g⟩ (fun r => (∀ c : Dev Cert.KernelFinal.nD,
      r.2.mem ((c.tc : Thread Cert.KernelFinal.nD Cert.KernelFinal.τ).loc Cert.KernelFinal.main_arg0) = m ((c.tc : Thread Cert.KernelFinal.nD Cert.KernelFinal.τ).loc Cert.KernelFinal.main_arg0)
      ∧ r.2.mem ((c.tc : Thread Cert.KernelFinal.nD Cert.KernelFinal.τ).loc Cert.KernelFinal.main_arg1) = m ((c.tc : Thread Cert.KernelFinal.nD Cert.KernelFinal.τ).loc Cert.KernelFinal.main_arg1))
      ∧ r.2.sem = fun _ => 0)

def quiescent_KernelFinalIdeal [hKernelFinalIdeal : Cert.KernelFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg), Pre_KernelFinalIdeal m →
    θ_run (Cert.KernelFinalIdeal.defs (F := Ideal)) (onTc (τ := Cert.KernelFinalIdeal.τ) (Cert.KernelFinalIdeal.main (F := Ideal))) ⟨m, fun _ => 0, g⟩ (fun r => (∀ c : Dev Cert.KernelFinalIdeal.nD,
      r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
      ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1))
      ∧ r.2.sem = fun _ => 0)

def quiescent_ReferenceFinalIdeal [hReferenceFinalIdeal : Cert.ReferenceFinalIdeal.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2)
      ∧ r.2.mem ((c.tc : Thread Cert.KernelConv.nD Cert.KernelConv.τ).loc Cert.KernelConv.main_arg3) = m ((c.tc : Thread Cert.KernelConv.nD Cert.KernelConv.τ).loc Cert.KernelConv.main_arg3)
      ∧ r.2.mem ((c.tc : Thread Cert.KernelConv.nD Cert.KernelConv.τ).loc Cert.KernelConv.main_arg4) = m ((c.tc : Thread Cert.KernelConv.nD Cert.KernelConv.τ).loc Cert.KernelConv.main_arg4))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
      ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3)
      ∧ r.2.mem ((c.tc : Thread Cert.KernelConvIdeal.nD Cert.KernelConvIdeal.τ).loc Cert.KernelConvIdeal.main_arg4) = m ((c.tc : Thread Cert.KernelConvIdeal.nD Cert.KernelConvIdeal.τ).loc Cert.KernelConvIdeal.main_arg4))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2)
      ∧ r.2.mem ((c.tc : Thread Cert.ReferenceConvIdeal.nD Cert.ReferenceConvIdeal.τ).loc Cert.ReferenceConvIdeal.main_arg3) = m ((c.tc : Thread Cert.ReferenceConvIdeal.nD Cert.ReferenceConvIdeal.τ).loc Cert.ReferenceConvIdeal.main_arg3)
      ∧ r.2.mem ((c.tc : Thread Cert.ReferenceConvIdeal.nD Cert.ReferenceConvIdeal.τ).loc Cert.ReferenceConvIdeal.main_arg4) = m ((c.tc : Thread Cert.ReferenceConvIdeal.nD Cert.ReferenceConvIdeal.τ).loc Cert.ReferenceConvIdeal.main_arg4))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)) →
    ∃ (v0 : (c : Dev Cert.KernelUpIdeal.nD) → Buf (Elt Ideal) ((c.tc : Thread Cert.KernelUpIdeal.nD Cert.KernelUpIdeal.τ).loc Cert.KernelUpIdeal.main_v1_0)) (v1 : (c : Dev Cert.KernelUpIdeal.nD) → Buf (Elt Ideal) ((c.tc : Thread Cert.KernelUpIdeal.nD Cert.KernelUpIdeal.τ).loc Cert.KernelUpIdeal.main_v1_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v1_0) = v0 c
          ∧ r.2.mem ((c.tc : Thread Cert.KernelUpIdeal.nD Cert.KernelUpIdeal.τ).loc Cert.KernelUpIdeal.main_v1_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v4) = v0 c
          ∧ r.2.mem ((c.tc : Thread Cert.ReferenceUpIdeal.nD Cert.ReferenceUpIdeal.τ).loc Cert.ReferenceUpIdeal.main_v5) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v3)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v3) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def preserves_KernelFinal_KernelFinalIdeal : Prop :=
  True

def algebraic_KernelFinalIdeal_ReferenceFinalIdeal [hKernelFinalIdeal : Cert.KernelFinalIdeal.Facts] [hReferenceFinalIdeal : Cert.ReferenceFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg)
    (m' : (ℓ : Loc Cert.ReferenceFinalIdeal.nD Cert.ReferenceFinalIdeal.τ Cert.ReferenceFinalIdeal.sig) → Buf (Elt Ideal) ℓ) (g' : Dev Cert.ReferenceFinalIdeal.nD → PrngReg), Pre_KernelFinalIdeal m →
    (∀ c : Dev Cert.KernelFinalIdeal.nD,
      m' ((c.tc : Thread Cert.ReferenceFinalIdeal.nD Cert.ReferenceFinalIdeal.τ).loc Cert.ReferenceFinalIdeal.main_arg0) = m ((c.tc : Thread Cert.KernelFinalIdeal.nD Cert.KernelFinalIdeal.τ).loc Cert.KernelFinalIdeal.main_arg0)
      ∧ m' ((c.tc : Thread Cert.ReferenceFinalIdeal.nD Cert.ReferenceFinalIdeal.τ).loc Cert.ReferenceFinalIdeal.main_arg1) = m ((c.tc : Thread Cert.KernelFinalIdeal.nD Cert.KernelFinalIdeal.τ).loc Cert.KernelFinalIdeal.main_arg1)) →
    ∃ (v0 : (c : Dev Cert.KernelFinalIdeal.nD) → Buf (Elt Ideal) ((c.tc : Thread Cert.KernelFinalIdeal.nD Cert.KernelFinalIdeal.τ).loc Cert.KernelFinalIdeal.main_v1)),
      θ_run (Cert.KernelFinalIdeal.defs (F := Ideal)) (onTc (τ := Cert.KernelFinalIdeal.τ) (Cert.KernelFinalIdeal.main (F := Ideal))) ⟨m, fun _ => 0, g⟩ (fun r => ∀ c : Dev Cert.KernelFinalIdeal.nD,
          r.2.mem ((c.tc : Thread Cert.KernelFinalIdeal.nD Cert.KernelFinalIdeal.τ).loc Cert.KernelFinalIdeal.main_v1) = v0 c
          ∧ r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
          ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1))
      ∧ θ_run (Cert.ReferenceFinalIdeal.defs (F := Ideal)) (onTc (τ := Cert.ReferenceFinalIdeal.τ) (Cert.ReferenceFinalIdeal.main (F := Ideal))) ⟨m', fun _ => 0, g'⟩ (fun r => ∀ c : Dev Cert.ReferenceFinalIdeal.nD,
          r.2.mem ((c.tc : Thread Cert.ReferenceFinalIdeal.nD Cert.ReferenceFinalIdeal.τ).loc Cert.ReferenceFinalIdeal.main_v12) = v0 c
          ∧ r.2.mem ((c.tc : Thread Cert.ReferenceFinalIdeal.nD Cert.ReferenceFinalIdeal.τ).loc Cert.ReferenceFinalIdeal.main_arg0) = m' ((c.tc : Thread Cert.ReferenceFinalIdeal.nD Cert.ReferenceFinalIdeal.τ).loc Cert.ReferenceFinalIdeal.main_arg0)
          ∧ r.2.mem ((c.tc : Thread Cert.ReferenceFinalIdeal.nD Cert.ReferenceFinalIdeal.τ).loc Cert.ReferenceFinalIdeal.main_arg1) = m' ((c.tc : Thread Cert.ReferenceFinalIdeal.nD Cert.ReferenceFinalIdeal.τ).loc Cert.ReferenceFinalIdeal.main_arg1))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)
      ∧ m' ((c.tc : Thread Cert.ReferenceConvIdeal.nD Cert.ReferenceConvIdeal.τ).loc Cert.ReferenceConvIdeal.main_arg3) = m ((c.tc : Thread Cert.KernelConvIdeal.nD Cert.KernelConvIdeal.τ).loc Cert.KernelConvIdeal.main_arg3)
      ∧ m' ((c.tc : Thread Cert.ReferenceConvIdeal.nD Cert.ReferenceConvIdeal.τ).loc Cert.ReferenceConvIdeal.main_arg4) = m ((c.tc : Thread Cert.KernelConvIdeal.nD Cert.KernelConvIdeal.τ).loc Cert.KernelConvIdeal.main_arg4)) →
    ∃ (v0 : (c : Dev Cert.KernelConvIdeal.nD) → Buf (Elt Ideal) ((c.tc : Thread Cert.KernelConvIdeal.nD Cert.KernelConvIdeal.τ).loc Cert.KernelConvIdeal.main_v4_0)) (v1 : (c : Dev Cert.KernelConvIdeal.nD) → Buf (Elt Ideal) ((c.tc : Thread Cert.KernelConvIdeal.nD Cert.KernelConvIdeal.τ).loc Cert.KernelConvIdeal.main_v4_1)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v4_0) = v0 c
          ∧ r.2.mem ((c.tc : Thread Cert.KernelConvIdeal.nD Cert.KernelConvIdeal.τ).loc Cert.KernelConvIdeal.main_v4_1) = v1 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
          ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3)
          ∧ r.2.mem ((c.tc : Thread Cert.KernelConvIdeal.nD Cert.KernelConvIdeal.τ).loc Cert.KernelConvIdeal.main_arg4) = m ((c.tc : Thread Cert.KernelConvIdeal.nD Cert.KernelConvIdeal.τ).loc Cert.KernelConvIdeal.main_arg4))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v31) = v0 c
          ∧ r.2.mem ((c.tc : Thread Cert.ReferenceConvIdeal.nD Cert.ReferenceConvIdeal.τ).loc Cert.ReferenceConvIdeal.main_v32) = v1 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2)
          ∧ r.2.mem ((c.tc : Thread Cert.ReferenceConvIdeal.nD Cert.ReferenceConvIdeal.τ).loc Cert.ReferenceConvIdeal.main_arg3) = m' ((c.tc : Thread Cert.ReferenceConvIdeal.nD Cert.ReferenceConvIdeal.τ).loc Cert.ReferenceConvIdeal.main_arg3)
          ∧ r.2.mem ((c.tc : Thread Cert.ReferenceConvIdeal.nD Cert.ReferenceConvIdeal.τ).loc Cert.ReferenceConvIdeal.main_arg4) = m' ((c.tc : Thread Cert.ReferenceConvIdeal.nD Cert.ReferenceConvIdeal.τ).loc Cert.ReferenceConvIdeal.main_arg4))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v0)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v0) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v43) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelFinal : Cert.KernelFinal.Facts) (hKernelFinalIdeal : Cert.KernelFinalIdeal.Facts) (hReferenceFinalIdeal : Cert.ReferenceFinalIdeal.Facts) (hKernelConv : Cert.KernelConv.Facts) (hKernelConvIdeal : Cert.KernelConvIdeal.Facts) (hReferenceConvIdeal : Cert.ReferenceConvIdeal.Facts) (hKernelNorm : Cert.KernelNorm.Facts) (hKernelNormIdeal : Cert.KernelNormIdeal.Facts) (hReferenceNormIdeal : Cert.ReferenceNormIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelFinal (hKernelFinal := hKernelFinal)
    ∧ quiescent_KernelFinalIdeal (hKernelFinalIdeal := hKernelFinalIdeal)
    ∧ quiescent_ReferenceFinalIdeal (hReferenceFinalIdeal := hReferenceFinalIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelFinal_KernelFinalIdeal
    ∧ algebraic_KernelFinalIdeal_ReferenceFinalIdeal (hKernelFinalIdeal := hKernelFinalIdeal) (hReferenceFinalIdeal := hReferenceFinalIdeal)
    ∧ preserves_KernelConv_KernelConvIdeal
    ∧ algebraic_KernelConvIdeal_ReferenceConvIdeal (hKernelConvIdeal := hKernelConvIdeal) (hReferenceConvIdeal := hReferenceConvIdeal)
    ∧ preserves_KernelNorm_KernelNormIdeal
    ∧ algebraic_KernelNormIdeal_ReferenceNormIdeal (hKernelNormIdeal := hKernelNormIdeal) (hReferenceNormIdeal := hReferenceNormIdeal)
-- ==== Pre_finite.lean ====
abbrev S8192x6592 : Shape := ⟨2, ![8192, 6592]⟩
abbrev S256x6592 : Shape := ⟨2, ![256, 6592]⟩
abbrev S1x2048 : Shape := ⟨2, ![1, 2048]⟩
abbrev S1x2x2048 : Shape := ⟨3, ![1, 2, 2048]⟩
abbrev S1x2x96x2048 : Shape := ⟨4, ![1, 2, 96, 2048]⟩
abbrev S_ : Shape := ⟨0, ![]⟩

class Facts : Prop where
  bcast_S_S8192x6592 : S_.BroadcastsInDim S8192x6592 (![] : Fin 0 → Fin S8192x6592.rank)
  reducesTo_S8192x6592_S_d0_1 : S8192x6592.ReducesTo [0, 1] S_
  h_S_ : 0 < S_.numel
  bcast_S_S256x6592 : S_.BroadcastsInDim S256x6592 (![] : Fin 0 → Fin S256x6592.rank)
  reducesTo_S256x6592_S_d0_1 : S256x6592.ReducesTo [0, 1] S_
  bcast_S_S1x2048 : S_.BroadcastsInDim S1x2048 (![] : Fin 0 → Fin S1x2048.rank)
  reducesTo_S1x2048_S_d0_1 : S1x2048.ReducesTo [0, 1] S_
  bcast_S_S1x2x2048 : S_.BroadcastsInDim S1x2x2048 (![] : Fin 0 → Fin S1x2x2048.rank)
  reducesTo_S1x2x2048_S_d0_1_2 : S1x2x2048.ReducesTo [0, 1, 2] S_
  bcast_S_S1x2x96x2048 : S_.BroadcastsInDim S1x2x96x2048 (![] : Fin 0 → Fin S1x2x96x2048.rank)
  reducesTo_S1x2x96x2048_S_d0_1_2_3 : S1x2x96x2048.ReducesTo [0, 1, 2, 3] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S1x2x2048 .f32) (main_arg5 : FVec F S1x2x96x2048 .f32) (main_arg6 : FVec F S1x2x2048 .f32) (main_arg7 : FVec F S1x2x96x2048 .f32) (main_v3 : IVec S_ 1) (main_v7 : IVec S_ 1) (main_v11 : IVec S_ 1) (main_v15 : IVec S_ 1) : IVec S_ 1 :=
  let main_v16 : FVec F S1x2x2048 .f32 := Host.absf main_arg4
  let main_cst_6 : FVec F S_ .f32 := constant S_ .f32 0x7F800000#32
  let main_v17 : FVec F S1x2x2048 .f32 := broadcastInDim S1x2x2048 ![] bcast_S_S1x2x2048 main_cst_6
  let main_v18 : IVec S1x2x2048 1 := cmpf .olt main_v16 main_v17
  let main_c_7 : IVec S_ 1 := constantI S_ 1 1#1
  let main_v19 : IVec S_ 1 := (fun x v => Host.reduce IntOp.andi x v reducesTo_S1x2x2048_S_d0_1_2 h_S_) main_v18 main_c_7
  let main_v20 : FVec F S1x2x96x2048 .f32 := Host.absf main_arg5
  let main_cst_8 : FVec F S_ .f32 := constant S_ .f32 0x7F800000#32
  let main_v21 : FVec F S1x2x96x2048 .f32 := broadcastInDim S1x2x96x2048 ![] bcast_S_S1x2x96x2048 main_cst_8
  let main_v22 : IVec S1x2x96x2048 1 := cmpf .olt main_v20 main_v21
  let main_c_9 : IVec S_ 1 := constantI S_ 1 1#1
  let main_v23 : IVec S_ 1 := (fun x v => Host.reduce IntOp.andi x v reducesTo_S1x2x96x2048_S_d0_1_2_3 h_S_) main_v22 main_c_9
  let main_v24 : FVec F S1x2x2048 .f32 := Host.absf main_arg6
  let main_cst_10 : FVec F S_ .f32 := constant S_ .f32 0x7F800000#32
  let main_v25 : FVec F S1x2x2048 .f32 := broadcastInDim S1x2x2048 ![] bcast_S_S1x2x2048 main_cst_10
  let main_v26 : IVec S1x2x2048 1 := cmpf .olt main_v24 main_v25
  let main_c_11 : IVec S_ 1 := constantI S_ 1 1#1
  let main_v27 : IVec S_ 1 := (fun x v => Host.reduce IntOp.andi x v reducesTo_S1x2x2048_S_d0_1_2 h_S_) main_v26 main_c_11
  let main_v28 : FVec F S1x2x96x2048 .f32 := Host.absf main_arg7
  let main_cst_12 : FVec F S_ .f32 := constant S_ .f32 0x7F800000#32
  let main_v29 : FVec F S1x2x96x2048 .f32 := broadcastInDim S1x2x96x2048 ![] bcast_S_S1x2x96x2048 main_cst_12
  let main_v30 : IVec S1x2x96x2048 1 := cmpf .olt main_v28 main_v29
  let main_c_13 : IVec S_ 1 := constantI S_ 1 1#1
  let main_v31 : IVec S_ 1 := (fun x v => Host.reduce IntOp.andi x v reducesTo_S1x2x96x2048_S_d0_1_2_3 h_S_) main_v30 main_c_13
  fn_part2 (F := F) main_v3 main_v7 main_v11 main_v15 main_v19 main_v23 main_v27 main_v31

def fn {F : FTy → Type} [FloatOps F] (main_arg0 : FVec F S8192x6592 .f32) (main_arg1 : FVec F S256x6592 .f32) (main_arg2 : FVec F S1x2048 .f32) (main_arg3 : FVec F S1x2048 .f32) (main_arg4 : FVec F S1x2x2048 .f32) (main_arg5 : FVec F S1x2x96x2048 .f32) (main_arg6 : FVec F S1x2x2048 .f32) (main_arg7 : FVec F S1x2x96x2048 .f32) : IVec S_ 1 :=
  let main_v0 : FVec F S8192x6592 .f32 := Host.absf main_arg0
  let main_cst : FVec F S_ .f32 := constant S_ .f32 0x7F800000#32
  let main_v1 : FVec F S8192x6592 .f32 := broadcastInDim S8192x6592 ![] bcast_S_S8192x6592 main_cst
  let main_v2 : IVec S8192x6592 1 := cmpf .olt main_v0 main_v1
  let main_c : IVec S_ 1 := constantI S_ 1 1#1
  let main_v3 : IVec S_ 1 := (fun x v => Host.reduce IntOp.andi x v reducesTo_S8192x6592_S_d0_1 h_S_) main_v2 main_c
  let main_v4 : FVec F S256x6592 .f32 := Host.absf main_arg1
  let main_cst_0 : FVec F S_ .f32 := constant S_ .f32 0x7F800000#32
  let main_v5 : FVec F S256x6592 .f32 := broadcastInDim S256x6592 ![] bcast_S_S256x6592 main_cst_0
  let main_v6 : IVec S256x6592 1 := cmpf .olt main_v4 main_v5
  let main_c_1 : IVec S_ 1 := constantI S_ 1 1#1
  let main_v7 : IVec S_ 1 := (fun x v => Host.reduce IntOp.andi x v reducesTo_S256x6592_S_d0_1 h_S_) main_v6 main_c_1
  let main_v8 : FVec F S1x2048 .f32 := Host.absf main_arg2
  let main_cst_2 : FVec F S_ .f32 := constant S_ .f32 0x7F800000#32
  let main_v9 : FVec F S1x2048 .f32 := broadcastInDim S1x2048 ![] bcast_S_S1x2048 main_cst_2
  let main_v10 : IVec S1x2048 1 := cmpf .olt main_v8 main_v9
  let main_c_3 : IVec S_ 1 := constantI S_ 1 1#1
  let main_v11 : IVec S_ 1 := (fun x v => Host.reduce IntOp.andi x v reducesTo_S1x2048_S_d0_1 h_S_) main_v10 main_c_3
  let main_v12 : FVec F S1x2048 .f32 := Host.absf main_arg3
  let main_cst_4 : FVec F S_ .f32 := constant S_ .f32 0x7F800000#32
  let main_v13 : FVec F S1x2048 .f32 := broadcastInDim S1x2048 ![] bcast_S_S1x2048 main_cst_4
  let main_v14 : IVec S1x2048 1 := cmpf .olt main_v12 main_v13
  let main_c_5 : IVec S_ 1 := constantI S_ 1 1#1
  let main_v15 : IVec S_ 1 := (fun x v => Host.reduce IntOp.andi x v reducesTo_S1x2048_S_d0_1 h_S_) main_v14 main_c_5
  fn_part1 (F := F) main_arg4 main_arg5 main_arg6 main_arg7 main_v3 main_v7 main_v11 main_v15
-- ==== Kernel.lean ====
abbrev S8192x6592 : Shape := ⟨2, ![8192, 6592]⟩
abbrev S256x6592 : Shape := ⟨2, ![256, 6592]⟩
abbrev S1x2048 : Shape := ⟨2, ![1, 2048]⟩
abbrev S1x2x2048 : Shape := ⟨3, ![1, 2, 2048]⟩
abbrev S1x2x96x2048 : Shape := ⟨4, ![1, 2, 96, 2048]⟩
abbrev S8448x6592 : Shape := ⟨2, ![8448, 6592]⟩
abbrev S8448x4096 : Shape := ⟨2, ![8448, 4096]⟩
abbrev S8448x2048 : Shape := ⟨2, ![8448, 2048]⟩
abbrev S8448x256 : Shape := ⟨2, ![8448, 256]⟩
abbrev S8448x6656 : Shape := ⟨2, ![8448, 6656]⟩
abbrev S_ : Shape := ⟨0, ![]⟩
abbrev S128x2048 : Shape := ⟨2, ![128, 2048]⟩
abbrev S1x1x96x2048 : Shape := ⟨4, ![1, 1, 96, 2048]⟩
abbrev S96x2048 : Shape := ⟨2, ![96, 2048]⟩
abbrev S1 : Shape := ⟨1, ![1]⟩
abbrev S1x1x2048 : Shape := ⟨3, ![1, 1, 2048]⟩
abbrev S256x2048 : Shape := ⟨2, ![256, 2048]⟩
abbrev S256x256 : Shape := ⟨2, ![256, 256]⟩
abbrev S16x128x128 : Shape := ⟨3, ![16, 128, 128]⟩
abbrev S256x128 : Shape := ⟨2, ![256, 128]⟩
abbrev S1x1 : Shape := ⟨2, ![1, 1]⟩
abbrev S2048x256 : Shape := ⟨2, ![2048, 256]⟩
abbrev S64x2048 : Shape := ⟨2, ![64, 2048]⟩
abbrev S64x128 : Shape := ⟨2, ![64, 128]⟩
abbrev S1x64x128 : Shape := ⟨3, ![1, 64, 128]⟩
abbrev S16x64x128 : Shape := ⟨3, ![16, 64, 128]⟩
abbrev S16x1x128 : Shape := ⟨3, ![16, 1, 128]⟩
abbrev S128x128 : Shape := ⟨2, ![128, 128]⟩
abbrev S16x256x128 : Shape := ⟨3, ![16, 256, 128]⟩
abbrev S16x128x256 : Shape := ⟨3, ![16, 128, 256]⟩
abbrev S16x64x256 : Shape := ⟨3, ![16, 64, 256]⟩
abbrev S1x128x128 : Shape := ⟨3, ![1, 128, 128]⟩

abbrev nBuf : Space → Nat
  | .hbm => 35
  | .vmem => 17
  | .smem => 0
  | _ => 0

abbrev bufTy : (tb : Table) → Fin (tcTables nBuf tb) → BufTy
  | .hbm, ⟨0, _⟩ => ⟨S8192x6592, .f32⟩
  | .hbm, ⟨1, _⟩ => ⟨S256x6592, .f32⟩
  | .hbm, ⟨2, _⟩ => ⟨S1x2048, .f32⟩
  | .hbm, ⟨3, _⟩ => ⟨S1x2048, .f32⟩
  | .hbm, ⟨4, _⟩ => ⟨S1x2x2048, .f32⟩
  | .hbm, ⟨5, _⟩ => ⟨S1x2x96x2048, .f32⟩
  | .hbm, ⟨6, _⟩ => ⟨S1x2x2048, .f32⟩
  | .hbm, ⟨7, _⟩ => ⟨S1x2x96x2048, .f32⟩
  | .hbm, ⟨8, _⟩ => ⟨S8448x6592, .f32⟩
  | .hbm, ⟨9, _⟩ => ⟨S8448x4096, .f32⟩
  | .hbm, ⟨10, _⟩ => ⟨S8448x2048, .f32⟩
  | .hbm, ⟨11, _⟩ => ⟨S8448x256, .f32⟩
  | .hbm, ⟨12, _⟩ => ⟨S8448x256, .f32⟩
  | .hbm, ⟨13, _⟩ => ⟨S8448x6656, .f32⟩
  | .hbm, ⟨14, _⟩ => ⟨S_, .bf16⟩
  | .hbm, ⟨15, _⟩ => ⟨S128x2048, .bf16⟩
  | .hbm, ⟨16, _⟩ => ⟨S1x1x96x2048, .f32⟩
  | .hbm, ⟨17, _⟩ => ⟨S96x2048, .f32⟩
  | .hbm, ⟨18, _⟩ => ⟨S96x2048, .bf16⟩
  | .hbm, ⟨19, _⟩ => ⟨S_, .i32⟩
  | .hbm, ⟨20, _⟩ => ⟨S1, .i32⟩
  | .hbm, ⟨21, _⟩ => ⟨S128x2048, .bf16⟩
  | .hbm, ⟨22, _⟩ => ⟨S_, .bf16⟩
  | .hbm, ⟨23, _⟩ => ⟨S128x2048, .bf16⟩
  | .hbm, ⟨24, _⟩ => ⟨S1x1x96x2048, .f32⟩
  | .hbm, ⟨25, _⟩ => ⟨S96x2048, .f32⟩
  | .hbm, ⟨26, _⟩ => ⟨S96x2048, .bf16⟩
  | .hbm, ⟨27, _⟩ => ⟨S_, .i32⟩
  | .hbm, ⟨28, _⟩ => ⟨S1, .i32⟩
  | .hbm, ⟨29, _⟩ => ⟨S128x2048, .bf16⟩
  | .hbm, ⟨30, _⟩ => ⟨S1x1x2048, .f32⟩
  | .hbm, ⟨31, _⟩ => ⟨S1x2048, .f32⟩
  | .hbm, ⟨32, _⟩ => ⟨S1x1x2048, .f32⟩
  | .hbm, ⟨33, _⟩ => ⟨S1x2048, .f32⟩
  | .hbm, ⟨34, _⟩ => ⟨S8448x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x256, .f32⟩
  | .local _ .vmem, ⟨7, _⟩ => ⟨S256x256, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S128x2048, .bf16⟩
  | .local _ .vmem, ⟨13, _⟩ => ⟨S128x2048, .bf16⟩
  | .local _ .vmem, ⟨14, _⟩ => ⟨S256x2048, .f32⟩
  | .local _ .vmem, ⟨15, _⟩ => ⟨S256x2048, .f32⟩
  | .local _ .vmem, ⟨16, _⟩ => ⟨S16x128x128, .f32⟩
  | _, _ => ⟨S8192x6592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c1_i32 : BitVec 32 := 1#32
  let v0 : BitVec 1 := Scalar.cmpi .slt arg0 c1_i32
  let c32_i32 : BitVec 32 := 32#32
  let v1 : BitVec 32 := Scalar.addi c32_i32 arg0
  let c1_i32_0 : BitVec 32 := 1#32
  let v2 : BitVec 32 := Scalar.subi arg0 c1_i32_0
  let v3 : BitVec 32 := Scalar.select v0 v1 v2
  let c0_i32 : BitVec 32 := 0#32
  let c0_i32_1 : BitVec 32 := 0#32
  ![v3.toNat, c0_i32.toNat]

def cc0_transform_1 (i : grid0.Coords) : Fin 2 → Nat :=
  let arg0 : BitVec 32 := BitVec.ofNat 32 (i 0).val
  let c1_i32 : BitVec 32 := 1#32
  let v0 : BitVec 1 := Scalar.cmpi .slt arg0 c1_i32
  let c32_i32 : BitVec 32 := 32#32
  let v1 : BitVec 32 := Scalar.addi c32_i32 arg0
  let c1_i32_0 : BitVec 32 := 1#32
  let v2 : BitVec 32 := Scalar.subi arg0 c1_i32_0
  let v3 : BitVec 32 := Scalar.select v0 v1 v2
  let c1_i32_1 : BitVec 32 := 1#32
  let c0_i32 : BitVec 32 := 0#32
  ![v3.toNat, c1_i32_1.toNat]

def cc0_transform_2 (i : grid0.Coords) : Fin 2 → Nat :=
  let arg0 : BitVec 32 := BitVec.ofNat 32 (i 0).val
  let c1_i32 : BitVec 32 := 1#32
  let v0 : BitVec 1 := Scalar.cmpi .slt arg0 c1_i32
  let c32_i32 : BitVec 32 := 32#32
  let v1 : BitVec 32 := Scalar.addi c32_i32 arg0
  let c1_i32_0 : BitVec 32 := 1#32
  let v2 : BitVec 32 := Scalar.subi arg0 c1_i32_0
  let v3 : BitVec 32 := Scalar.select v0 v1 v2
  let c2_i32 : BitVec 32 := 2#32
  let c0_i32 : BitVec 32 := 0#32
  ![v3.toNat, c2_i32.toNat]

def cc0_transform_3 (i : grid0.Coords) : Fin 2 → Nat :=
  let arg0 : BitVec 32 := BitVec.ofNat 32 (i 0).val
  let c1_i32 : BitVec 32 := 1#32
  let v0 : BitVec 1 := Scalar.cmpi .slt arg0 c1_i32
  let c32_i32 : BitVec 32 := 32#32
  let v1 : BitVec 32 := Scalar.addi c32_i32 arg0
  let c1_i32_0 : BitVec 32 := 1#32
  let v2 : BitVec 32 := Scalar.subi arg0 c1_i32_0
  let v3 : BitVec 32 := Scalar.select v0 v1 v2
  let c24_i32 : BitVec 32 := 24#32
  let c0_i32 : BitVec 32 := 0#32
  ![v3.toNat, c24_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 1 := Scalar.cmpi .slt arg0 c1_i32
  let c32_i32 : BitVec 32 := 32#32
  let v1 : BitVec 32 := Scalar.addi c32_i32 arg0
  let c1_i32_0 : BitVec 32 := 1#32
  let v2 : BitVec 32 := Scalar.subi arg0 c1_i32_0
  let v3 : BitVec 32 := Scalar.select v0 v1 v2
  let c0_i32 : BitVec 32 := 0#32
  let c0_i32_1 : BitVec 32 := 0#32
  ![v3.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8192x6592 : Shape := ⟨2, ![8192, 6592]⟩
abbrev S256x6592 : Shape := ⟨2, ![256, 6592]⟩
abbrev S1x2048 : Shape := ⟨2, ![1, 2048]⟩
abbrev S1x2x2048 : Shape := ⟨3, ![1, 2, 2048]⟩
abbrev S1x2x96x2048 : Shape := ⟨4, ![1, 2, 96, 2048]⟩
abbrev S8448x6592 : Shape := ⟨2, ![8448, 6592]⟩
abbrev S2048 : Shape := ⟨1, ![2048]⟩
abbrev S2x2048 : Shape := ⟨2, ![2, 2048]⟩
abbrev S2x96x2048 : Shape := ⟨3, ![2, 96, 2048]⟩
abbrev S8448x2048 : Shape := ⟨2, ![8448, 2048]⟩
abbrev S8448x32x64 : Shape := ⟨3, ![8448, 32, 64]⟩
abbrev S8448x96 : Shape := ⟨2, ![8448, 96]⟩
abbrev S_ : Shape := ⟨0, ![]⟩
abbrev S8448x32 : Shape := ⟨2, ![8448, 32]⟩
abbrev S8448x32x1 : Shape := ⟨3, ![8448, 32, 1]⟩
abbrev S1x96x2048 : Shape := ⟨3, ![1, 96, 2048]⟩
abbrev S96x2048 : Shape := ⟨2, ![96, 2048]⟩
abbrev S32x64x64 : Shape := ⟨3, ![32, 64, 64]⟩
abbrev S1x32x64 : Shape := ⟨3, ![1, 32, 64]⟩
abbrev S32x64 : Shape := ⟨2, ![32, 64]⟩
abbrev S32x1x64 : Shape := ⟨3, ![32, 1, 64]⟩
abbrev S32x64x1 : Shape := ⟨3, ![32, 64, 1]⟩
abbrev S8192x2048 : Shape := ⟨2, ![8192, 2048]⟩
abbrev S256x2048 : Shape := ⟨2, ![256, 2048]⟩

abbrev nBuf : Space → Nat
  | .hbm => 165
  | .vmem => 0
  | .smem => 0
  | _ => 0

abbrev hbmTy0_0 (i : Nat) : BufTy := match i % 128 with
  | 0 => ⟨S8192x6592, .f32⟩
  | 1 => ⟨S256x6592, .f32⟩
  | 2 => ⟨S1x2048, .f32⟩
  | 3 => ⟨S1x2048, .f32⟩
  | 4 => ⟨S1x2x2048, .f32⟩
  | 5 => ⟨S1x2x96x2048, .f32⟩
  | 6 => ⟨S1x2x2048, .f32⟩
  | 7 => ⟨S1x2x96x2048, .f32⟩
  | 8 => ⟨S8448x6592, .f32⟩
  | 9 => ⟨S2048, .f32⟩
  | 10 => ⟨S2048, .f32⟩
  | 11 => ⟨S2x2048, .f32⟩
  | 12 => ⟨S2x96x2048, .f32⟩
  | 13 => ⟨S2x2048, .f32⟩
  | 14 => ⟨S2x96x2048, .f32⟩
  | 15 => ⟨S8448x2048, .f32⟩
  | 16 => ⟨S8448x2048, .f32⟩
  | 17 => ⟨S8448x32x64, .f32⟩
  | 18 => ⟨S8448x96, .f32⟩
  | 19 => ⟨S8448x96, .f32⟩
  | 20 => ⟨S8448x96, .f32⟩
  | 21 => ⟨S1x2048, .f32⟩
  | 22 => ⟨S8448x2048, .f32⟩
  | 23 => ⟨S8448x2048, .f32⟩
  | 24 => ⟨S8448x32x64, .f32⟩
  | 25 => ⟨S8448x32x64, .f32⟩
  | 26 => ⟨S_, .f32⟩
  | 27 => ⟨S8448x32, .f32⟩
  | 28 => ⟨S8448x32x1, .f32⟩
  | 29 => ⟨S8448x32x1, .f32⟩
  | 30 => ⟨S_, .f32⟩
  | 31 => ⟨S8448x32x1, .f32⟩
  | 32 => ⟨S8448x32x1, .f32⟩
  | 33 => ⟨S8448x32x64, .f32⟩
  | 34 => ⟨S8448x32x64, .f32⟩
  | 35 => ⟨S1x2048, .f32⟩
  | 36 => ⟨S2048, .f32⟩
  | 37 => ⟨S1x96x2048, .f32⟩
  | 38 => ⟨S96x2048, .f32⟩
  | 39 => ⟨S8448x2048, .f32⟩
  | 40 => ⟨S1x2048, .f32⟩
  | 41 => ⟨S8448x2048, .f32⟩
  | 42 => ⟨S8448x2048, .f32⟩
  | 43 => ⟨S8448x2048, .f32⟩
  | 44 => ⟨S_, .f32⟩
  | 45 => ⟨S8448x2048, .f32⟩
  | 46 => ⟨S8448x2048, .f32⟩
  | 47 => ⟨S8448x2048, .f32⟩
  | 48 => ⟨S8448x2048, .f32⟩
  | 49 => ⟨S8448x2048, .i1⟩
  | 50 => ⟨S8448x2048, .f32⟩
  | 51 => ⟨S8448x2048, .f32⟩
  | 52 => ⟨S8448x2048, .f32⟩
  | 53 => ⟨S8448x2048, .f32⟩
  | 54 => ⟨S8448x2048, .f32⟩
  | 55 => ⟨S8448x2048, .f32⟩
  | 56 => ⟨S8448x2048, .f32⟩
  | 57 => ⟨S8448x2048, .f32⟩
  | 58 => ⟨S8448x2048, .f32⟩
  | 59 => ⟨S_, .f32⟩
  | 60 => ⟨S8448x2048, .f32⟩
  | 61 => ⟨S8448x2048, .f32⟩
  | 62 => ⟨S8448x2048, .f32⟩
  | 63 => ⟨S8448x2048, .f32⟩
  | 64 => ⟨S8448x2048, .f32⟩
  | 65 => ⟨S1x2048, .f32⟩
  | 66 => ⟨S2048, .f32⟩
  | 67 => ⟨S1x96x2048, .f32⟩
  | 68 => ⟨S96x2048, .f32⟩
  | 69 => ⟨S8448x2048, .f32⟩
  | 70 => ⟨S1x2048, .f32⟩
  | 71 => ⟨S8448x2048, .f32⟩
  | 72 => ⟨S8448x2048, .f32⟩
  | 73 => ⟨S8448x2048, .f32⟩
  | 74 => ⟨S8448x2048, .f32⟩
  | 75 => ⟨S_, .f32⟩
  | 76 => ⟨S8448x2048, .f32⟩
  | 77 => ⟨S8448x2048, .f32⟩
  | 78 => ⟨S_, .f32⟩
  | 79 => ⟨S8448x2048, .f32⟩
  | 80 => ⟨S8448x2048, .f32⟩
  | 81 => ⟨S_, .f32⟩
  | 82 => ⟨S8448x2048, .f32⟩
  | 83 => ⟨S8448x2048, .f32⟩
  | 84 => ⟨S1x2048, .f32⟩
  | 85 => ⟨S8448x2048, .f32⟩
  | 86 => ⟨S8448x2048, .f32⟩
  | 87 => ⟨S_, .f32⟩
  | 88 => ⟨S8448x2048, .f32⟩
  | 89 => ⟨S8448x2048, .f32⟩
  | 90 => ⟨S8448x2048, .f32⟩
  | 91 => ⟨S8448x32x64, .f32⟩
  | 92 => ⟨S8448x32x64, .f32⟩
  | 93 => ⟨S8448x32x64, .f32⟩
  | 94 => ⟨S8448x2048, .f32⟩
  | 95 => ⟨S8448x32x64, .f32⟩
  | 96 => ⟨S_, .f32⟩
  | 97 => ⟨S32x64x64, .f32⟩
  | 98 => ⟨S8448x32x64, .f32⟩
  | 99 => ⟨S8448x32x64, .f32⟩
  | 100 => ⟨S_, .f32⟩
  | 101 => ⟨S8448x32x64, .f32⟩
  | 102 => ⟨S_, .i32⟩
  | 103 => ⟨S8448x32x64, .f32⟩
  | 104 => ⟨S8448x32x64, .f32⟩
  | 105 => ⟨S8448x32x64, .f32⟩
  | 106 => ⟨S8448x32x64, .f32⟩
  | 107 => ⟨S8448x32x64, .f32⟩
  | 108 => ⟨S8448x32x64, .f32⟩
  | 109 => ⟨S_, .i32⟩
  | 110 => ⟨S32x64x64, .f32⟩
  | 111 => ⟨S8448x32x64, .f32⟩
  | 112 => ⟨S_, .i32⟩
  | 113 => ⟨S_, .i1⟩
  | 114 => ⟨S_, .i32⟩
  | 115 => ⟨S_, .i32⟩
  | 116 => ⟨S1x32x64, .f32⟩
  | 117 => ⟨S32x64, .f32⟩
  | 118 => ⟨S_, .i32⟩
  | 119 => ⟨S_, .i32⟩
  | 120 => ⟨S1x32x64, .f32⟩
  | 121 => ⟨S32x64, .f32⟩
  | 122 => ⟨S_, .i32⟩
  | 123 => ⟨S_, .i32⟩
  | 124 => ⟨S1x32x64, .f32⟩
  | 125 => ⟨S32x64, .f32⟩
  | 126 => ⟨S_, .i32⟩
  | 127 => ⟨S_, .i32⟩
  | _ => ⟨S8192x6592, .f32⟩

abbrev hbmTy0_1 (i : Nat) : BufTy := match i % 128 with
  | 0 => ⟨S1x32x64, .f32⟩
  | 1 => ⟨S32x64, .f32⟩
  | 2 => ⟨S_, .i32⟩
  | 3 => ⟨S_, .i32⟩
  | 4 => ⟨S1x32x64, .f32⟩
  | 5 => ⟨S32x64, .f32⟩
  | 6 => ⟨S_, .i32⟩
  | 7 => ⟨S_, .i32⟩
  | 8 => ⟨S1x32x64, .f32⟩
  | 9 => ⟨S32x64, .f32⟩
  | 10 => ⟨S32x64, .f32⟩
  | 11 => ⟨S32x1x64, .f32⟩
  | 12 => ⟨S32x64x64, .f32⟩
  | 13 => ⟨S32x64x64, .f32⟩
  | 14 => ⟨S32x64x1, .f32⟩
  | 15 => ⟨S32x1x64, .f32⟩
  | 16 => ⟨S32x64x64, .f32⟩
  | 17 => ⟨S32x64x64, .f32⟩
  | 18 => ⟨S32x64x64, .f32⟩
  | 19 => ⟨S32x64x64, .f32⟩
  | 20 => ⟨S32x64x1, .f32⟩
  | 21 => ⟨S32x1x64, .f32⟩
  | 22 => ⟨S32x64x64, .f32⟩
  | 23 => ⟨S32x64x64, .f32⟩
  | 24 => ⟨S32x64x64, .f32⟩
  | 25 => ⟨S32x64x64, .f32⟩
  | 26 => ⟨S32x64, .f32⟩
  | 27 => ⟨S1x32x64, .f32⟩
  | 28 => ⟨S_, .i32⟩
  | 29 => ⟨S_, .i32⟩
  | 30 => ⟨S8448x32x64, .f32⟩
  | 31 => ⟨S_, .i32⟩
  | 32 => ⟨S_, .i32⟩
  | 33 => ⟨S8448x2048, .f32⟩
  | 34 => ⟨S8192x2048, .f32⟩
  | 35 => ⟨S256x2048, .f32⟩
  | 36 => ⟨S8448x2048, .f32⟩
  | _ => ⟨S8192x6592, .f32⟩

abbrev hbmTy (i : Nat) : BufTy := match i / 128 with
  | 0 => hbmTy0_0 i
  | 1 => hbmTy0_1 i
  | _ => ⟨S8192x6592, .f32⟩

abbrev bufTy : (tb : Table) → Fin (tcTables nBuf tb) → BufTy
  | .hbm, ⟨i, _⟩ => hbmTy i
  | _, _ => ⟨S8192x6592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_v34 : Ref sig .tc := ⟨.hbm, 57, rfl⟩
abbrev main_v35 : Ref sig .tc := ⟨.hbm, 58, rfl⟩
abbrev main_cst_1 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_2 : Ref sig .tc := ⟨.hbm, 75, rfl⟩
abbrev main_v51 : Ref sig .tc := ⟨.hbm, 76, rfl⟩
abbrev main_v52 : Ref sig .tc := ⟨.hbm, 77, rfl⟩
abbrev main_cst_3 : Ref sig .tc := ⟨.hbm, 78, rfl⟩
abbrev main_v53 : Ref sig .tc := ⟨.hbm, 79, rfl⟩
abbrev main_v54 : Ref sig .tc := ⟨.hbm, 80, rfl⟩
abbrev main_cst_4 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_5 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_6 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_7 : Ref sig .tc := ⟨.hbm, 100, rfl⟩
abbrev main_v71 : Ref sig .tc := ⟨.hbm, 101, rfl⟩
abbrev main_c : Ref sig .tc := ⟨.hbm, 102, rfl⟩
abbrev main_v72_0 : Ref sig .tc := ⟨.hbm, 103, rfl⟩
abbrev main_v72_1 : Ref sig .tc := ⟨.hbm, 104, rfl⟩
abbrev main_v72_2 : Ref sig .tc := ⟨.hbm, 105, rfl⟩
abbrev main_v72_3 : Ref sig .tc := ⟨.hbm, 106, rfl⟩
abbrev main_v72_4 : Ref sig .tc := ⟨.hbm, 107, rfl⟩
abbrev main_v72_5 : Ref sig .tc := ⟨.hbm, 108, rfl⟩
abbrev main_v72_6 : Ref sig .tc := ⟨.hbm, 109, rfl⟩
abbrev main_v72_7 : Ref sig .tc := ⟨.hbm, 110, rfl⟩
abbrev main_v72_8 : Ref sig .tc := ⟨.hbm, 111, rfl⟩
abbrev main_while0c_c_16 : Ref sig .tc := ⟨.hbm, 112, rfl⟩
abbrev main_while0c_v77 : Ref sig .tc := ⟨.hbm, 113, rfl⟩
abbrev main_while0b_call1_c : Ref sig .tc := ⟨.hbm, 114, rfl⟩
abbrev main_while0b_call1_c_0 : Ref sig .tc := ⟨.hbm, 115, rfl⟩
abbrev main_while0b_call1_v0 : Ref sig .tc := ⟨.hbm, 116, rfl⟩
abbrev main_while0b_v77 : Ref sig .tc := ⟨.hbm, 117, rfl⟩
abbrev main_while0b_call2_c : Ref sig .tc := ⟨.hbm, 118, rfl⟩
abbrev main_while0b_call2_c_0 : Ref sig .tc := ⟨.hbm, 119, rfl⟩
abbrev main_while0b_call2_v0 : Ref sig .tc := ⟨.hbm, 120, rfl⟩
abbrev main_while0b_v78 : Ref sig .tc := ⟨.hbm, 121, rfl⟩
abbrev main_while0b_call3_c : Ref sig .tc := ⟨.hbm, 122, rfl⟩
abbrev main_while0b_call3_c_0 : Ref sig .tc := ⟨.hbm, 123, rfl⟩
abbrev main_while0b_call3_v0 : Ref sig .tc := ⟨.hbm, 124, rfl⟩
abbrev main_while0b_v79 : Ref sig .tc := ⟨.hbm, 125, rfl⟩
abbrev main_while0b_call4_c : Ref sig .tc := ⟨.hbm, 126, rfl⟩
abbrev main_while0b_call4_c_0 : Ref sig .tc := ⟨.hbm, 127, rfl⟩
abbrev main_while0b_call4_v0 : Ref sig .tc := ⟨.hbm, 128, rfl⟩
abbrev main_while0b_v80 : Ref sig .tc := ⟨.hbm, 129, rfl⟩
abbrev main_while0b_call5_c : Ref sig .tc := ⟨.hbm, 130, rfl⟩
abbrev main_while0b_call5_c_0 : Ref sig .tc := ⟨.hbm, 131, rfl⟩
abbrev main_while0b_call5_v0 : Ref sig .tc := ⟨.hbm, 132, rfl⟩
abbrev main_while0b_v81 : Ref sig .tc := ⟨.hbm, 133, rfl⟩
abbrev main_while0b_call6_c : Ref sig .tc := ⟨.hbm, 134, rfl⟩
abbrev main_while0b_call6_c_0 : Ref sig .tc := ⟨.hbm, 135, rfl⟩
abbrev main_while0b_call6_v0 : Ref sig .tc := ⟨.hbm, 136, rfl⟩
abbrev main_while0b_v82 : Ref sig .tc := ⟨.hbm, 137, rfl⟩
abbrev main_while0b_v83 : Ref sig .tc := ⟨.hbm, 138, rfl⟩
abbrev main_while0b_v84 : Ref sig .tc := ⟨.hbm, 139, rfl⟩
abbrev main_while0b_v85 : Ref sig .tc := ⟨.hbm, 140, rfl⟩
abbrev main_while0b_v86 : Ref sig .tc := ⟨.hbm, 141, rfl⟩
abbrev main_while0b_v87 : Ref sig .tc := ⟨.hbm, 142, rfl⟩
abbrev main_while0b_v88 : Ref sig .tc := ⟨.hbm, 143, rfl⟩
abbrev main_while0b_v89 : Ref sig .tc := ⟨.hbm, 144, rfl⟩
abbrev main_while0b_v90 : Ref sig .tc := ⟨.hbm, 145, rfl⟩
abbrev main_while0b_v91 : Ref sig .tc := ⟨.hbm, 146, rfl⟩
abbrev main_while0b_v92 : Ref sig .tc := ⟨.hbm, 147, rfl⟩
abbrev main_while0b_v93 : Ref sig .tc := ⟨.hbm, 148, rfl⟩
abbrev main_while0b_v94 : Ref sig .tc := ⟨.hbm, 149, rfl⟩
abbrev main_while0b_v95 : Ref sig .tc := ⟨.hbm, 150, rfl⟩
abbrev main_while0b_v96 : Ref sig .tc := ⟨.hbm, 151, rfl⟩
abbrev main_while0b_v97 : Ref sig .tc := ⟨.hbm, 152, rfl⟩
abbrev main_while0b_v98 : Ref sig .tc := ⟨.hbm, 153, rfl⟩
abbrev main_while0b_v99 : Ref sig .tc := ⟨.hbm, 154, rfl⟩
abbrev main_while0b_call7_v0 : Ref sig .tc := ⟨.hbm, 155, rfl⟩
abbrev main_while0b_call7_c : Ref sig .tc := ⟨.hbm, 156, rfl⟩
abbrev main_while0b_call7_c_0 : Ref sig .tc := ⟨.hbm, 157, rfl⟩
abbrev main_while0b_v100 : Ref sig .tc := ⟨.hbm, 158, rfl⟩
abbrev main_while0b_c_16 : Ref sig .tc := ⟨.hbm, 159, rfl⟩
abbrev main_while0b_v101 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩

abbrev nD : Nat := 1
abbrev τ : Topo := Topo.v7x

variable {F : FTy → Type} [FloatOps F]

abbrev main_while0_count : Scf.Loop 32 := ⟨0#32, 8448#32, 1#32⟩
-- ==== KernelUp.lean ====
abbrev S8192x4096 : Shape := ⟨2, ![8192, 4096]⟩
abbrev S4096x11008 : Shape := ⟨2, ![4096, 11008]⟩
abbrev S11008x4096 : Shape := ⟨2, ![11008, 4096]⟩
abbrev S8192x11008 : Shape := ⟨2, ![8192, 11008]⟩
abbrev S2048x4096 : Shape := ⟨2, ![2048, 4096]⟩
abbrev S4096x256 : Shape := ⟨2, ![4096, 256]⟩
abbrev S64x4096 : Shape := ⟨2, ![64, 4096]⟩
abbrev S2048x256 : Shape := ⟨2, ![2048, 256]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S8192x4096, .bf16⟩
  | .hbm, ⟨5, _⟩ => ⟨S8192x11008, .bf16⟩
  | .hbm, ⟨6, _⟩ => ⟨S11008x4096, .bf16⟩
  | .local _ .vmem, ⟨0, _⟩ => ⟨S2048x4096, .bf16⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S64x4096, .f32⟩
  | .local _ .vmem, ⟨6, _⟩ => ⟨S64x4096, .f32⟩
  | .local _ .vmem, ⟨7, _⟩ => ⟨S2048x256, .bf16⟩
  | .local _ .vmem, ⟨8, _⟩ => ⟨S2048x256, .bf16⟩
  | .local _ .vmem, ⟨9, _⟩ => ⟨S64x4096, .bf16⟩
  | .local _ .vmem, ⟨10, _⟩ => ⟨S64x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceUpIdeal.lean ====
abbrev S8192x4096 : Shape := ⟨2, ![8192, 4096]⟩
abbrev S4096x11008 : Shape := ⟨2, ![4096, 11008]⟩
abbrev S11008x4096 : Shape := ⟨2, ![11008, 4096]⟩
abbrev S8192x11008 : Shape := ⟨2, ![8192, 11008]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S8192x11008, .f32⟩
  | .hbm, ⟨5, _⟩ => ⟨S8192x11008, .f32⟩
  | .hbm, ⟨6, _⟩ => ⟨S8192x11008, .f32⟩
  | .hbm, ⟨7, _⟩ => ⟨S_, .f32⟩
  | .hbm, ⟨8, _⟩ => ⟨S8192x11008, .f32⟩
  | .hbm, ⟨9, _⟩ => ⟨S8192x11008, .f32⟩
  | .hbm, ⟨10, _⟩ => ⟨S_, .f32⟩
  | .hbm, ⟨11, _⟩ => ⟨S8192x11008, .f32⟩
  | .hbm, ⟨12, _⟩ => ⟨S8192x11008, .f32⟩
  | .hbm, ⟨13, _⟩ => ⟨S8192x11008, .f32⟩
  | .hbm, ⟨14, _⟩ => ⟨S8192x11008, .f32⟩
  | .hbm, ⟨15, _⟩ => ⟨S8192x11008, .f32⟩
  | .hbm, ⟨16, _⟩ => ⟨S8192x11008, .bf16⟩
  | .hbm, ⟨17, _⟩ => ⟨S11008x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== KernelDown.lean ====
abbrev S8192x11008 : Shape := ⟨2, ![8192, 11008]⟩
abbrev S11008x4096 : Shape := ⟨2, ![11008, 4096]⟩
abbrev S8192x4096 : Shape := ⟨2, ![8192, 4096]⟩
abbrev S1x4096 : Shape := ⟨2, ![1, 4096]⟩
abbrev S_ : Shape := ⟨0, ![]⟩
abbrev S8x16384 : Shape := ⟨2, ![8, 16384]⟩
abbrev S512x11008 : Shape := ⟨2, ![512, 11008]⟩
abbrev S11008x512 : Shape := ⟨2, ![11008, 512]⟩
abbrev S512x512 : Shape := ⟨2, ![512, 512]⟩
abbrev S8x512 : Shape := ⟨2, ![8, 512]⟩
abbrev S1x512 : Shape := ⟨2, ![1, 512]⟩

abbrev nBuf : Space → Nat
  | .hbm => 10
  | .vmem => 10
  | .smem => 0
  | _ => 0

abbrev bufTy : (tb : Table) → Fin (tcTables nBuf tb) → BufTy
  | .hbm, ⟨0, _⟩ => ⟨S8192x11008, .f32⟩
  | .hbm, ⟨1, _⟩ => ⟨S11008x4096, .f32⟩
  | .hbm, ⟨2, _⟩ => ⟨S8192x4096, .f32⟩
  | .hbm, ⟨3, _⟩ => ⟨S1x4096, .f32⟩
  | .hbm, ⟨4, _⟩ => ⟨S_, .i32⟩
  | .hbm, ⟨5, _⟩ => ⟨S_, .f32⟩
  | .hbm, ⟨6, _⟩ => ⟨S8x16384, .f32⟩
  | .hbm, ⟨7, _⟩ => ⟨S8192x11008, .bf16⟩
  | .hbm, ⟨8, _⟩ => ⟨S11008x4096, .bf16⟩
  | .hbm, ⟨9, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S512x512, .f32⟩
  | .local _ .vmem, ⟨9, _⟩ => ⟨S512x512, .f32⟩
  | _, _ => ⟨S8192x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceDownIdeal.lean ====
abbrev S8192x11008 : Shape := ⟨2, ![8192, 11008]⟩
abbrev S11008x4096 : Shape := ⟨2, ![11008, 4096]⟩
abbrev S8192x4096 : Shape := ⟨2, ![8192, 4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x11008, .f32⟩
  | .hbm, ⟨1, _⟩ => ⟨S11008x4096, .f32⟩
  | .hbm, ⟨2, _⟩ => ⟨S8192x4096, .f32⟩
  | .hbm, ⟨3, _⟩ => ⟨S1x4096, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | _, _ => ⟨S8192x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelFinal.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceFinalIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelConv.lean ====
abbrev S8192x4096 : Shape := ⟨2, ![8192, 4096]⟩
abbrev S256x4096 : Shape := ⟨2, ![256, 4096]⟩
abbrev S4096x12736 : Shape := ⟨2, ![4096, 12736]⟩
abbrev S3x2048 : Shape := ⟨2, ![3, 2048]⟩
abbrev S4096x4096 : Shape := ⟨2, ![4096, 4096]⟩
abbrev S8448x4096 : Shape := ⟨2, ![8448, 4096]⟩
abbrev S12736x4096 : Shape := ⟨2, ![12736, 4096]⟩
abbrev S_ : Shape := ⟨0, ![]⟩
abbrev S8x2048 : Shape := ⟨2, ![8, 2048]⟩
abbrev S8192x2048 : Shape := ⟨2, ![8192, 2048]⟩
abbrev S1024x4096 : Shape := ⟨2, ![1024, 4096]⟩
abbrev S8x256 : Shape := ⟨2, ![8, 256]⟩
abbrev S64x4096 : Shape := ⟨2, ![64, 4096]⟩
abbrev S1024x256 : Shape := ⟨2, ![1024, 256]⟩
abbrev S512x4096 : Shape := ⟨2, ![512, 4096]⟩
abbrev S512x256 : Shape := ⟨2, ![512, 256]⟩
abbrev S512x1 : Shape := ⟨2, ![512, 1]⟩
abbrev S1x256 : Shape := ⟨2, ![1, 256]⟩

abbrev nBuf : Space → Nat
  | .hbm => 13
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S256x4096, .f32⟩
  | .hbm, ⟨2, _⟩ => ⟨S4096x12736, .f32⟩
  | .hbm, ⟨3, _⟩ => ⟨S3x2048, .f32⟩
  | .hbm, ⟨4, _⟩ => ⟨S4096x4096, .f32⟩
  | .hbm, ⟨5, _⟩ => ⟨S8448x4096, .f32⟩
  | .hbm, ⟨6, _⟩ => ⟨S8448x4096, .bf16⟩
  | .hbm, ⟨7, _⟩ => ⟨S12736x4096, .f32⟩
  | .hbm, ⟨8, _⟩ => ⟨S_, .i32⟩
  | .hbm, ⟨9, _⟩ => ⟨S_, .f32⟩
  | .hbm, ⟨10, _⟩ => ⟨S8x2048, .f32⟩
  | .hbm, ⟨11, _⟩ => ⟨S8192x2048, .bf16⟩
  | .hbm, ⟨12, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S8x256, .f32⟩
  | .local _ .vmem, ⟨9, _⟩ => ⟨S8x256, .f32⟩
  | .local _ .vmem, ⟨10, _⟩ => ⟨S64x4096, .f32⟩
  | .local _ .vmem, ⟨11, _⟩ => ⟨S64x4096, .f32⟩
  | .local _ .vmem, ⟨12, _⟩ => ⟨S1024x256, .bf16⟩
  | .local _ .vmem, ⟨13, _⟩ => ⟨S1024x256, .bf16⟩
  | .local _ .vmem, ⟨14, _⟩ => ⟨S64x4096, .bf16⟩
  | .local _ .vmem, ⟨15, _⟩ => ⟨S64x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c6592_i32 : BitVec 32 := 6592#32
  let c256_i32 : BitVec 32 := 256#32
  let arg1 : BitVec 32 := BitVec.ofNat 32 (i 1).val
  let v0 : BitVec 32 := Scalar.muli c256_i32 arg1
  let v1 : BitVec 32 := Scalar.addi c6592_i32 v0
  v1
def k0_mult2 (i : grid0.Coords) : BitVec 32 :=
  let c8640_i32 : BitVec 32 := 8640#32
  let c256_i32 : BitVec 32 := 256#32
  let arg1 : BitVec 32 := BitVec.ofNat 32 (i 1).val
  let v0 : BitVec 32 := Scalar.muli c256_i32 arg1
  let v1 : BitVec 32 := Scalar.addi c8640_i32 v0
  v1
def k0_mult3 (i : grid0.Coords) : BitVec 32 :=
  let c10688_i32 : BitVec 32 := 10688#32
  let c256_i32 : BitVec 32 := 256#32
  let arg1 : BitVec 32 := BitVec.ofNat 32 (i 1).val
  let v0 : BitVec 32 := Scalar.muli c256_i32 arg1
  let v1 : BitVec 32 := Scalar.addi c10688_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli c256_i32 arg1
  let c6592_i32 : BitVec 32 := 6592#32
  let v1 : BitVec 32 := Scalar.addi c6592_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli c256_i32 arg1
  let c8640_i32 : BitVec 32 := 8640#32
  let v1 : BitVec 32 := Scalar.addi c8640_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli c256_i32 arg1
  let c10688_i32 : BitVec 32 := 10688#32
  let v1 : BitVec 32 := Scalar.addi c10688_i32 v0
  let v2 : BitVec 32 := v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceConvIdeal.lean ====
abbrev S8192x4096 : Shape := ⟨2, ![8192, 4096]⟩
abbrev S256x4096 : Shape := ⟨2, ![256, 4096]⟩
abbrev S4096x12736 : Shape := ⟨2, ![4096, 12736]⟩
abbrev S3x2048 : Shape := ⟨2, ![3, 2048]⟩
abbrev S4096x4096 : Shape := ⟨2, ![4096, 4096]⟩
abbrev S8192x12736 : Shape := ⟨2, ![8192, 12736]⟩
abbrev S8192x6144 : Shape := ⟨2, ![8192, 6144]⟩
abbrev S8192x2048 : Shape := ⟨2, ![8192, 2048]⟩
abbrev S128x64x2048 : Shape := ⟨3, ![128, 64, 2048]⟩
abbrev S128x63x2048 : Shape := ⟨3, ![128, 63, 2048]⟩
abbrev S_ : Shape := ⟨0, ![]⟩
abbrev S1x2048 : Shape := ⟨2, ![1, 2048]⟩
abbrev S2048 : Shape := ⟨1, ![2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S256x4096, .f32⟩
  | .hbm, ⟨2, _⟩ => ⟨S4096x12736, .f32⟩
  | .hbm, ⟨3, _⟩ => ⟨S3x2048, .f32⟩
  | .hbm, ⟨4, _⟩ => ⟨S4096x4096, .f32⟩
  | .hbm, ⟨5, _⟩ => ⟨S8192x12736, .f32⟩
  | .hbm, ⟨6, _⟩ => ⟨S8192x6144, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S128x64x2048, .f32⟩
  | .hbm, ⟨12, _⟩ => ⟨S128x63x2048, .f32⟩
  | .hbm, ⟨13, _⟩ => ⟨S_, .i32⟩
  | .hbm, ⟨14, _⟩ => ⟨S_, .f32⟩
  | .hbm, ⟨15, _⟩ => ⟨S128x64x2048, .f32⟩
  | .hbm, ⟨16, _⟩ => ⟨S8192x2048, .f32⟩
  | .hbm, ⟨17, _⟩ => ⟨S128x63x2048, .f32⟩
  | .hbm, ⟨18, _⟩ => ⟨S_, .i32⟩
  | .hbm, ⟨19, _⟩ => ⟨S_, .f32⟩
  | .hbm, ⟨20, _⟩ => ⟨S128x64x2048, .f32⟩
  | .hbm, ⟨21, _⟩ => ⟨S8192x2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .bf16⟩
  | .hbm, ⟨41, _⟩ => ⟨S4096x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== KernelNorm.lean ====
abbrev S8192x4096 : Shape := ⟨2, ![8192, 4096]⟩
abbrev S256x4096 : Shape := ⟨2, ![256, 4096]⟩
abbrev S1x4096 : Shape := ⟨2, ![1, 4096]⟩
abbrev S8x8192 : Shape := ⟨2, ![8, 8192]⟩
abbrev S8448x4096 : Shape := ⟨2, ![8448, 4096]⟩
abbrev S8x4096 : Shape := ⟨2, ![8, 4096]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S256x4096, .f32⟩
  | .hbm, ⟨2, _⟩ => ⟨S1x4096, .f32⟩
  | .hbm, ⟨3, _⟩ => ⟨S8x8192, .f32⟩
  | .hbm, ⟨4, _⟩ => ⟨S8448x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S8x4096, .f32⟩
  | .local _ .vmem, ⟨6, _⟩ => ⟨S8x4096, .f32⟩
  | .local _ .vmem, ⟨7, _⟩ => ⟨S256x4096, .bf16⟩
  | .local _ .vmem, ⟨8, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceNormIdeal.lean ====
abbrev S8192x4096 : Shape := ⟨2, ![8192, 4096]⟩
abbrev S256x4096 : Shape := ⟨2, ![256, 4096]⟩
abbrev S1x4096 : Shape := ⟨2, ![1, 4096]⟩
abbrev S8x8192 : Shape := ⟨2, ![8, 8192]⟩
abbrev S8x4096 : Shape := ⟨2, ![8, 4096]⟩
abbrev S_ : Shape := ⟨0, ![]⟩
abbrev S8192 : Shape := ⟨1, ![8192]⟩
abbrev S8192x1 : Shape := ⟨2, ![8192, 1]⟩
abbrev S256 : Shape := ⟨1, ![256]⟩
abbrev S256x1 : Shape := ⟨2, ![256, 1]⟩
abbrev S8448x4096 : Shape := ⟨2, ![8448, 4096]⟩

abbrev nBuf : Space → Nat
  | .hbm => 56
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S256x4096, .f32⟩
  | .hbm, ⟨2, _⟩ => ⟨S1x4096, .f32⟩
  | .hbm, ⟨3, _⟩ => ⟨S8x8192, .f32⟩
  | .hbm, ⟨4, _⟩ => ⟨S8x4096, .f32⟩
  | .hbm, ⟨5, _⟩ => ⟨S8x4096, .f32⟩
  | .hbm, ⟨6, _⟩ => ⟨S1x4096, .f32⟩
  | .hbm, ⟨7, _⟩ => ⟨S1x4096, .f32⟩
  | .hbm, ⟨8, _⟩ => ⟨S8192x4096, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S1x4096, .f32⟩
  | .hbm, ⟨25, _⟩ => ⟨S1x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S1x4096, .f32⟩
  | .hbm, ⟨31, _⟩ => ⟨S1x4096, .f32⟩
  | .hbm, ⟨32, _⟩ => ⟨S256x4096, .f32⟩
  | .hbm, ⟨33, _⟩ => ⟨S_, .f32⟩
  | .hbm, ⟨34, _⟩ => ⟨S256, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S256x1, .f32⟩
  | .hbm, ⟨43, _⟩ => ⟨S256x4096, .f32⟩
  | .hbm, ⟨44, _⟩ => ⟨S256x4096, .f32⟩
  | .hbm, ⟨45, _⟩ => ⟨S256x4096, .f32⟩
  | .hbm, ⟨46, _⟩ => ⟨S256x4096, .f32⟩
  | .hbm, ⟨47, _⟩ => ⟨S_, .f32⟩
  | .hbm, ⟨48, _⟩ => ⟨S1x4096, .f32⟩
  | .hbm, ⟨49, _⟩ => ⟨S1x4096, .f32⟩
  | .hbm, ⟨50, _⟩ => ⟨S256x4096, .f32⟩
  | .hbm, ⟨51, _⟩ => ⟨S256x4096, .f32⟩
  | .hbm, ⟨52, _⟩ => ⟨S256x4096, .f32⟩
  | .hbm, ⟨53, _⟩ => ⟨S256x4096, .f32⟩
  | .hbm, ⟨54, _⟩ => ⟨S8448x4096, .f32⟩
  | .hbm, ⟨55, _⟩ => ⟨S8448x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== Proof.Mirror.lean ====
module

public import proofs.«01_k».proof.Proof.Gen.KernelIdeal.Value

/-! The scan's body, written once: what one chunk of 64 positions computes from its operands and the carried
state, so that the four chunks of a grid point are four uses of the same functions. -/

@[expose] public section

noncomputable section

namespace Cert.KernelIdeal.Hand

open Idealize.ShloMosaic Idealize.ShloMosaic.TcCoe Cert.KernelIdeal Cert.KernelIdeal.Gen

variable {F : FTy → Type} [FloatOps F]

/-- The head (0 or 1) of a lane within its group. -/
def lanes : IVec S1x64x128 32 :=
  k0_pay84 (iota .tc S1x64x128 32 [2] iota_S1x64x128_d2_w32) 64#32 k0_pay83 0#32

def strictly : IVec S1x64x128 1 := k0_pay85 (iota .tc S1x64x128 32 [1] iota_S1x64x128_d1_w32) k0_pay82

def upto : IVec S1x64x128 1 := k0_pay86 (iota .tc S1x64x128 32 [1] iota_S1x64x128_d1_w32) k0_pay82

def diag : FVec F S1x64x128 .f32 := k0_pay87 (iota .tc S1x64x128 32 [1] iota_S1x64x128_d1_w32) k0_pay82

def sameHead : IVec S128x128 1 :=
  k0_pay91 (iota .tc S128x128 32 [1] iota_S128x128_d1_w32) k0_pay88 k0_pay89 k0_pay90

/-- The sixteen groups of lanes of a chunk, one above another. -/
def stacked (x : FVec F S64x2048 .f32) : FVec F S16x64x128 .f32 := k0_pay48 x

/-- A stack with the lanes of one head kept and the others zero. -/
def only (g : BitVec 32) (x : FVec F S16x64x128 .bf16) : FVec F S16x64x128 .bf16 :=
  select (broadcastTo S16x64x128 (shapeCast S1x64x128 (cmpi .eq lanes (broadcast S1x64x128 g))
    shapeCasts_S1x64x128_S1x64x128) broadcasts_S1x64x128_S16x64x128) x
    (broadcast S16x64x128 (Scalar.ofBits .bf16 0x0000#16))

def above (x y : FVec F S16x64x128 .bf16) : FVec F S16x128x128 .bf16 :=
  concatenate S16x128x128 1 [⟨S16x64x128, x⟩, ⟨S16x64x128, y⟩] concatenates_S16x64x128_S16x64x128_S16x128x128_d1

/-- The two heads of a stack as a block-diagonal matrix per group. -/
def blocks (x : FVec F S16x64x128 .bf16) : FVec F S16x128x128 .bf16 := above (only 0#32 x) (only 1#32 x)

def above2 (x y : FVec F S16x128x128 .bf16) : FVec F S16x256x128 .bf16 :=
  concatenate S16x256x128 1 [⟨S16x128x128, x⟩, ⟨S16x128x128, y⟩] concatenates_S16x128x128_S16x128x128_S16x256x128_d1

def beside (x y : FVec F S16x64x128 .bf16) : FVec F S16x64x256 .bf16 :=
  concatenate S16x64x256 2 [⟨S16x64x128, x⟩, ⟨S16x64x128, y⟩] concatenates_S16x64x128_S16x64x128_S16x64x256_d2

def beside2 (x y : FVec F S16x128x128 .bf16) : FVec F S16x128x256 .bf16 :=
  concatenate S16x128x256 2 [⟨S16x128x128, x⟩, ⟨S16x128x128, y⟩] concatenates_S16x128x128_S16x128x128_S16x128x256_d2

def half (x : FVec F S16x64x128 .f32) : FVec F S16x64x128 .bf16 := truncf .bf16 x bitsLt_bf16_f32

/-- Products of a stack with a block-diagonal matrix. -/
def times (x : FVec F S16x64x128 .bf16) (y : FVec F S16x128x128 .bf16) : FVec F S16x64x128 .f32 :=
  matmul dot_S16x64x128_S16x128x128_S16x64x128_2_1_1_2_0_0 none x y (constant S16x64x128 .f32 0x00000000#32)

def last (l : FVec F S16x64x128 .f32) : FVec F S16x1x128 .f32 :=
  extractStridedSlice S16x1x128 ![0, 63, 0] l slices_S16x64x128_o0_63_0_S16x1x128

def zeros : FVec F S16x64x128 .f32 := broadcast S16x64x128 (Scalar.ofBits .f32 0x00000000#32)

def opA (lw l kk : FVec F S16x64x128 .f32) : FVec F S16x64x128 .bf16 :=
  half (mulf (subf zeros kk) (exp (subf l lw)))
def opR (l r : FVec F S16x64x128 .f32) : FVec F S16x64x128 .bf16 := half (mulf r (exp l))
def opB (l a kk : FVec F S16x64x128 .f32) : FVec F S16x64x128 .bf16 :=
  half (mulf (mulf kk a) (exp (subf zeros l)))
def opK (l kd : FVec F S16x64x128 .f32) : FVec F S16x64x128 .bf16 := half (mulf kd (exp (subf zeros l)))
def fromLast (l : FVec F S16x64x128 .f32) : FVec F S16x64x128 .f32 :=
  exp (subf (broadcastTo S16x64x128 (last l) broadcasts_S16x1x128_S16x64x128) l)
def tailK (l kd : FVec F S16x64x128 .f32) : FVec F S16x64x128 .bf16 := half (mulf kd (fromLast l))
def tailB (l a kk : FVec F S16x64x128 .f32) : FVec F S16x64x128 .bf16 := half (mulf (mulf kk a) (fromLast l))

/-- The scores of a chunk: both left operands against both right operands. -/
def scores (x y : FVec F S16x64x128 .bf16) (b k : FVec F S16x64x128 .bf16) : FVec F S16x128x256 .f32 :=
  matmul dot_S16x128x128_S16x256x128_S16x128x256_2_2_1_1_0_0 none (above x y) (above2 (blocks b) (blocks k))
    (constant S16x128x256 .f32 0x00000000#32)

def maskBy (p : IVec S1x64x128 1) (x : FVec F S16x64x128 .f32) : FVec F S16x64x128 .f32 :=
  select (broadcastTo S16x64x128 (shapeCast S1x64x128 p shapeCasts_S1x64x128_S1x64x128)
    broadcasts_S1x64x128_S16x64x128) x zeros

def scoreAB (s : FVec F S16x128x256 .f32) : FVec F S16x64x128 .f32 :=
  maskBy strictly (extractStridedSlice S16x64x128 ![0, 0, 0] s slices_S16x128x256_o0_0_0_S16x64x128)
def scoreAK (s : FVec F S16x128x256 .f32) : FVec F S16x64x128 .bf16 :=
  half (maskBy strictly (extractStridedSlice S16x64x128 ![0, 0, 128] s slices_S16x128x256_o0_0_128_S16x64x128))
def scoreRB (s : FVec F S16x128x256 .f32) : FVec F S16x64x128 .bf16 :=
  half (maskBy upto (extractStridedSlice S16x64x128 ![0, 64, 0] s slices_S16x128x256_o0_64_0_S16x64x128))
def scoreRK (s : FVec F S16x128x256 .f32) : FVec F S16x64x128 .bf16 :=
  half (maskBy upto (extractStridedSlice S16x64x128 ![0, 64, 128] s slices_S16x128x256_o0_64_128_S16x64x128))

/-- One doubling of the inverse: the power and the sum so far to the next of each. -/
def both (p s : FVec F S16x64x128 .f32) : FVec F S16x64x256 .f32 :=
  matmul dot_S16x64x128_S16x128x256_S16x64x256_2_1_1_2_0_0 none (half p)
    (beside2 (blocks (half p)) (blocks (half s))) (constant S16x64x256 .f32 0x00000000#32)
def power (p s : FVec F S16x64x128 .f32) : FVec F S16x64x128 .f32 :=
  extractStridedSlice S16x64x128 ![0, 0, 0] (both p s) slices_S16x64x256_o0_0_0_S16x64x128
def sums (p s : FVec F S16x64x128 .f32) : FVec F S16x64x128 .f32 :=
  addf s (extractStridedSlice S16x64x128 ![0, 0, 128] (both p s) slices_S16x64x256_o0_0_128_S16x64x128)

def sum0 (m : FVec F S16x64x128 .f32) : FVec F S16x64x128 .f32 :=
  addf (broadcastTo S16x64x128 diag broadcasts_S1x64x128_S16x64x128) m
def pow0 (m : FVec F S16x64x128 .f32) : FVec F S16x64x128 .f32 := times (half m) (blocks (half m))

/-- The inverse of the identity less a strictly triangular matrix, by five doublings. -/
def inverse (m : FVec F S16x64x128 .f32) : FVec F S16x64x128 .bf16 :=
  let s0 := sum0 m
  let p0 := pow0 m
  let s1 := sums p0 s0
  let p1 := power p0 s0
  let s2 := sums p1 s1
  let p2 := power p1 s1
  let s3 := sums p2 s2
  let p3 := power p2 s2
  let s4 := sums p3 s3
  let p4 := power p3 s3
  half (addf s4 (times (half p4) (blocks (half s4))))

def fromState (x y : FVec F S16x64x128 .bf16) (h : FVec F S16x128x128 .f32) : FVec F S16x128x128 .f32 :=
  matmul dot_S16x128x128_S16x128x128_S16x128x128_2_2_1_1_0_0 none (above x y) (truncf .bf16 h bitsLt_bf16_f32)
    (constant S16x128x128 .f32 0x00000000#32)

/-- The corrections of a chunk. -/
def corr (x y : FVec F S16x64x128 .bf16) (h : FVec F S16x128x128 .f32) (mak inv v : FVec F S16x64x128 .bf16) :
    FVec F S16x64x128 .bf16 :=
  half (times inv (blocks (half (addf
    (extractStridedSlice S16x64x128 ![0, 0, 0] (fromState x y h) slices_S16x128x128_o0_0_0_S16x64x128)
    (times mak (blocks v))))))

/-- The chunk's results, as a stack. -/
def outs (x y : FVec F S16x64x128 .bf16) (h : FVec F S16x128x128 .f32) (nrk nrb v u : FVec F S16x64x128 .bf16) :
    FVec F S16x64x128 .f32 :=
  addf (extractStridedSlice S16x64x128 ![0, 64, 0] (fromState x y h) slices_S16x128x128_o0_64_0_S16x64x128)
    (matmul dot_S16x64x256_S16x256x128_S16x64x128_2_1_1_2_0_0 none (beside nrk nrb) (above2 (blocks v) (blocks u))
      (constant S16x64x128 .f32 0x00000000#32))

/-- The state after the chunk. -/
def nextState (l : FVec F S16x64x128 .f32) (h : FVec F S16x128x128 .f32) (v u kt bt : FVec F S16x64x128 .bf16) :
    FVec F S16x128x128 .f32 :=
  addf (mulf h (broadcastTo S16x128x128 (exp (last l)) broadcasts_S16x1x128_S16x128x128))
    (select (broadcastTo S16x128x128 (shapeCast S1x128x128 (shapeCast S1x128x128 sameHead
        shapeCasts_S128x128_S1x128x128) shapeCasts_S1x128x128_S1x128x128) broadcasts_S1x128x128_S16x128x128)
      (matmul dot_S16x128x128_S16x128x128_S16x128x128_1_1_2_2_0_0 none (above v u) (above kt bt)
        (constant S16x128x128 .f32 0x00000000#32))
      (broadcast S16x128x128 (Scalar.ofBits .f32 0x00000000#32)))

/-- A chunk's operands, stacked. -/
structure Ops (F : FTy → Type) where
  lw : FVec F S16x64x128 .f32
  l : FVec F S16x64x128 .f32
  a : FVec F S16x64x128 .f32
  kd : FVec F S16x64x128 .f32
  kk : FVec F S16x64x128 .f32
  v : FVec F S16x64x128 .f32
  r : FVec F S16x64x128 .f32

def scoresOf (o : Ops F) : FVec F S16x128x256 .f32 :=
  scores (opA o.lw o.l o.kk) (opR o.l o.r) (opB o.l o.a o.kk) (opK o.l o.kd)

def corrOf (o : Ops F) (h : FVec F S16x128x128 .f32) : FVec F S16x64x128 .bf16 :=
  corr (opA o.lw o.l o.kk) (opR o.l o.r) h (scoreAK (scoresOf o)) (inverse (scoreAB (scoresOf o))) (half o.v)

def outsOf (o : Ops F) (h : FVec F S16x128x128 .f32) : FVec F S16x64x128 .f32 :=
  outs (opA o.lw o.l o.kk) (opR o.l o.r) h (scoreRK (scoresOf o)) (scoreRB (scoresOf o)) (half o.v) (corrOf o h)

def stateOf (o : Ops F) (h : FVec F S16x128x128 .f32) : FVec F S16x128x128 .f32 :=
  nextState o.l h (half o.v) (corrOf o h) (tailK o.l o.kd) (tailB o.l o.a o.kk)

/-- The operands of a chunk that starts at a given row. -/
def opsAt (off : Fin 2 → ℕ) (hs : S256x2048.Slices off S64x2048) (lw l a kd kk v r : FVec F S256x2048 .f32) : Ops F where
  lw := stacked (extractStridedSlice S64x2048 off lw hs)
  l := stacked (extractStridedSlice S64x2048 off l hs)
  a := stacked (extractStridedSlice S64x2048 off a hs)
  kd := stacked (extractStridedSlice S64x2048 off kd hs)
  kk := stacked (extractStridedSlice S64x2048 off kk hs)
  v := stacked (extractStridedSlice S64x2048 off v hs)
  r := stacked (extractStridedSlice S64x2048 off r hs)

/-! The whole grid point. -/

def group (off : Fin 3 → ℕ) (hs : S16x64x128.Slices off S1x64x128) (x : FVec F S16x64x128 .f32) : FVec F S64x128 .f32 :=
  shapeCast S64x128 (extractStridedSlice S1x64x128 off x hs) shapeCasts_S1x64x128_S64x128

/-- The sixteen groups of a stack, side by side again. -/
def flat (x : FVec F S16x64x128 .f32) : FVec F S64x2048 .f32 :=
  concatenate S64x2048 1 [⟨S64x128, group ![0, 0, 0] slices_S16x64x128_o0_0_0_S1x64x128 x⟩, ⟨S64x128, group ![1, 0, 0] slices_S16x64x128_o1_0_0_S1x64x128 x⟩, ⟨S64x128, group ![2, 0, 0] slices_S16x64x128_o2_0_0_S1x64x128 x⟩, ⟨S64x128, group ![3, 0, 0] slices_S16x64x128_o3_0_0_S1x64x128 x⟩, ⟨S64x128, group ![4, 0, 0] slices_S16x64x128_o4_0_0_S1x64x128 x⟩, ⟨S64x128, group ![5, 0, 0] slices_S16x64x128_o5_0_0_S1x64x128 x⟩, ⟨S64x128, group ![6, 0, 0] slices_S16x64x128_o6_0_0_S1x64x128 x⟩, ⟨S64x128, group ![7, 0, 0] slices_S16x64x128_o7_0_0_S1x64x128 x⟩, ⟨S64x128, group ![8, 0, 0] slices_S16x64x128_o8_0_0_S1x64x128 x⟩, ⟨S64x128, group ![9, 0, 0] slices_S16x64x128_o9_0_0_S1x64x128 x⟩, ⟨S64x128, group ![10, 0, 0] slices_S16x64x128_o10_0_0_S1x64x128 x⟩, ⟨S64x128, group ![11, 0, 0] slices_S16x64x128_o11_0_0_S1x64x128 x⟩, ⟨S64x128, group ![12, 0, 0] slices_S16x64x128_o12_0_0_S1x64x128 x⟩, ⟨S64x128, group ![13, 0, 0] slices_S16x64x128_o13_0_0_S1x64x128 x⟩, ⟨S64x128, group ![14, 0, 0] slices_S16x64x128_o14_0_0_S1x64x128 x⟩, ⟨S64x128, group ![15, 0, 0] slices_S16x64x128_o15_0_0_S1x64x128 x⟩]
    concatenates_S64x128_S64x128_S64x128_S64x128_S64x128_S64x128_S64x128_S64x128_S64x128_S64x128_S64x128_S64x128_S64x128_S64x128_S64x128_S64x128_S64x2048_d1

/-- The blocks of a grid point. -/
structure Blk (F : FTy → Type) where
  k : FVec F S256x2048 .f32
  v : FVec F S256x2048 .f32
  r : FVec F S256x2048 .f32
  la : FVec F S256x256 .f32
  kw : FVec F S1x2048 .f32
  ka : FVec F S1x2048 .f32
  w0 : FVec F S1x2048 .f32
  a0 : FVec F S1x2048 .f32
  wd : FVec F S128x2048 .bf16
  wa : FVec F S128x2048 .bf16

/-- The log decays. -/
def preLw (b : Blk F) : FVec F S256x2048 .f32 := k0_pay12 (k0_pay8 b.la b.w0 b.wd) k0_pay10 k0_pay11
/-- The log decays summed within each chunk. -/
def preCum (b : Blk F) : FVec F S256x2048 .f32 :=
  k0_pay27 (preLw b) (iota .tc S256x256 32 [1] iota_S256x256_d1_w32) k0_pay23 k0_pay24 64#32 k0_pay25 k0_pay26 0#32
def preA (b : Blk F) : FVec F S256x2048 .f32 := k0_pay13 (k0_pay9 b.la b.a0 b.wa)
def preKd (b : Blk F) : FVec F S256x2048 .f32 := k0_pay14 (k0_pay4 b.k) (k0_pay9 b.la b.a0 b.wa) b.ka
def sameSeg : FVec F S256x256 .bf16 := k0_pay19 (iota .tc S256x256 32 [0] iota_S256x256_d0_w32) 64#32 k0_pay17 k0_pay18
/-- The keys of the correction, each head to length one. -/
def preKk (b : Blk F) : FVec F S256x2048 .f32 :=
  k0_pay22 (k0_pay15 (k0_pay4 b.k) b.kw) sameSeg (k0_pay20 (k0_pay16 (k0_pay4 b.k) b.kw))
    (k0_pay21 (k0_pay16 (k0_pay4 b.k) b.kw)) (constant S2048x256 .f32 0x00000000#32)

def ops (off : Fin 2 → ℕ) (hs : S256x2048.Slices off S64x2048) (b : Blk F) : Ops F :=
  opsAt off hs (preLw b) (preCum b) (preA b) (preKd b) (preKk b) (k0_pay5 b.v) (k0_pay6 b.r)

def ops0 (b : Blk F) : Ops F := ops ![0, 0] slices_S256x2048_o0_0_S64x2048 b
def ops1 (b : Blk F) : Ops F := ops ![64, 0] slices_S256x2048_o64_0_S64x2048 b
def ops2 (b : Blk F) : Ops F := ops ![128, 0] slices_S256x2048_o128_0_S64x2048 b
def ops3 (b : Blk F) : Ops F := ops ![192, 0] slices_S256x2048_o192_0_S64x2048 b
def state1 (b : Blk F) (h : FVec F S16x128x128 .f32) : FVec F S16x128x128 .f32 := stateOf (ops0 b) h
def state2 (b : Blk F) (h : FVec F S16x128x128 .f32) : FVec F S16x128x128 .f32 := stateOf (ops1 b) (state1 b h)
def state3 (b : Blk F) (h : FVec F S16x128x128 .f32) : FVec F S16x128x128 .f32 := stateOf (ops2 b) (state2 b h)
def state4 (b : Blk F) (h : FVec F S16x128x128 .f32) : FVec F S16x128x128 .f32 := stateOf (ops3 b) (state3 b h)

/-- What a grid point writes. -/
def pointOut (b : Blk F) (h : FVec F S16x128x128 .f32) : FVec F S256x2048 .f32 :=
  concatenate S256x2048 0 [⟨S64x2048, flat (outsOf (ops0 b) h)⟩, ⟨S64x2048, flat (outsOf (ops1 b) (state1 b h))⟩,
    ⟨S64x2048, flat (outsOf (ops2 b) (state2 b h))⟩, ⟨S64x2048, flat (outsOf (ops3 b) (state3 b h))⟩]
    concatenates_S64x2048_S64x2048_S64x2048_S64x2048_S256x2048_d0

end Cert.KernelIdeal.Hand
-- ==== Proof.Chunk.lean ====
module

public import Mathlib.LinearAlgebra.Matrix.NonsingularInverse
public import Mathlib.Analysis.SpecialFunctions.Exp

/-! The recurrence of one head over real numbers: 64 steps one after another are one chunk computed at once. -/

@[expose] public section

noncomputable section

namespace Scan

open Finset Matrix

/-- The matrices of one head over one chunk: rows are positions or channels, columns are channels. -/
abbrev Mat := Matrix (Fin 64) (Fin 64) ℝ

/-- One position's operands for one head: log decay, the two vectors of the correction, key, value, reading. -/
structure Pos where
  lw : Fin 64 → ℝ
  α : Fin 64 → ℝ
  β : Fin 64 → ℝ
  κ : Fin 64 → ℝ
  v : Fin 64 → ℝ
  r : Fin 64 → ℝ

/-- The state after one more position. -/
def step (S : Mat) (x : Pos) : Mat := fun i j =>
  S i j * Real.exp (x.lw j) + (∑ j', S i j' * x.α j') * x.β j + x.v i * x.κ j

/-- The state after the first `n` positions. -/
def seq (x : ℕ → Pos) (H : Mat) : ℕ → Mat
  | 0 => H
  | n + 1 => step (seq x H n) (x n)

/-- What a position reads, after its own step. -/
def read (x : ℕ → Pos) (H : Mat) (n : ℕ) (i : Fin 64) : ℝ := ∑ j, seq x H (n + 1) i j * (x n).r j

/-- The correction of a position: the state before it against `α`. -/
def fix (x : ℕ → Pos) (H : Mat) (n : ℕ) (i : Fin 64) : ℝ := ∑ j, seq x H n i j * (x n).α j

/-- The log decays of the first `n` positions, together. -/
def pre (x : ℕ → Pos) (n : ℕ) (j : Fin 64) : ℝ := ∑ τ ∈ range n, (x τ).lw j

theorem pre_succ (x : ℕ → Pos) (n : ℕ) (j : Fin 64) : pre x (n + 1) j = pre x n j + (x n).lw j :=
  sum_range_succ _ _

/-- The state in closed form. -/
theorem seq_eq (x : ℕ → Pos) (H : Mat) (n : ℕ) (i j : Fin 64) :
    seq x H n i j = Real.exp (pre x n j) * (H i j + ∑ τ ∈ range n,
      (fix x H τ i * (x τ).β j + (x τ).v i * (x τ).κ j) * Real.exp (-pre x (τ + 1) j)) := by
  induction n with
  | zero => simp [seq, pre]
  | succ n ih =>
    have e : Real.exp (pre x (n + 1) j) * Real.exp (-pre x (n + 1) j) = 1 := by
      rw [← Real.exp_add]; simp
    have s : seq x H (n + 1) i j = seq x H n i j * Real.exp ((x n).lw j)
        + fix x H n i * (x n).β j + (x n).v i * (x n).κ j := rfl
    rw [s, ih, sum_range_succ]
    have p : Real.exp (pre x (n + 1) j) = Real.exp (pre x n j) * Real.exp ((x n).lw j) := by
      rw [pre_succ, Real.exp_add]
    linear_combination (-(fix x H n i * (x n).β j + (x n).v i * (x n).κ j)) * e
      - (H i j + ∑ τ ∈ range n, (fix x H τ i * (x τ).β j + (x τ).v i * (x τ).κ j) * Real.exp (-pre x (τ + 1) j)) * p

/-- A vector against the state before or after a position. -/
theorem seq_dot (x : ℕ → Pos) (H : Mat) (n : ℕ) (i : Fin 64) (a : Fin 64 → ℝ) :
    ∑ j, seq x H n i j * a j = (∑ j, a j * Real.exp (pre x n j) * H i j)
      + ∑ τ ∈ range n, ((∑ j, a j * Real.exp (pre x n j) * ((x τ).β j * Real.exp (-pre x (τ + 1) j))) * fix x H τ i
        + (∑ j, a j * Real.exp (pre x n j) * ((x τ).κ j * Real.exp (-pre x (τ + 1) j))) * (x τ).v i) := by
  simp only [seq_eq x H n, sum_mul, ← sum_add_distrib]
  rw [sum_comm, ← sum_add_distrib]
  refine sum_congr rfl fun j _ => ?_
  rw [mul_add, add_mul, mul_sum, sum_mul]
  refine congrArg₂ _ (by ring) (sum_congr rfl fun τ _ => by ring)

/-! The chunk's matrices. -/

section
variable (x : ℕ → Pos)

def lcum : Mat := fun t j => pre x (t + 1) j
def mA : Mat := fun t j => (x t).α j * Real.exp (lcum x t j - (x t).lw j)
def mR : Mat := fun t j => (x t).r j * Real.exp (lcum x t j)
def mB : Mat := fun t j => (x t).β j * Real.exp (-lcum x t j)
def mK : Mat := fun t j => (x t).κ j * Real.exp (-lcum x t j)
def mV : Mat := fun t i => (x t).v i
def tB : Mat := fun t j => (x t).β j * Real.exp (lcum x 63 j - lcum x t j)
def tK : Mat := fun t j => (x t).κ j * Real.exp (lcum x 63 j - lcum x t j)

/-- A matrix cut to the positions strictly before. -/
def low (m : Mat) : Mat := fun t s => if s < t then m t s else 0
/-- A matrix cut to the positions up to and including. -/
def lowEq (m : Mat) : Mat := fun t s => if s ≤ t then m t s else 0

/-- The geometric sum by doublings, as the kernel forms it. -/
def geo (m : Mat) : Mat :=
  let s0 := 1 + m
  let p0 := m * m
  let s1 := s0 + p0 * s0
  let p1 := p0 * p0
  let s2 := s1 + p1 * s1
  let p2 := p1 * p1
  let s3 := s2 + p2 * s2
  let p3 := p2 * p2
  let s4 := s3 + p3 * s3
  let p4 := p3 * p3
  s4 + p4 * s4

theorem low_pow (m : Mat) (k : ℕ) (t s : Fin 64) (h : t.val < s.val + k) : (low m ^ k) t s = 0 := by
  induction k generalizing t with
  | zero => rw [pow_zero]; exact Matrix.one_apply_ne (fun e => by subst e; omega)
  | succ k ih =>
    rw [pow_succ', Matrix.mul_apply]
    refine sum_eq_zero fun q _ => ?_
    by_cases hq : q < t
    · have := Fin.lt_def.mp hq
      rw [ih q (by omega), mul_zero]
    · simp [low, hq]

theorem low_pow64 (m : Mat) : low m ^ 64 = 0 := by
  ext t s; exact low_pow m 64 t s (by omega)

theorem geo_mul (m : Mat) : geo (low m) * (1 - low m) = 1 := by
  have h := low_pow64 m
  generalize low m = a at h ⊢
  have e : geo a * (1 - a) = 1 - a ^ 64 := by unfold geo; noncomm_ring
  rw [e, h, sub_zero]

def corrections (H : Mat) : Mat := geo (low (mA x * (mB x)ᵀ)) * (mA x * Hᵀ + low (mA x * (mK x)ᵀ) * mV x)

/-- A sum over the positions before one, as a sum over all of them. -/
theorem sum_before (f : ℕ → ℝ) (n : ℕ) (hn : n ≤ 64) :
    ∑ τ ∈ range n, f τ = ∑ τ : Fin 64, if τ.val < n then f τ else 0 := by
  rw [Finset.sum_fin_eq_sum_range, ← sum_filter_add_sum_filter_not (range 64) (· < n)]
  have : (range 64).filter (· < n) = range n := by ext a; simp; omega
  rw [this]
  rw [sum_eq_zero (s := (range 64).filter (fun a => ¬ a < n))]
  · rw [add_zero]
    refine sum_congr rfl fun a ha => ?_
    have := mem_range.mp ha
    simp [this, show a < 64 by omega]
  · intro a ha
    have := (mem_filter.mp ha).2
    simp [this]

/-- The corrections of the steps, as a matrix. -/
def fixes (H : Mat) : Mat := fun t i => fix x H t i

/-- The corrections of the steps solve the chunk's triangular system. -/
theorem fix_eq (H : Mat) : fixes x H = corrections x H := by
  have key : fixes x H = low (mA x * (mB x)ᵀ) * fixes x H
      + (mA x * Hᵀ + low (mA x * (mK x)ᵀ) * mV x) := by
    ext t i
    have h := seq_dot x H t i (x t).α
    rw [sum_before _ _ (by omega)] at h
    have e : ∀ j, (x t).α j * Real.exp (pre x t j) = mA x t j := fun j => by
      unfold mA lcum; rw [pre_succ, add_sub_cancel_right]
    simp only [e] at h
    show fix x H t i = _
    unfold fix at h ⊢
    rw [h]
    simp only [Matrix.add_apply, Matrix.mul_apply, Matrix.transpose_apply, low]
    rw [add_left_comm]
    refine congrArg₂ (· + ·) rfl (Eq.trans (sum_congr rfl fun τ _ => ?_) sum_add_distrib)
    by_cases hq : τ < t
    · rw [if_pos hq, if_pos (Fin.lt_def.mp hq), if_pos hq]
      rfl
    · rw [if_neg hq, if_neg (fun h => hq (Fin.lt_def.mpr h)), if_neg hq]; simp
  have h2 : (1 - low (mA x * (mB x)ᵀ)) * fixes x H
      = mA x * Hᵀ + low (mA x * (mK x)ᵀ) * mV x := by
    rw [sub_mul, one_mul]; nth_rw 1 [key]; abel
  unfold corrections
  rw [← h2, ← mul_assoc, geo_mul, one_mul]

def reads (H : Mat) : Mat :=
  mR x * Hᵀ + (lowEq (mR x * (mK x)ᵀ) * mV x + lowEq (mR x * (mB x)ᵀ) * corrections x H)

/-- What the positions of a chunk read, all at once. -/
theorem read_eq (H : Mat) (t i : Fin 64) : read x H t i = reads x H t i := by
  have h := seq_dot x H (t + 1) i (x t).r
  rw [sum_before _ _ (by omega)] at h
  unfold read reads
  rw [h, ← fix_eq]
  simp only [Matrix.add_apply, Matrix.mul_apply, Matrix.transpose_apply, lowEq]
  refine congrArg₂ (· + ·) rfl (Eq.trans (sum_congr rfl fun τ _ => ?_) sum_add_distrib)
  by_cases hq : τ ≤ t
  · rw [if_pos hq, if_pos (Nat.lt_succ_of_le (Fin.le_def.mp hq)), if_pos hq, add_comm]
    rfl
  · rw [if_neg hq, if_neg (fun h => hq (Fin.le_def.mpr (Nat.le_of_lt_succ h))), if_neg hq]; simp

def next (H : Mat) : Mat :=
  Matrix.of (fun i j => H i j * Real.exp (lcum x 63 j)) + ((mV x)ᵀ * tK x + (corrections x H)ᵀ * tB x)

/-- The state after the chunk. -/
theorem next_eq (H : Mat) : seq x H 64 = next x H := by
  ext i j
  rw [seq_eq, sum_before _ 64 le_rfl]
  unfold next
  rw [← fix_eq]
  simp only [Matrix.add_apply, Matrix.mul_apply, Matrix.transpose_apply]
  rw [mul_add, mul_sum, ← sum_add_distrib]
  have e : pre x 64 j = lcum x 63 j := rfl
  refine congrArg₂ (· + ·) (by rw [e, mul_comm]; rfl) (sum_congr rfl fun τ _ => ?_)
  rw [if_pos τ.isLt, e]
  have q : Real.exp (lcum x 63 j - lcum x τ j) = Real.exp (lcum x 63 j) * Real.exp (-lcum x τ j) := by
    rw [← Real.exp_add]; rfl
  unfold mV tK tB
  rw [q, show pre x (τ + 1) j = lcum x τ j from rfl, show fixes x H τ i = fix x H τ i from rfl]
  ring

end

/-- Steps after steps. -/
theorem seq_add (x : ℕ → Pos) (H : Mat) (a b : ℕ) : seq x H (a + b) = seq (fun n => x (a + n)) (seq x H a) b := by
  induction b with
  | zero => rfl
  | succ b ih => show step (seq x H (a + b)) (x (a + b)) = _; rw [ih]; rfl

theorem read_add (x : ℕ → Pos) (H : Mat) (a b : ℕ) (i : Fin 64) :
    read x H (a + b) i = read (fun n => x (a + n)) (seq x H a) b i := by
  unfold read
  rw [show a + b + 1 = a + (b + 1) from rfl, seq_add]

end Scan
-- ==== Proof.Reads.lean ====
module

public import proofs.«01_k».proof.Proof.Mirror
public import proofs.«01_k».proof.Proof.Chunk
public import Idealize.ShloMosaic.Lib.Pipeline.ValueKit
public import Idealize.ShloMosaic.Lib.Pointwise

/-! What the scan's operations hold on stacks of real matrices: a stack is 16 groups of two heads, and every
operation acts on each head's 64 × 64 matrix as the matrix operation of `Chunk` does. -/

@[expose] public section

noncomputable section

namespace Cert.KernelIdeal.Hand

open Idealize.ShloMosaic Idealize.ShloMosaic.TcCoe Cert.KernelIdeal Cert.KernelIdeal.Gen Scan
open scoped Matrix

set_option maxRecDepth 100000

/-- The lane of a head's channel within its group. -/
def lane (g : Fin 2) (j : Fin 64) : Fin 128 := ⟨64 * g.val + j.val, by omega⟩

theorem sum_lanes (f : Fin 128 → EReal) : ∑ q, f q = ∑ j, f (lane 0 j) + ∑ j, f (lane 1 j) := by
  rw [Fin.sum_univ_two_halves 64 64 rfl f]
  refine congrArg₂ (· + ·) (Finset.sum_congr rfl fun j _ => congrArg f (Fin.ext ?_)) (Finset.sum_congr rfl fun j _ => congrArg f (Fin.ext ?_)) <;> simp [lane]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! The masks. -/

theorem lanes_at (t : Fin 64) (q : Fin 128) : lanes (ix3 (0 : Fin 1) t q) = BitVec.ofNat 32 (q.val / 64) := by
  unfold lanes k0_pay84 k0_pay83
  pointwise
  revert q
  decide +kernel

theorem strictly_at (t : Fin 64) (q : Fin 128) :
    strictly (ix3 (0 : Fin 1) t q) = if q.val % 64 < t.val then 1#1 else 0#1 := by
  unfold strictly k0_pay85 k0_pay82
  pointwise
  revert t q
  decide +kernel

theorem upto_at (t : Fin 64) (q : Fin 128) : upto (ix3 (0 : Fin 1) t q) = if q.val % 64 ≤ t.val then 1#1 else 0#1 := by
  unfold upto k0_pay86 k0_pay82
  pointwise
  revert t q
  decide +kernel

theorem sameHead_at (p q : Fin 128) : sameHead (ix2 p q) = if p.val / 64 = q.val / 64 then 1#1 else 0#1 := by
  unfold sameHead k0_pay91 k0_pay88 k0_pay89 k0_pay90
  pointwise
  revert p q
  decide +kernel

theorem diag_bit : ∀ (t : Fin 64) (q : Fin 128),
    BitVec.setWidth 32 (IntOp.cmpi CmpIPredicate.eq (IntOp.andi (BitVec.ofNat 32 q.val) 63#32) (BitVec.ofNat 32 t.val))
      = if q.val % 64 = t.val then 1#32 else 0#32 := by
  decide +kernel

theorem sitofp_real (b : BitVec 32) : FloatOps.sitofp (F := Ideal) .f32 b = ((b.toInt : ℝ) : EReal) := rfl

theorem diag_at (t : Fin 64) (q : Fin 128) :
    diag (F := Ideal) (ix3 (0 : Fin 1) t q) = if q.val % 64 = t.val then (1 : EReal) else 0 := by
  unfold diag k0_pay87 k0_pay82
  pointwise
  rw [diag_bit]
  rw [sitofp_real]
  split_ifs <;> simp

theorem pick (g h : Fin 2) (t j : Fin 64) (a b : EReal) (w : BitVec 32) (hw : w = BitVec.ofNat 32 h.val) :
    Scalar.select (IntOp.cmpi CmpIPredicate.eq (lanes (ix3 (0 : Fin 1) t (lane g j))) w) a b = if g = h then a else b := by
  subst hw
  rw [lanes_at]
  have e : (lane g j).val / 64 = g.val := by simp only [lane]; omega
  rw [e]
  fin_cases g <;> fin_cases h <;> rfl

theorem pick0 (g : Fin 2) (t j : Fin 64) (a b : EReal) :
    Scalar.select (IntOp.cmpi CmpIPredicate.eq (lanes (ix3 (0 : Fin 1) t (lane g j))) 0#32) a b = if g = 0 then a else b :=
  pick g 0 t j a b _ rfl

theorem pick1 (g : Fin 2) (t j : Fin 64) (a b : EReal) :
    Scalar.select (IntOp.cmpi CmpIPredicate.eq (lanes (ix3 (0 : Fin 1) t (lane g j))) 1#32) a b = if g = 1 then a else b :=
  pick g 1 t j a b _ rfl

theorem strictly_lane (g : Fin 2) (t j : Fin 64) (a b : EReal) :
    Scalar.select (strictly (ix3 (0 : Fin 1) t (lane g j))) a b = if j < t then a else b := by
  rw [strictly_at]
  have e : (lane g j).val % 64 = j.val := by simp only [lane]; omega
  rw [e]
  by_cases h : j < t
  · rw [if_pos h, if_pos (Fin.lt_def.mp h)]; rfl
  · rw [if_neg h, if_neg (fun q => h (Fin.lt_def.mpr q))]; rfl

theorem upto_lane (g : Fin 2) (t j : Fin 64) (a b : EReal) :
    Scalar.select (upto (ix3 (0 : Fin 1) t (lane g j))) a b = if j ≤ t then a else b := by
  rw [upto_at]
  have e : (lane g j).val % 64 = j.val := by simp only [lane]; omega
  rw [e]
  by_cases h : j ≤ t
  · rw [if_pos h, if_pos (Fin.le_def.mp h)]; rfl
  · rw [if_neg h, if_neg (fun q => h (Fin.le_def.mpr q))]; rfl

theorem head_lane (g g' : Fin 2) (i j : Fin 64) (a b : EReal) :
    Scalar.select (sameHead (ix2 (lane g i) (lane g' j))) a b = if g = g' then a else b := by
  rw [sameHead_at]
  have e : (lane g i).val / 64 = g.val := by simp only [lane]; omega
  have e' : (lane g' j).val / 64 = g'.val := by simp only [lane]; omega
  rw [e, e']
  by_cases h : g = g'
  · rw [if_pos h, if_pos (congrArg Fin.val h)]; rfl
  · rw [if_neg h, if_neg (fun q => h (Fin.ext q))]; rfl

theorem diag_lane (g : Fin 2) (t j : Fin 64) :
    diag (F := Ideal) (ix3 (0 : Fin 1) t (lane g j)) = (((1 : Mat) t j : ℝ) : EReal) := by
  rw [diag_at]
  have e : (lane g j).val % 64 = j.val := by simp only [lane]; omega
  rw [e, Matrix.one_apply]
  by_cases h : t = j
  · rw [if_pos h, if_pos (congrArg Fin.val h.symm)]; rfl
  · rw [if_neg h, if_neg (fun q => h (Fin.ext q.symm))]; rfl

/-! Stacks of real matrices. -/

/-- One matrix for each head. -/
abbrev Heads := Fin 16 → Fin 2 → Mat

/-- A stack holds these real matrices. -/
def Is {f : FTy} (x : FVec Ideal S16x64x128 f) (X : Heads) : Prop :=
  ∀ p g t j, x (ix3 p t (lane g j)) = ((X p g t j : ℝ) : EReal)

/-- A carried state holds these real matrices on its diagonal blocks, and zeros beside them. -/
def IsState (h : FVec Ideal S16x128x128 .f32) (H : Heads) : Prop :=
  ∀ p g i g' j, h (ix3 p (lane g i) (lane g' j)) = if g = g' then ((H p g i j : ℝ) : EReal) else 0

variable {x y b k v u : FVec Ideal S16x64x128 .bf16} {m n : FVec Ideal S16x64x128 .f32} {X Y B K V U M N H : Heads}
  {h : FVec Ideal S16x128x128 .f32}

theorem is_half (hm : Is m M) : Is (half m) M := hm

theorem lane0 (s : Fin 64) (h : s.val < 128) : (⟨s.val, h⟩ : Fin 128) = lane 0 s := Fin.ext (by simp [lane])
theorem lane1 (s : Fin 64) (h : 64 + s.val < 128) : (⟨64 + s.val, h⟩ : Fin 128) = lane 1 s := Fin.ext (by simp [lane])

theorem blocks_sum (a c : Fin 64 → EReal) (g : Fin 2) (t j : Fin 64) :
    (∑ s : Fin 64, Scalar.select (IntOp.cmpi CmpIPredicate.eq (lanes (ix3 (0 : Fin 1) s (lane g j))) 0#32) (a s) 0
      + ∑ s : Fin 64, Scalar.select (IntOp.cmpi CmpIPredicate.eq (lanes (ix3 (0 : Fin 1) s (lane g j))) 1#32) (c s) 0)
      = if g = 0 then ∑ s, a s else ∑ s, c s := by
  simp only [pick0, pick1]
  fin_cases g <;> simp

theorem mul_sum (X Y : Mat) (t j : Fin 64) : (((X * Y) t j : ℝ) : EReal) = ∑ s, (X t s : EReal) * (Y s j : EReal) := by
  rw [Matrix.mul_apply, coe_sum]
  simp only [EReal.coe_mul]

theorem is_times (hx : Is x X) (hy : Is y Y) : Is (times x (blocks y)) (fun p g => X p g * Y p g) := by
  intro p g t j
  unfold times blocks above only
  pointwise
  rw [blocks_sum _ _ g t j, mul_sum]
  fin_cases g
  · exact Finset.sum_congr rfl fun s _ => by rw [lane0]; exact congrArg₂ _ (hx p 0 t s) (hy p 0 s j)
  · exact Finset.sum_congr rfl fun s _ => by rw [lane1]; exact congrArg₂ _ (hx p 1 t s) (hy p 1 s j)

theorem is_both (hm : Is m M) (hn : Is n N) (p : Fin 16) (g : Fin 2) (t j : Fin 64) :
    (∑ s : Fin 64, Scalar.select (IntOp.cmpi CmpIPredicate.eq (lanes (ix3 (0 : Fin 1) s (lane g j))) 0#32)
        (m (ix3 p t ⟨s.val, by omega⟩) * n (ix3 p s (lane g j))) 0
      + ∑ s : Fin 64, Scalar.select (IntOp.cmpi CmpIPredicate.eq (lanes (ix3 (0 : Fin 1) s (lane g j))) 1#32)
        (m (ix3 p t ⟨64 + s.val, by omega⟩) * n (ix3 p s (lane g j))) 0) = (((M p g * N p g) t j : ℝ) : EReal) := by
  rw [blocks_sum _ _ g t j, mul_sum]
  fin_cases g
  · exact Finset.sum_congr rfl fun s _ => by rw [lane0]; exact congrArg₂ _ (hm p 0 t s) (hn p 0 s j)
  · exact Finset.sum_congr rfl fun s _ => by rw [lane1]; exact congrArg₂ _ (hm p 1 t s) (hn p 1 s j)

theorem is_power (hm : Is m M) : Is (power m n) (fun p g => M p g * M p g) := by
  intro p g t j
  unfold power both half beside2 blocks above only
  pointwise
  exact is_both hm hm p g t j

theorem is_sums (hm : Is m M) (hn : Is n N) : Is (sums m n) (fun p g => N p g + M p g * N p g) := by
  intro p g t j
  unfold sums both half beside2 blocks above only
  pointwise
  rw [is_both hm hn p g t j, hn p g t j, Matrix.add_apply, EReal.coe_add]

theorem is_sum0 (hm : Is m M) : Is (sum0 m) (fun p g => 1 + M p g) := by
  intro p g t j
  unfold sum0
  pointwise
  rw [diag_lane, hm p g t j, Matrix.add_apply, EReal.coe_add]

theorem is_add (hm : Is m M) (hn : Is n N) : Is (addf m n) (fun p g => M p g + N p g) := by
  intro p g t j
  pointwise
  rw [hm p g t j, hn p g t j, Matrix.add_apply, EReal.coe_add]

theorem is_pow0 (hm : Is m M) : Is (pow0 m) (fun p g => M p g * M p g) := is_times (is_half hm) (is_half hm)

theorem is_inverse (hm : Is m M) : Is (inverse m) (fun p g => geo (M p g)) := by
  have s0 := is_sum0 hm
  have p0 := is_pow0 hm
  have s1 := is_sums p0 s0
  have p1 := is_power (n := sum0 m) p0
  have s2 := is_sums p1 s1
  have p2 := is_power (n := sums (pow0 m) (sum0 m)) p1
  have s3 := is_sums p2 s2
  have p3 := is_power (n := sums (power (pow0 m) (sum0 m)) (sums (pow0 m) (sum0 m))) p2
  have s4 := is_sums p3 s3
  exact is_half (is_add s4 (is_times (is_half (is_power p3)) (is_half s4)))

/-! The scores. -/

theorem sum_head (p : Fin 16) (t s : Fin 64) (g : Fin 2) (a : Fin 128 → EReal) (c : Fin 128 → EReal) (A C : Fin 64 → ℝ)
    (ha : ∀ j, a (lane g j) = (A j : EReal)) (hc : ∀ j, c (lane g j) = (C j : EReal)) (w : BitVec 32) (hw : w = BitVec.ofNat 32 g.val) :
    (∑ q : Fin 128, a q * Scalar.select (IntOp.cmpi CmpIPredicate.eq (lanes (ix3 (0 : Fin 1) s q)) w) (c q) 0)
      = ((∑ j, A j * C j : ℝ) : EReal) := by
  rw [sum_lanes, coe_sum]
  simp only [pick _ g s _ _ _ w hw]
  fin_cases g
  · simp only [show ((1 : Fin 2) = 0) = False from by decide, Fin.zero_eta, if_true, if_false, mul_zero, Finset.sum_const_zero, add_zero] at ha hc ⊢
    exact Finset.sum_congr rfl fun j _ => by rw [ha j, hc j, EReal.coe_mul]
  · simp only [show ((0 : Fin 2) = 1) = False from by decide, Fin.mk_one, if_true, if_false, mul_zero, Finset.sum_const_zero, zero_add] at ha hc ⊢
    exact Finset.sum_congr rfl fun j _ => by rw [ha j, hc j, EReal.coe_mul]

theorem score_sum (hx : Is x X) (hb : Is b B) (p : Fin 16) (g : Fin 2) (t s : Fin 64) :
    (∑ q : Fin 128, x (ix3 p t q) *
      if h : (lane g s).val < 64 then
        Scalar.select (IntOp.cmpi CmpIPredicate.eq (lanes (ix3 (0 : Fin 1) ⟨(lane g s).val, h⟩ q)) 0#32) (b (ix3 p ⟨(lane g s).val, h⟩ q)) 0
      else
        Scalar.select (IntOp.cmpi CmpIPredicate.eq (lanes (ix3 (0 : Fin 1) ⟨(lane g s).val - 64, by omega⟩ q)) 1#32)
          (b (ix3 p ⟨(lane g s).val - 64, by omega⟩ q)) 0) = (((X p g * (B p g)ᵀ) t s : ℝ) : EReal) := by
  fin_cases g
  · have e : (lane 0 s).val < 64 := by simp [lane]
    simp only [Fin.zero_eta, dif_pos e]
    have e2 : (⟨(lane 0 s).val, e⟩ : Fin 64) = s := Fin.ext (by simp [lane])
    rw [e2]
    exact sum_head p t s 0 (fun q => x (ix3 p t q)) (fun q => b (ix3 p s q)) _ _ (fun j => hx p 0 t j) (fun j => hb p 0 s j) _ rfl
  · have e : ¬ (lane 1 s).val < 64 := by simp [lane]
    simp only [Fin.mk_one, dif_neg e]
    have e2 : (⟨(lane 1 s).val - 64, by omega⟩ : Fin 64) = s := Fin.ext (by simp [lane])
    rw [e2]
    exact sum_head p t s 1 (fun q => x (ix3 p t q)) (fun q => b (ix3 p s q)) _ _ (fun j => hx p 1 t j) (fun j => hb p 1 s j) _ rfl

theorem coe_low (M : Mat) (t s : Fin 64) : ((low M t s : ℝ) : EReal) = if s < t then (M t s : EReal) else 0 := by
  unfold low; split_ifs <;> simp
theorem coe_lowEq (M : Mat) (t s : Fin 64) : ((lowEq M t s : ℝ) : EReal) = if s ≤ t then (M t s : EReal) else 0 := by
  unfold lowEq; split_ifs <;> simp

theorem is_scoreAB (hx : Is x X) (hb : Is b B) : Is (scoreAB (scores x y b k)) (fun p g => low (X p g * (B p g)ᵀ)) := by
  intro p g t s
  unfold scoreAB scores maskBy above2 blocks above only zeros
  pointwise
  rw [strictly_lane, score_sum hx hb, coe_low]

theorem is_scoreAK (hx : Is x X) (hk : Is k K) : Is (scoreAK (scores x y b k)) (fun p g => low (X p g * (K p g)ᵀ)) := by
  intro p g t s
  unfold scoreAK scores maskBy half above2 blocks above only zeros
  pointwise
  rw [strictly_lane, score_sum hx hk, coe_low]

theorem is_scoreRB (hy : Is y Y) (hb : Is b B) : Is (scoreRB (scores x y b k)) (fun p g => lowEq (Y p g * (B p g)ᵀ)) := by
  intro p g t s
  unfold scoreRB scores maskBy half above2 blocks above only zeros
  pointwise
  rw [upto_lane, score_sum hy hb, coe_lowEq]

theorem is_scoreRK (hy : Is y Y) (hk : Is k K) : Is (scoreRK (scores x y b k)) (fun p g => lowEq (Y p g * (K p g)ᵀ)) := by
  intro p g t s
  unfold scoreRK scores maskBy half above2 blocks above only zeros
  pointwise
  rw [upto_lane, score_sum hy hk, coe_lowEq]

/-! What the carried state contributes. -/

theorem state_sum (hx : Is x X) (hh : IsState h H) (p : Fin 16) (g : Fin 2) (t i : Fin 64) :
    (∑ q : Fin 128, x (ix3 p t q) * h (ix3 p (lane g i) q)) = (((X p g * (H p g)ᵀ) t i : ℝ) : EReal) := by
  rw [sum_lanes, mul_sum]
  simp only [hx p _ t _, hh p g i _ _]
  fin_cases g
  · simp [Matrix.transpose_apply]
  · simp [Matrix.transpose_apply]

theorem is_corr {a : FVec Ideal S16x64x128 .bf16} {A : Heads} (hx : Is x X) (hh : IsState h H) (ha : Is a A) (hu : Is u U) (hv : Is v V) :
    Is (corr x y h a u v) (fun p g => U p g * (X p g * (H p g)ᵀ + A p g * V p g)) := by
  refine is_half (is_times hu (is_half (is_add (M := fun p g => X p g * (H p g)ᵀ) ?_ (is_times ha hv))))
  intro p g t i
  unfold fromState above
  pointwise
  exact state_sum hx hh p g t i

theorem pair_sum (a c : Fin 64 → EReal) (g : Fin 2) (j : Fin 64) (r : Fin 128 → EReal) (w : FVec Ideal S16x64x128 .bf16) (p : Fin 16)
    (R W : Fin 64 → ℝ) (hr : ∀ s, r (lane g s) = (R s : EReal)) (hw : ∀ s, w (ix3 p s (lane g j)) = (W s : EReal)) :
    (∑ q : Fin 128, r q * if h : q.val < 64 then
        Scalar.select (IntOp.cmpi CmpIPredicate.eq (lanes (ix3 (0 : Fin 1) ⟨q.val, h⟩ (lane g j))) 0#32) (w (ix3 p ⟨q.val, h⟩ (lane g j))) 0
      else Scalar.select (IntOp.cmpi CmpIPredicate.eq (lanes (ix3 (0 : Fin 1) ⟨q.val - 64, by omega⟩ (lane g j))) 1#32)
        (w (ix3 p ⟨q.val - 64, by omega⟩ (lane g j))) 0) = ∑ s, (R s : EReal) * (W s : EReal) := by
  rw [sum_lanes]
  have e0 : ∀ s : Fin 64, (lane 0 s).val < 64 := fun s => by simp [lane]
  have e1 : ∀ s : Fin 64, ¬ (lane 1 s).val < 64 := fun s => by simp [lane]
  have f0 : ∀ s : Fin 64, (⟨(lane 0 s).val, e0 s⟩ : Fin 64) = s := fun s => Fin.ext (by simp [lane])
  have f1 : ∀ s : Fin 64, (⟨(lane 1 s).val - 64, by omega⟩ : Fin 64) = s := fun s => Fin.ext (by simp [lane])
  simp only [dif_pos (e0 _), dif_neg (e1 _), f0, f1, pick0, pick1, hw]
  fin_cases g
  · simp only [Fin.zero_eta] at hr
    simp [hr]
  · simp only [Fin.mk_one] at hr
    simp [hr]

theorem is_outs (hy : Is y Y) (hh : IsState h H) (hk : Is k K) (hb : Is b B) (hv : Is v V) (hu : Is u U) :
    Is (outs x y h k b v u) (fun p g => Y p g * (H p g)ᵀ + (K p g * V p g + B p g * U p g)) := by
  intro p g t i
  unfold outs fromState beside above2 blocks above only
  pointwise
  rw [state_sum hy hh p g t i, Matrix.add_apply, EReal.coe_add, Matrix.add_apply, EReal.coe_add]
  refine congrArg₂ (· + ·) rfl ?_
  rw [Fin.sum_univ_two_halves 128 128 rfl, mul_sum, mul_sum]
  refine congrArg₂ (· + ·) ?_ ?_
  · refine Eq.trans (Finset.sum_congr rfl fun q _ => ?_) (pair_sum (fun _ => 0) (fun _ => 0) g i (fun q => k (ix3 p t q)) v p (fun s => K p g t s) (fun s => V p g s i) (fun s => hk p g t s) (fun s => hv p g s i))
    rw [dif_pos (show q.val < 128 from q.isLt), dif_pos (show q.val < 128 from q.isLt)]
  · refine Eq.trans (Finset.sum_congr rfl fun q _ => ?_) (pair_sum (fun _ => 0) (fun _ => 0) g i (fun q => b (ix3 p t q)) u p (fun s => B p g t s) (fun s => U p g s i) (fun s => hb p g t s) (fun s => hu p g s i))
    have e : ¬ (128 + q.val) < 128 := by omega
    rw [dif_neg e, dif_neg e]
    simp only [Nat.add_sub_cancel_left]

theorem is_next {l : FVec Ideal S16x64x128 .f32} {L : Heads} (hl : Is l L) (hh : IsState h H) (hv : Is v V) (hu : Is u U) (hk : Is k K) (hb : Is b B) :
    IsState (nextState l h v u k b) (fun p g => Matrix.of (fun i j => H p g i j * Real.exp (L p g 63 j)) + ((V p g)ᵀ * K p g + (U p g)ᵀ * B p g)) := by
  intro p g i g' j
  unfold nextState above last
  pointwise
  rw [head_lane, hh p g i g' j, show l (ix3 p 63 (lane g' j)) = _ from hl p g' 63 j]
  by_cases e : g = g'
  · subst e
    simp only [if_true, Matrix.add_apply, Matrix.of_apply, EReal.coe_add, EReal.coe_mul, mul_sum, Matrix.transpose_apply, Ideal.exp_coe,
      hv p g _ i, hu p g _ i, hk p g _ j, hb p g _ j]
  · simp [if_neg e]

end Cert.KernelIdeal.Hand
-- ==== Proof.Data.lean ====
module

public import proofs.«01_k».proof.Proof.Chunk

/-! The scan's inputs as real functions of a position and a channel, and what each position does to each head's
state: the decay from a squashed low-rank gate, the correction key of length one, the in-context learning rate. -/

@[expose] public section

noncomputable section

namespace Scan

/-- The layer's inputs, position by position: key, value, receptance, and the two gates before their logistic. -/
structure Data where
  k : ℕ → Fin 2048 → ℝ
  v : ℕ → Fin 2048 → ℝ
  r : ℕ → Fin 2048 → ℝ
  dec : ℕ → Fin 2048 → ℝ
  icl : ℕ → Fin 2048 → ℝ
  kw : Fin 2048 → ℝ
  ka : Fin 2048 → ℝ

/-- The channel of a head's lane: head `2 p + g`, lane `j`. -/
def chan (p : Fin 16) (g : Fin 2) (j : Fin 64) : Fin 2048 := ⟨128 * p.val + (64 * g.val + j.val), by omega⟩

/-- The logistic function. -/
def logistic (x : ℝ) : ℝ := 1 / (1 + Real.exp (0 - x))

/-- The least length a correction key is divided by. -/
def least : ℝ := 9223372 / 2 ^ 63

namespace Data

variable (d : Data)

def lw (n : ℕ) (c : Fin 2048) : ℝ := (0 - Real.exp (-(1 / 2))) * logistic (d.dec n c)
def a (n : ℕ) (c : Fin 2048) : ℝ := logistic (d.icl n c)
def kr (n : ℕ) (c : Fin 2048) : ℝ := d.k n c * d.kw c
def length (n : ℕ) (p : Fin 16) (g : Fin 2) : ℝ :=
  max (Real.sqrt (∑ j, d.kr n (chan p g j) * d.kr n (chan p g j))) least
def kk (n : ℕ) (p : Fin 16) (g : Fin 2) (j : Fin 64) : ℝ := d.kr n (chan p g j) * (1 / d.length n p g)
def kd (n : ℕ) (c : Fin 2048) : ℝ := d.k n c * (1 + (d.a n c - 1) * d.ka c)

/-- What a position does to one head. -/
def pos (p : Fin 16) (g : Fin 2) (n : ℕ) : Pos where
  lw := fun j => d.lw n (chan p g j)
  α := fun j => -d.kk n p g j
  β := fun j => d.kk n p g j * d.a n (chan p g j)
  κ := fun j => d.kd n (chan p g j)
  v := fun j => d.v n (chan p g j)
  r := fun j => d.r n (chan p g j)

theorem least_pos : 0 < least := by unfold least; norm_num

theorem length_pos (n : ℕ) (p : Fin 16) (g : Fin 2) : 0 < d.length n p g := lt_max_of_lt_right least_pos

end Data

/-- The layer's projections in scan order: the context's rows, then the latents'. -/
def rowAt (za : Fin 8192 → Fin 6592 → ℝ) (zca : Fin 256 → Fin 6592 → ℝ) (n : ℕ) (c : Fin 6592) : ℝ :=
  if h : n < 256 then zca ⟨n, h⟩ c else if h : n - 256 < 8192 then za ⟨n - 256, h⟩ c else 0

/-- The scan's inputs, of the layer's arrays. -/
def inputs (za : Fin 8192 → Fin 6592 → ℝ) (zca : Fin 256 → Fin 6592 → ℝ) (kw ka w0 a0 : Fin 2048 → ℝ) (wd wa : Fin 96 → Fin 2048 → ℝ) : Data where
  k := fun n c => rowAt za zca n ⟨c.val, by omega⟩
  v := fun n c => rowAt za zca n ⟨2048 + c.val, by omega⟩
  r := fun n c => rowAt za zca n ⟨4288 + c.val, by omega⟩
  dec := fun n c => w0 c + ∑ x : Fin 96, Real.tanh (rowAt za zca n ⟨4096 + x.val, by omega⟩) * wd x c
  icl := fun n c => a0 c + ∑ x : Fin 96, rowAt za zca n ⟨4192 + x.val, by omega⟩ * wa x c
  kw := kw
  ka := ka

theorem logistic_den (x : ℝ) : 1 + Real.exp (0 - x) ≠ 0 := by positivity

end Scan
-- ==== Proof.Layout.lean ====
module

public import proofs.«01_k».proof.Proof.Reads
public import proofs.«01_k».proof.Proof.Data

/-! Where the scan's groupings put their elements: channel `128 p + 64 g + j` of a row is channel `j` of head `g` of
group `p`, and row `64 i + t` of a grid point is position `t` of chunk `i`. -/

@[expose] public section

noncomputable section

namespace Cert.KernelIdeal.Hand

open Idealize.ShloMosaic Idealize.ShloMosaic.TcCoe Cert.KernelIdeal Cert.KernelIdeal.Gen Scan

set_option maxRecDepth 100000

/-- The channel of a lane of a group. -/
def col (p : Fin 16) (q : Fin 128) : Fin 2048 := ⟨128 * p.val + q.val, by omega⟩
/-- The row of a chunk's position. -/
def row (i : Fin 4) (t : Fin 64) : Fin 256 := ⟨64 * i.val + t.val, by omega⟩

theorem stacked_at (x : FVec Ideal S64x2048 .f32) (p : Fin 16) (t : Fin 64) (q : Fin 128) :
    stacked x (ix3 p t q) = x (ix2 t (col p q)) := by
  unfold stacked
  pointwise [k0_pay48]
  fin_vals p with hp
  all_goals
    simp (disch := omega) only [hp, dif_pos, dif_neg]
    refine congrArg x (congrArg₂ ix2 (Fin.ext rfl) (Fin.ext ?_))
    simp only [col, hp]
    try omega

theorem group_at (off : Fin 3 → ℕ) (hs : S16x64x128.Slices off S1x64x128) (x : FVec Ideal S16x64x128 .f32) (t : Fin 64) (q : Fin 128)
    (p : Fin 16) (h : off = ![p.val, 0, 0]) : group off hs x (ix2 t q) = x (ix3 p t q) := by
  subst h
  unfold group
  pointwise
  try rfl

/-- Sixteen groups side by side, read in one of them. -/
theorem lane_piece (f : Fin 16 → FVec Ideal S64x128 .f32) (xs : List ((s : Shape) × (s.Idx → EReal)))
    (hx : xs = List.ofFn fun n : Fin 16 => ⟨S64x128, f n⟩)
    (h : Shape.Concatenates (xs.map (·.1)) S64x2048 1) (p : Fin 16) (t : Fin 64) (q : Fin 128) :
    concatenate S64x2048 1 xs h (ix2 t (col p q)) = f p (ix2 t q) := by
  subst hx
  have hc : (col p q).val = 128 * p.val + q.val := rfl
  refine concatenate_ofFn_apply (t := S64x2048) 1 f h rfl 128 rfl (ix2 t (col p q)) p ?_ (ix2 t q) ?_ fun b hb => ?_
  · show (col p q).val / 128 = p.val
    omega
  · show q.val = (col p q).val % 128
    omega
  · fin_vals b with hb'
    · obtain rfl : b = 0 := Fin.ext hb'
      rfl
    · exact absurd (Fin.ext hb') hb

theorem slices_group : ∀ n : Fin 16, S16x64x128.Slices ![n.val, 0, 0] S1x64x128 := by decide

theorem flat_at (x : FVec Ideal S16x64x128 .f32) (p : Fin 16) (t : Fin 64) (q : Fin 128) :
    flat x (ix2 t (col p q)) = x (ix3 p t q) :=
  (lane_piece (fun n => group ![n.val, 0, 0] (slices_group n) x) _ rfl _ p t q).trans (group_at _ _ x t q p rfl)

theorem chan_col (p : Fin 16) (g : Fin 2) (j : Fin 64) : chan p g j = col p (lane g j) := rfl

/-- A concatenation by rows, read in the piece that starts at row `pre`. -/
theorem piece_at (xs : List ((s : Shape) × (s.Idx → EReal))) (h : Shape.Concatenates (xs.map (·.1)) S256x2048 0) (k : ℕ)
    (hk : k < xs.length) (x : FVec Ideal S64x2048 .f32) (hx : xs[k] = ⟨S64x2048, x⟩) (pre : ℕ)
    (hpre : (((xs.take k).map (·.1)).map fun s => if h : s.rank = S256x2048.rank then s.size ((0 : Fin S256x2048.rank).cast h.symm) else 0).sum = pre)
    (t : Fin 64) (c : Fin 2048) (r : Fin 256) (hr : pre + t.val = r.val) :
    concatenate S256x2048 0 xs h (ix2 r c) = x (ix2 t c) := by
  refine concatenate_apply_piece (t := S256x2048) 0 xs h (ix2 r c) k hk S64x2048 _ hx rfl pre hpre (ix2 t c) (fun b hb => ?_) hr
  fin_vals b with hb'
  · exact absurd (Fin.ext hb') hb
  · obtain rfl : b = 1 := Fin.ext hb'
    rfl

theorem pointOut_at (b : Blk Ideal) (h : FVec Ideal S16x128x128 .f32) (t : Fin 64) (p : Fin 16) (q : Fin 128) :
    pointOut b h (ix2 (row 0 t) (col p q)) = outsOf (ops0 b) h (ix3 p t q) ∧
    pointOut b h (ix2 (row 1 t) (col p q)) = outsOf (ops1 b) (state1 b h) (ix3 p t q) ∧
    pointOut b h (ix2 (row 2 t) (col p q)) = outsOf (ops2 b) (state2 b h) (ix3 p t q) ∧
    pointOut b h (ix2 (row 3 t) (col p q)) = outsOf (ops3 b) (state3 b h) (ix3 p t q) := by
  unfold pointOut
  refine ⟨?_, ?_, ?_, ?_⟩
  · exact (piece_at _ _ 0 (by simp) _ rfl 0 rfl t _ (row 0 t) (by simp [row])).trans (flat_at _ p t q)
  · exact (piece_at _ _ 1 (by simp) _ rfl 64 rfl t _ (row 1 t) (by simp [row])).trans (flat_at _ p t q)
  · exact (piece_at _ _ 2 (by simp) _ rfl 128 rfl t _ (row 2 t) (by simp [row])).trans (flat_at _ p t q)
  · exact (piece_at _ _ 3 (by simp) _ rfl 192 rfl t _ (row 3 t) (by simp [row])).trans (flat_at _ p t q)

theorem slice_at (i : Fin 4) (off : Fin 2 → ℕ) (hs : S256x2048.Slices off S64x2048) (ho : off = ![64 * i.val, 0])
    (x : FVec Ideal S256x2048 .f32) (p : Fin 16) (t : Fin 64) (q : Fin 128) :
    stacked (extractStridedSlice S64x2048 off x hs) (ix3 p t q) = x (ix2 (row i t) (col p q)) := by
  subst ho
  rw [stacked_at]
  pointwise
  refine congrArg x (congrArg₂ ix2 (Fin.ext rfl) (Fin.ext ?_))
  simp

end Cert.KernelIdeal.Hand
-- ==== Proof.Step.lean ====
module

public import proofs.«01_k».proof.Proof.Reads

/-! One chunk of the scan, computed at once, is 64 steps of the recurrence, head by head. -/

@[expose] public section

noncomputable section

namespace Cert.KernelIdeal.Hand

open Idealize.ShloMosaic Idealize.ShloMosaic.TcCoe Cert.KernelIdeal Cert.KernelIdeal.Gen Scan
open scoped Matrix

/-- A chunk's operands hold these positions, head by head. -/
structure Holds (o : Ops Ideal) (x : Fin 16 → Fin 2 → ℕ → Pos) (KK A : Heads) : Prop where
  lw : Is o.lw (fun p g t j => (x p g t).lw j)
  l : Is o.l (fun p g => lcum (x p g))
  kd : Is o.kd (fun p g t j => (x p g t).κ j)
  v : Is o.v (fun p g => mV (x p g))
  r : Is o.r (fun p g t j => (x p g t).r j)
  kk : Is o.kk KK
  a : Is o.a A
  α : ∀ p g (t : Fin 64) j, (x p g t).α j = -KK p g t j
  β : ∀ p g (t : Fin 64) j, (x p g t).β j = KK p g t j * A p g t j

variable {o : Ops Ideal} {x : Fin 16 → Fin 2 → ℕ → Pos} {KK A : Heads} {h : FVec Ideal S16x128x128 .f32} {H : Heads}

theorem Holds.opA (s : Holds o x KK A) : Is (opA o.lw o.l o.kk) (fun p g => mA (x p g)) := by
  intro p g t j
  unfold Hand.opA zeros half
  pointwise
  rw [s.kk p g t j, s.l p g t j, s.lw p g t j]
  simp only [mA, s.α p g t j, EReal.coe_mul, EReal.coe_neg, ← EReal.coe_sub, Ideal.exp_coe, zero_sub]

theorem Holds.opR (s : Holds o x KK A) : Is (opR o.l o.r) (fun p g => mR (x p g)) := by
  intro p g t j
  unfold Hand.opR half
  pointwise
  rw [s.r p g t j, s.l p g t j]
  simp only [mR, EReal.coe_mul, Ideal.exp_coe]

theorem Holds.opB (s : Holds o x KK A) : Is (opB o.l o.a o.kk) (fun p g => mB (x p g)) := by
  intro p g t j
  unfold Hand.opB zeros half
  pointwise
  rw [s.kk p g t j, s.l p g t j, s.a p g t j]
  simp only [mB, s.β p g t j, EReal.coe_mul, ← EReal.coe_neg, Ideal.exp_coe, zero_sub]

theorem Holds.opK (s : Holds o x KK A) : Is (opK o.l o.kd) (fun p g => mK (x p g)) := by
  intro p g t j
  unfold Hand.opK zeros half
  pointwise
  rw [s.kd p g t j, s.l p g t j]
  simp only [mK, EReal.coe_mul, ← EReal.coe_neg, Ideal.exp_coe, zero_sub]

theorem Holds.tailK (s : Holds o x KK A) : Is (tailK o.l o.kd) (fun p g => tK (x p g)) := by
  intro p g t j
  unfold Hand.tailK fromLast half last
  pointwise
  rw [s.kd p g t j, s.l p g t j, show o.l (ix3 p 63 (lane g j)) = _ from s.l p g 63 j]
  simp only [tK, EReal.coe_mul, ← EReal.coe_sub, Ideal.exp_coe]

theorem Holds.tailB (s : Holds o x KK A) : Is (tailB o.l o.a o.kk) (fun p g => tB (x p g)) := by
  intro p g t j
  unfold Hand.tailB fromLast half last
  pointwise
  rw [s.kk p g t j, s.a p g t j, s.l p g t j, show o.l (ix3 p 63 (lane g j)) = _ from s.l p g 63 j]
  simp only [tB, s.β p g t j, EReal.coe_mul, ← EReal.coe_sub, Ideal.exp_coe]

theorem Holds.corr (s : Holds o x KK A) (hh : IsState h H) :
    Is (corrOf o h) (fun p g => corrections (x p g) (H p g)) :=
  is_corr s.opA hh (is_scoreAK s.opA s.opK) (is_inverse (is_scoreAB s.opA s.opB)) (is_half s.v)

/-- What the chunk's positions read. -/
theorem Holds.outs (s : Holds o x KK A) (hh : IsState h H) :
    Is (outsOf o h) (fun p g t i => read (x p g) (H p g) t.val i) := by
  intro p g t i
  show _ = ((Scan.read (x p g) (H p g) t.val i : ℝ) : EReal)
  rw [read_eq]
  exact is_outs s.opR hh (is_scoreRK s.opR s.opK) (is_scoreRB s.opR s.opB) (is_half s.v) (s.corr hh) p g t i

/-- The state after the chunk. -/
theorem Holds.next (s : Holds o x KK A) (hh : IsState h H) :
    IsState (stateOf o h) (fun p g => seq (x p g) (H p g) 64) := by
  have e : (fun p g => seq (x p g) (H p g) 64) = fun p g => Scan.next (x p g) (H p g) := by
    funext p g; exact next_eq _ _
  rw [e]
  exact is_next s.l hh (is_half s.v) (s.corr hh) s.tailK s.tailB

end Cert.KernelIdeal.Hand
-- ==== Proof.Pre.lean ====
module

public import proofs.«01_k».proof.Proof.Layout
public import proofs.«01_k».proof.Proof.Step

/-! What a grid point prepares before its chunks, on real inputs: the decays and their sums within each chunk, the
learning rates, the keys, and the correction keys of length one. -/

@[expose] public section

noncomputable section

namespace Cert.KernelIdeal.Hand

open Idealize.ShloMosaic Idealize.ShloMosaic.TcCoe Cert.KernelIdeal Cert.KernelIdeal.Gen Scan

set_option maxRecDepth 100000

/-- A bias plus 128 products. -/
def branch (b0 : EReal) (f w : Fin 128 → EReal) : EReal := b0 + ∑ x : Fin 128, f x * w x

/-- A grid point's blocks hold the layer's inputs from position `n0` on. -/
structure Fits (b : Blk Ideal) (d : Data) (n0 : ℕ) : Prop where
  k : ∀ (t : Fin 256) c, b.k (ix2 t c) = ((d.k (n0 + t.val) c : ℝ) : EReal)
  v : ∀ (t : Fin 256) c, b.v (ix2 t c) = ((d.v (n0 + t.val) c : ℝ) : EReal)
  r : ∀ (t : Fin 256) c, b.r (ix2 t c) = ((d.r (n0 + t.val) c : ℝ) : EReal)
  kw : ∀ c, b.kw (ix2 (0 : Fin 1) c) = ((d.kw c : ℝ) : EReal)
  ka : ∀ c, b.ka (ix2 (0 : Fin 1) c) = ((d.ka c : ℝ) : EReal)
  dec : ∀ (t : Fin 256) c, branch (b.w0 (ix2 (0 : Fin 1) c)) (fun x => Ideal.tanh (b.la (ix2 t (⟨x.val, by omega⟩ : Fin 256)))) (fun x => b.wd (ix2 x c))
    = ((d.dec (n0 + t.val) c : ℝ) : EReal)
  icl : ∀ (t : Fin 256) c, branch (b.a0 (ix2 (0 : Fin 1) c)) (fun x => b.la (ix2 t (⟨96 + x.val, by omega⟩ : Fin 256))) (fun x => b.wa (ix2 x c))
    = ((d.icl (n0 + t.val) c : ℝ) : EReal)

theorem half_word : Ideal.ofBits .f32 3204448256#32 = ((-(1 / 2) : ℝ) : EReal) := by
  simp [Ideal.ofBits, Ideal.ieee, -EReal.coe_mul]
  norm_num

theorem least_word : Ideal.ofBits .f32 730643660#32 = ((least : ℝ) : EReal) := by
  simp [Ideal.ofBits, Ideal.ieee, -EReal.coe_mul, least]
  norm_num

theorem logistic_real (x : ℝ) : Ideal.div 1 (1 + Ideal.exp (0 - (x : EReal))) = ((logistic x : ℝ) : EReal) := by
  rw [← EReal.coe_zero, ← EReal.coe_sub, Ideal.exp_coe, ← EReal.coe_one, ← EReal.coe_add, Ideal.div_coe (logistic_den x), ← EReal.coe_mul]
  simp [Scan.logistic]

variable {b : Blk Ideal} {d : Data} {n0 : ℕ}

theorem Fits.preLw (f : Fits b d n0) (t : Fin 256) (c : Fin 2048) : preLw b (ix2 t c) = ((d.lw (n0 + t.val) c : ℝ) : EReal) := by
  unfold Hand.preLw
  pointwise [k0_pay12, k0_pay8, k0_pay10, k0_pay11, k0_pay7]
  have e := f.dec t c
  unfold branch at e
  rw [e, logistic_real, half_word, Ideal.exp_coe, ← EReal.coe_zero, ← EReal.coe_sub, ← EReal.coe_mul]
  rfl

theorem Fits.preA (f : Fits b d n0) (t : Fin 256) (c : Fin 2048) : preA b (ix2 t c) = ((d.a (n0 + t.val) c : ℝ) : EReal) := by
  unfold Hand.preA
  pointwise [k0_pay13, k0_pay9, k0_pay7]
  have e := f.icl t c
  unfold branch at e
  rw [e, logistic_real]
  rfl

theorem Fits.preKd (f : Fits b d n0) (t : Fin 256) (c : Fin 2048) : preKd b (ix2 t c) = ((d.kd (n0 + t.val) c : ℝ) : EReal) := by
  unfold Hand.preKd
  pointwise [k0_pay14, k0_pay13, k0_pay9, k0_pay7, k0_pay4]
  have e := f.icl t c
  unfold branch at e
  rw [e, logistic_real, f.k, f.ka, ← EReal.coe_one, ← EReal.coe_sub, ← EReal.coe_mul, ← EReal.coe_add, ← EReal.coe_mul]
  rfl

theorem chunk_bits : ∀ t : Fin 256, Scalar.select
    (IntOp.andi
      (IntOp.cmpi CmpIPredicate.ne
        (IntOp.subi (BitVec.setWidth 32 (IntOp.cmpi CmpIPredicate.sgt (BitVec.ofNat 32 t.val) 0#32))
          (BitVec.setWidth 32 (IntOp.cmpi CmpIPredicate.slt (BitVec.ofNat 32 t.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 t.val) 64#32) 0#32))
    (IntOp.subi (IntOp.divsi ArithUnit.vector (BitVec.ofNat 32 t.val) 64#32) 1#32)
    (IntOp.divsi ArithUnit.vector (BitVec.ofNat 32 t.val) 64#32) = BitVec.ofNat 32 (t.val / 64) := by
  decide +kernel

theorem same_bits : ∀ i j : Fin 4, IntOp.cmpi CmpIPredicate.eq (BitVec.ofNat 32 i.val) (BitVec.ofNat 32 j.val) = if i = j then 1#1 else 0#1 := by
  decide +kernel

theorem upto_bits (i j : Fin 256) : IntOp.cmpi CmpIPredicate.sle (BitVec.ofNat 32 i.val) (BitVec.ofNat 32 j.val) = if i.val ≤ j.val then 1#1 else 0#1 := by
  have e : ∀ i : Fin 256, (BitVec.ofNat 32 i.val).toInt = (i.val : ℤ) := by decide +kernel
  show BitVec.ofBool (BitVec.sle _ _) = _
  rw [BitVec.sle, e, e]
  by_cases h : i.val ≤ j.val
  · simp [h]
  · simp [h]

theorem same_chunk (i j : Fin 4) (s t : Fin 64) :
    IntOp.cmpi CmpIPredicate.eq (BitVec.ofNat 32 ((row i s).val / 64)) (BitVec.ofNat 32 ((row j t).val / 64)) = if i = j then 1#1 else 0#1 := by
  have e : ∀ (i : Fin 4) (s : Fin 64), (row i s).val / 64 = i.val := fun i s => by simp only [row]; omega
  rw [e, e, same_bits]

theorem sum_rows (f : Fin 256 → EReal) : ∑ x, f x = ∑ i, ∑ s, f (row i s) := by
  rw [Fin.sum_univ_tiles 4 64 rfl f]
  exact Finset.sum_congr rfl fun i _ => Finset.sum_congr rfl fun s _ => congrArg f (Fin.ext (by simp [row, mul_comm]))

theorem Fits.preCum (f : Fits b d n0) (i : Fin 4) (t : Fin 64) (c : Fin 2048) :
    preCum b (ix2 (row i t) c) = ((∑ s ∈ Finset.range (t.val + 1), d.lw (n0 + 64 * i.val + s) c : ℝ) : EReal) := by
  unfold Hand.preCum
  have hx := f.preLw
  generalize Hand.preLw b = x at hx
  pointwise [k0_pay27, k0_pay23, k0_pay24, k0_pay25, k0_pay26]
  simp only [hx, chunk_bits, ← EReal.coe_sub, sub_self, EReal.coe_zero, mul_zero, Finset.sum_const_zero, add_zero]
  rw [sum_rows, Finset.sum_eq_single i]
  · simp only [same_chunk, upto_bits, if_true]
    have e : ∀ s : Fin 64, FloatOps.sitofp (F := Ideal) .f32 (BitVec.setWidth 32 (IntOp.andi (if (row i s).val ≤ (row i t).val then 1#1 else 0#1) 1#1))
        * ((d.lw (n0 + (row i s).val) c : ℝ) : EReal) = ((if s.val < t.val + 1 then d.lw (n0 + 64 * i.val + s.val) c else 0 : ℝ) : EReal) := by
      intro s
      by_cases h : s.val ≤ t.val
      · rw [if_pos (by simp only [row]; omega), if_pos (by omega), sitofp_real, ← EReal.coe_mul]
        refine congrArg _ ?_
        simp [row, add_assoc, IntOp.andi]
      · rw [if_neg (by simp only [row]; omega), if_neg (by omega), sitofp_real, ← EReal.coe_mul]
        refine congrArg _ ?_
        simp [IntOp.andi]
    rw [Finset.sum_congr rfl fun s _ => e s, ← coe_sum]
    refine congrArg _ ?_
    rw [Fin.sum_univ_eq_sum_range (fun s => if s < t.val + 1 then d.lw (n0 + 64 * i.val + s) c else 0) 64, ← Finset.sum_filter]
    refine Finset.sum_congr (Finset.ext fun s => ?_) fun _ _ => rfl
    simp only [Finset.mem_filter, Finset.mem_range]
    omega
  · intro j _ hj
    refine Finset.sum_eq_zero fun s _ => ?_
    rw [same_chunk, if_neg (Ne.symm hj), sitofp_real, ← EReal.coe_mul]
    refine congrArg _ ?_
    simp [IntOp.andi]
  · exact fun h => absurd (Finset.mem_univ _) h

theorem sameSeg_at (i j : Fin 4) (s t : Fin 64) : sameSeg (F := Ideal) (ix2 (row i s) (row j t)) = if i = j then 1 else 0 := by
  unfold sameSeg
  pointwise [k0_pay17, k0_pay18, k0_pay19]
  rw [chunk_bits, chunk_bits, same_chunk]
  split_ifs <;> rw [sitofp_real] <;> simp

/-- Row `t` of the `e`-th slab of eight, and column `u` of the `e`-th 256 columns. -/
def slab (e : Fin 8) (t : Fin 256) : Fin 2048 := ⟨256 * e.val + t.val, by omega⟩

theorem slabs_at (y : FVec Ideal S256x2048 .f32) (z : FVec Ideal S2048x256 .f32) (w : FVec Ideal S256x256 .bf16) (e : Fin 8) (t u : Fin 256) :
    k0_pay22 y w (k0_pay20 z) (k0_pay21 z) (constant S2048x256 .f32 0x00000000#32) (ix2 t (slab e u))
      = Ideal.div (y (ix2 t (slab e u))) (max (Ideal.sqrt (∑ x, z (ix2 (slab e t) x) * w (ix2 x u)
          + ∑ x, (z (ix2 (slab e t) x) - z (ix2 (slab e t) x)) * w (ix2 x u))) (Ideal.ofBits .f32 730643660#32)) := by
  have hu : (slab e u).val = 256 * e.val + u.val := rfl
  pointwise [k0_pay22, k0_pay21, k0_pay20]
  have key : ∀ (a : Fin 2048) (v : Fin 256), a = slab e t → v = u →
      ∑ x, z (ix2 a x) * w (ix2 x v) + ∑ x, (z (ix2 a x) - z (ix2 a x)) * w (ix2 x v)
       = ∑ x, z (ix2 (slab e t) x) * w (ix2 x u) + ∑ x, (z (ix2 (slab e t) x) - z (ix2 (slab e t) x)) * w (ix2 x u) := by
    rintro _ _ rfl rfl
    rfl
  fin_vals e with he
  all_goals
    simp only [he] at hu
    simp (disch := omega) only [dif_pos, dif_neg]
    rw [key]
    · exact Fin.ext (by simp only [slab, he]; try omega)
    · exact Fin.ext (by simp only [hu]; try omega)

theorem key_at (k : FVec Ideal S256x2048 .f32) (w : FVec Ideal S1x2048 .f32) (t : Fin 256) (c : Fin 2048) :
    k0_pay15 k w (ix2 t c) = k (ix2 t c) * w (ix2 (0 : Fin 1) c) := by
  pointwise [k0_pay15]

/-- Eight slabs one above the other, read in one of them. -/
theorem slab_piece (f : Fin 8 → FVec Ideal S256x256 .f32) (xs : List ((s : Shape) × (s.Idx → EReal)))
    (hx : xs = List.ofFn fun n : Fin 8 => ⟨S256x256, f n⟩)
    (h : Shape.Concatenates (xs.map (·.1)) S2048x256 0) (e : Fin 8) (t x : Fin 256) :
    concatenate S2048x256 0 xs h (ix2 (slab e t) x) = f e (ix2 t x) := by
  subst hx
  have hc : (slab e t).val = 256 * e.val + t.val := rfl
  refine concatenate_ofFn_apply (t := S2048x256) 0 f h rfl 256 rfl (ix2 (slab e t) x) e ?_ (ix2 t x) ?_ fun b hb => ?_
  · show (slab e t).val / 256 = e.val
    omega
  · show t.val = (slab e t).val % 256
    omega
  · fin_vals b with hb'
    · exact absurd (Fin.ext hb') hb
    · obtain rfl : b = 1 := Fin.ext hb'
      rfl

theorem slices_slab : ∀ n : Fin 8, S256x2048.Slices ![0, 256 * n.val] S256x256 := by decide

theorem squares_at (k : FVec Ideal S256x2048 .f32) (w : FVec Ideal S1x2048 .f32) (e : Fin 8) (t x : Fin 256) :
    k0_pay16 k w (ix2 (slab e t) x) = k0_pay15 k w (ix2 t (slab e x)) * k0_pay15 k w (ix2 t (slab e x)) := by
  refine (slab_piece (fun n => extractStridedSlice S256x256 ![0, 256 * n.val] (mulf (k0_pay15 k w) (k0_pay15 k w)) (slices_slab n)) _ rfl concatenates_S256x256_S256x256_S256x256_S256x256_S256x256_S256x256_S256x256_S256x256_S2048x256_d0 e t x).trans ?_
  have hz : ∀ i, mulf (k0_pay15 k w) (k0_pay15 k w) i = k0_pay15 k w i * k0_pay15 k w i := fun i => by pointwise
  rw [← hz]
  generalize mulf (k0_pay15 k w) (k0_pay15 k w) = z
  pointwise
  exact congrArg z (congrArg₂ ix2 (Fin.ext (by simp)) (Fin.ext rfl))

theorem Fits.preKk (f : Fits b d n0) (t : Fin 256) (p : Fin 16) (g : Fin 2) (j : Fin 64) :
    preKk b (ix2 t (chan p g j)) = ((d.kk (n0 + t.val) p g j : ℝ) : EReal) := by
  have hk : ∀ c, k0_pay15 (F := Ideal) (k0_pay4 b.k) b.kw (ix2 t c) = ((d.kr (n0 + t.val) c : ℝ) : EReal) := fun c => by
    rw [key_at, f.kw, show k0_pay4 (F := Ideal) b.k (ix2 t c) = b.k (ix2 t c) from by pointwise [k0_pay4], f.k, ← EReal.coe_mul]
    rfl
  obtain ⟨e, i, hc⟩ : ∃ (e : Fin 8) (i : Fin 4), ∀ j, chan p g j = slab e (row i j) :=
    ⟨⟨p.val / 2, by omega⟩, ⟨2 * (p.val % 2) + g.val, by omega⟩, fun j => Fin.ext (by simp only [chan, slab, row]; omega)⟩
  unfold Hand.preKk
  rw [hc, slabs_at]
  simp only [squares_at, hk, ← EReal.coe_mul, ← EReal.coe_sub, sub_self, EReal.coe_zero, zero_mul, Finset.sum_const_zero, add_zero]
  rw [sum_rows, Finset.sum_eq_single i]
  · simp only [sameSeg_at, if_true, mul_one]
    rw [← coe_sum, Ideal.sqrt_coe, if_neg (not_lt.mpr (Finset.sum_nonneg fun _ _ => mul_self_nonneg _)), least_word,
      ← (EReal.coe_strictMono.monotone.map_max (f := ((↑) : ℝ → EReal)))]
    simp only [← hc]
    rw [show max _ _ = d.length (n0 + t.val) p g from rfl, Ideal.div_coe (d.length_pos _ _ _).ne', ← EReal.coe_mul]
    rfl
  · intro i' _ hi
    refine Finset.sum_eq_zero fun s _ => ?_
    rw [sameSeg_at, if_neg hi, mul_zero]
  · exact fun h => absurd (Finset.mem_univ _) h

/-- The operands of a chunk are the real ones of its positions. -/
theorem Fits.holds (f : Fits b d n0) (i : Fin 4) (off : Fin 2 → ℕ) (hs : S256x2048.Slices off S64x2048) (ho : off = ![64 * i.val, 0]) :
    Holds (ops off hs b) (fun p g n => d.pos p g (n0 + 64 * i.val + n)) (fun p g t j => d.kk (n0 + 64 * i.val + t.val) p g j)
      (fun p g t j => d.a (n0 + 64 * i.val + t.val) (chan p g j)) where
  lw := fun p g t j => by
    refine (slice_at i off hs ho _ p t (lane g j)).trans ((f.preLw _ _).trans ?_)
    rw [show n0 + (row i t).val = n0 + 64 * i.val + t.val from by simp only [row]; omega]
    rfl
  l := fun p g t j => (slice_at i off hs ho _ p t (lane g j)).trans (f.preCum i t _)
  kd := fun p g t j => by
    refine (slice_at i off hs ho _ p t (lane g j)).trans ((f.preKd _ _).trans ?_)
    rw [show n0 + (row i t).val = n0 + 64 * i.val + t.val from by simp only [row]; omega]
    rfl
  v := fun p g t j => by
    refine (slice_at i off hs ho _ p t (lane g j)).trans ((show k0_pay5 (F := Ideal) b.v (ix2 (row i t) (col p (lane g j))) = b.v (ix2 (row i t) (col p (lane g j))) from by pointwise [k0_pay5]).trans ((f.v _ _).trans ?_))
    rw [show n0 + (row i t).val = n0 + 64 * i.val + t.val from by simp only [row]; omega]
    rfl
  r := fun p g t j => by
    refine (slice_at i off hs ho _ p t (lane g j)).trans ((show k0_pay6 (F := Ideal) b.r (ix2 (row i t) (col p (lane g j))) = b.r (ix2 (row i t) (col p (lane g j))) from by pointwise [k0_pay6]).trans ((f.r _ _).trans ?_))
    rw [show n0 + (row i t).val = n0 + 64 * i.val + t.val from by simp only [row]; omega]
    rfl
  kk := fun p g t j => by
    refine (slice_at i off hs ho _ p t (lane g j)).trans ((f.preKk _ p g j).trans ?_)
    rw [show n0 + (row i t).val = n0 + 64 * i.val + t.val from by simp only [row]; omega]
  a := fun p g t j => by
    refine (slice_at i off hs ho _ p t (lane g j)).trans ((f.preA _ _).trans ?_)
    rw [show n0 + (row i t).val = n0 + 64 * i.val + t.val from by simp only [row]; omega]
    rfl
  α := fun _ _ _ _ => rfl
  β := fun _ _ _ _ => rfl

end Cert.KernelIdeal.Hand
-- ==== Proof.Point.lean ====
module

public import proofs.«01_k».proof.Proof.Pre

/-! A grid point: four chunks, each from the state the one before left, take the scan 256 positions on. -/

@[expose] public section

noncomputable section

namespace Cert.KernelIdeal.Hand

open Idealize.ShloMosaic Idealize.ShloMosaic.TcCoe Cert.KernelIdeal Cert.KernelIdeal.Gen Scan

variable {b : Blk Ideal} {d : Data} {n0 : ℕ} {h : FVec Ideal S16x128x128 .f32}

/-- The states of all heads after `n` positions. -/
def states (d : Data) (n : ℕ) : Heads := fun p g => seq (d.pos p g) 0 n
/-- What the positions from `n` on read. -/
def readings (d : Data) (n : ℕ) : Heads := fun p g t i => Scan.read (d.pos p g) 0 (n + t.val) i

theorem Fits.chunk (f : Fits b d n0) (i : Fin 4) (off : Fin 2 → ℕ) (hs : S256x2048.Slices off S64x2048) (ho : off = ![64 * i.val, 0])
    (hh : IsState h (states d (n0 + 64 * i.val))) :
    Is (outsOf (ops off hs b) h) (readings d (n0 + 64 * i.val)) ∧ IsState (stateOf (ops off hs b) h) (states d (n0 + 64 * i.val + 64)) := by
  refine ⟨fun p g t j => ((f.holds i off hs ho).outs hh p g t j).trans ?_, fun p g i' g' j => ((f.holds i off hs ho).next hh p g i' g' j).trans ?_⟩
  · simp only [readings, states, read_add]
  · simp only [states, seq_add]

theorem Fits.point (f : Fits b d n0) (hh : IsState h (states d n0)) :
    (∀ (t : Fin 256) p g j, pointOut b h (ix2 t (chan p g j)) = ((Scan.read (d.pos p g) 0 (n0 + t.val) j : ℝ) : EReal)) ∧
    IsState (state4 b h) (states d (n0 + 256)) := by
  have c0 := f.chunk 0 ![0, 0] slices_S256x2048_o0_0_S64x2048 rfl hh
  have c1 := f.chunk 1 ![64, 0] slices_S256x2048_o64_0_S64x2048 rfl c0.2
  have c2 := f.chunk 2 ![128, 0] slices_S256x2048_o128_0_S64x2048 rfl c1.2
  have c3 := f.chunk 3 ![192, 0] slices_S256x2048_o192_0_S64x2048 rfl c2.2
  refine ⟨fun t p g j => ?_, c3.2⟩
  obtain ⟨i, s, rfl⟩ : ∃ i s, t = row i s := ⟨⟨t.val / 64, by omega⟩, ⟨t.val % 64, by omega⟩, Fin.ext (by simp only [row]; omega)⟩
  have hr : n0 + (row i s).val = n0 + 64 * i.val + s.val := by simp only [row]; omega
  obtain ⟨e0, e1, e2, e3⟩ := pointOut_at b h s p (lane g j)
  rw [hr, chan_col]
  fin_cases i
  · exact e0.trans (c0.1 p g s j)
  · exact e1.trans (c1.1 p g s j)
  · exact e2.trans (c2.1 p g s j)
  · exact e3.trans (c3.1 p g s j)

end Cert.KernelIdeal.Hand
-- ==== Proof.Body.lean ====
module

public import proofs.«01_k».proof.Proof.Mirror
public import Idealize.ShloMosaic.Lib.Pipeline.ReadBack
public import Idealize.ShloMosaic.Lib.Pipeline.ValueKit

/-! The printed body of the scan, at its first grid point and at the others, is the one written in `Mirror`. -/

@[expose] public section

noncomputable section

namespace Cert.KernelIdeal.Hand

open Idealize.ShloMosaic Idealize.ShloMosaic.TcCoe Cert.KernelIdeal Cert.KernelIdeal.Gen

set_option maxRecDepth 100000
set_option maxHeartbeats 1000000

variable {F : FTy → Type} [FloatOps F]
  (c : Dev nD)
  (arg1 : Memref sig .tc .vmem S256x2048 .f32) (harg1 : arg1.IsWhole)
  (arg2 : Memref sig .tc .vmem S256x2048 .f32) (harg2 : arg2.IsWhole)
  (arg3 : Memref sig .tc .vmem S256x2048 .f32) (harg3 : arg3.IsWhole)
  (arg4 : Memref sig .tc .vmem S256x256 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S1x2048 .f32) (harg7 : arg7.IsWhole)
  (arg8 : Memref sig .tc .vmem S1x2048 .f32) (harg8 : arg8.IsWhole)
  (arg9 : Memref sig .tc .vmem S128x2048 .bf16) (harg9 : arg9.IsWhole)
  (arg10 : Memref sig .tc .vmem S128x2048 .bf16) (harg10 : arg10.IsWhole)
  (arg12 : Memref sig .tc .vmem S16x128x128 .f32) (harg12 : arg12.IsWhole)
  (x0 : Vec F S256x2048 .f32)  (x1 : Vec F S256x2048 .f32)  (x2 : Vec F S256x2048 .f32)  (x3 : Vec F S256x256 .f32)  (x4 : Vec F S1x2048 .f32)  (x5 : Vec F S1x2048 .f32)  (x6 : Vec F S1x2048 .f32)  (x7 : Vec F S1x2048 .f32)  (x8 : Vec F S128x2048 .bf16)  (x9 : Vec F S128x2048 .bf16)
  (xs0 : Vec F S16x128x128 .f32)

theorem lw_B : (kernelRun0_B.sl.r_5 c arg4 harg4 arg7 harg7 arg9 harg9 x3 x6 x8) = preLw (F := F) ⟨x0, x1, x2, x3, x4, x5, x6, x7, x8, x9⟩ := by
  unfold kernelRun0_B.sl.r_5 kernelRun0_B.sl.r_3
  simp (disch := decide) only [View.ld_unit_lit', View.readCov_unit_lit', View.readCov_cons_unit_lit', View.readAt_eq_ld, Memref.IsWhole.read_unread]
  rfl

theorem cum_B : (kernelRun0_B.sl.r_14 c arg4 harg4 arg7 harg7 arg9 harg9 x3 x6 x8) = preCum (F := F) ⟨x0, x1, x2, x3, x4, x5, x6, x7, x8, x9⟩ := by
  unfold kernelRun0_B.sl.r_14 kernelRun0_B.sl.r_5 kernelRun0_B.sl.r_3
  simp (disch := decide) only [View.ld_unit_lit', View.readCov_unit_lit', View.readCov_cons_unit_lit', View.readAt_eq_ld, Memref.IsWhole.read_unread]
  rfl

theorem a_B : (kernelRun0_B.sl.r_6 c arg4 harg4 arg8 harg8 arg10 harg10 x3 x7 x9) = preA (F := F) ⟨x0, x1, x2, x3, x4, x5, x6, x7, x8, x9⟩ := by
  unfold kernelRun0_B.sl.r_6 kernelRun0_B.sl.r_4
  simp (disch := decide) only [View.ld_unit_lit', View.readCov_unit_lit', View.readCov_cons_unit_lit', View.readAt_eq_ld, Memref.IsWhole.read_unread]
  rfl

theorem kd_B : (kernelRun0_B.sl.r_7 c arg1 harg1 arg4 harg4 arg6 harg6 arg8 harg8 arg10 harg10 x0 x3 x5 x7 x9) = preKd (F := F) ⟨x0, x1, x2, x3, x4, x5, x6, x7, x8, x9⟩ := by
  unfold kernelRun0_B.sl.r_7 kernelRun0_B.sl.r_4 kernelRun0_B.sl.r
  simp (disch := decide) only [View.ld_unit_lit', View.readCov_unit_lit', View.readCov_cons_unit_lit', View.readAt_eq_ld, Memref.IsWhole.read_unread]
  rfl

theorem kk_B : (kernelRun0_B.sl.r_13 c arg1 harg1 arg5 harg5 x0 x4) = preKk (F := F) ⟨x0, x1, x2, x3, x4, x5, x6, x7, x8, x9⟩ := by
  unfold kernelRun0_B.sl.r_13 kernelRun0_B.sl.r_8 kernelRun0_B.sl.r_11 kernelRun0_B.sl.r_12 kernelRun0_B.sl.r_9 kernelRun0_B.sl.r kernelRun0_B.sl.r_10
  simp (disch := decide) only [View.ld_unit_lit', View.readCov_unit_lit', View.readCov_cons_unit_lit', View.readAt_eq_ld, Memref.IsWhole.read_unread]
  rfl

theorem v_B : (kernelRun0_B.sl.r_1 c arg2 harg2 x1) = k0_pay5 x1 := by
  unfold kernelRun0_B.sl.r_1
  simp (disch := decide) only [View.ld_unit_lit', View.readCov_unit_lit', View.readCov_cons_unit_lit', View.readAt_eq_ld, Memref.IsWhole.read_unread]

theorem r_B : (kernelRun0_B.sl.r_2 c arg3 harg3 x2) = k0_pay6 x2 := by
  unfold kernelRun0_B.sl.r_2
  simp (disch := decide) only [View.ld_unit_lit', View.readCov_unit_lit', View.readCov_cons_unit_lit', View.readAt_eq_ld, Memref.IsWhole.read_unread]

theorem h_B : (kernelRun0_B.sl.r_15 c arg12 harg12 xs0) = xs0 := by
  unfold kernelRun0_B.sl.r_15
  simp (disch := decide) only [View.ld_unit_lit', View.readCov_unit_lit', View.readCov_cons_unit_lit', View.readAt_eq_ld, Memref.IsWhole.read_unread]

theorem stp0_B : (kernelRun0_B.sl.r_72 c arg1 harg1 arg2 harg2 arg3 harg3 arg4 harg4 arg5 harg5 arg6 harg6 arg7 harg7 arg8 harg8 arg9 harg9 arg10 harg10 arg12 harg12 x0 x1 x2 x3 x4 x5 x6 x7 x8 x9 xs0) =
    stateOf (opsAt ![0, 0] slices_S256x2048_o0_0_S64x2048 (kernelRun0_B.sl.r_5 c arg4 harg4 arg7 harg7 arg9 harg9 x3 x6 x8) (kernelRun0_B.sl.r_14 c arg4 harg4 arg7 harg7 arg9 harg9 x3 x6 x8) (kernelRun0_B.sl.r_6 c arg4 harg4 arg8 harg8 arg10 harg10 x3 x7 x9) (kernelRun0_B.sl.r_7 c arg1 harg1 arg4 harg4 arg6 harg6 arg8 harg8 arg10 harg10 x0 x3 x5 x7 x9) (kernelRun0_B.sl.r_13 c arg1 harg1 arg5 harg5 x0 x4) (kernelRun0_B.sl.r_1 c arg2 harg2 x1) (kernelRun0_B.sl.r_2 c arg3 harg3 x2)) (kernelRun0_B.sl.r_15 c arg12 harg12 xs0) := rfl

theorem y0_B : (kernelRun0_B.sl.r_73 c arg1 harg1 arg2 harg2 arg3 harg3 arg4 harg4 arg5 harg5 arg6 harg6 arg7 harg7 arg8 harg8 arg9 harg9 arg10 harg10 arg12 harg12 x0 x1 x2 x3 x4 x5 x6 x7 x8 x9 xs0) =
    flat (outsOf (opsAt ![0, 0] slices_S256x2048_o0_0_S64x2048 (kernelRun0_B.sl.r_5 c arg4 harg4 arg7 harg7 arg9 harg9 x3 x6 x8) (kernelRun0_B.sl.r_14 c arg4 harg4 arg7 harg7 arg9 harg9 x3 x6 x8) (kernelRun0_B.sl.r_6 c arg4 harg4 arg8 harg8 arg10 harg10 x3 x7 x9) (kernelRun0_B.sl.r_7 c arg1 harg1 arg4 harg4 arg6 harg6 arg8 harg8 arg10 harg10 x0 x3 x5 x7 x9) (kernelRun0_B.sl.r_13 c arg1 harg1 arg5 harg5 x0 x4) (kernelRun0_B.sl.r_1 c arg2 harg2 x1) (kernelRun0_B.sl.r_2 c arg3 harg3 x2)) (kernelRun0_B.sl.r_15 c arg12 harg12 xs0)) := rfl

theorem stp1_B : (kernelRun0_B.sl.r_116 c arg1 harg1 arg2 harg2 arg3 harg3 arg4 harg4 arg5 harg5 arg6 harg6 arg7 harg7 arg8 harg8 arg9 harg9 arg10 harg10 arg12 harg12 x0 x1 x2 x3 x4 x5 x6 x7 x8 x9 xs0) =
    stateOf (opsAt ![64, 0] slices_S256x2048_o64_0_S64x2048 (kernelRun0_B.sl.r_5 c arg4 harg4 arg7 harg7 arg9 harg9 x3 x6 x8) (kernelRun0_B.sl.r_14 c arg4 harg4 arg7 harg7 arg9 harg9 x3 x6 x8) (kernelRun0_B.sl.r_6 c arg4 harg4 arg8 harg8 arg10 harg10 x3 x7 x9) (kernelRun0_B.sl.r_7 c arg1 harg1 arg4 harg4 arg6 harg6 arg8 harg8 arg10 harg10 x0 x3 x5 x7 x9) (kernelRun0_B.sl.r_13 c arg1 harg1 arg5 harg5 x0 x4) (kernelRun0_B.sl.r_1 c arg2 harg2 x1) (kernelRun0_B.sl.r_2 c arg3 harg3 x2)) (kernelRun0_B.sl.r_72 c arg1 harg1 arg2 harg2 arg3 harg3 arg4 harg4 arg5 harg5 arg6 harg6 arg7 harg7 arg8 harg8 arg9 harg9 arg10 harg10 arg12 harg12 x0 x1 x2 x3 x4 x5 x6 x7 x8 x9 xs0) := rfl

theorem y1_B : (kernelRun0_B.sl.v1508 c arg1 harg1 arg2 harg2 arg3 harg3 arg4 harg4 arg5 harg5 arg6 harg6 arg7 harg7 arg8 harg8 arg9 harg9 arg10 harg10 arg12 harg12 x0 x1 x2 x3 x4 x5 x6 x7 x8 x9 xs0) =
    flat (outsOf (opsAt ![64, 0] slices_S256x2048_o64_0_S64x2048 (kernelRun0_B.sl.r_5 c arg4 harg4 arg7 harg7 arg9 harg9 x3 x6 x8) (kernelRun0_B.sl.r_14 c arg4 harg4 arg7 harg7 arg9 harg9 x3 x6 x8) (kernelRun0_B.sl.r_6 c arg4 harg4 arg8 harg8 arg10 harg10 x3 x7 x9) (kernelRun0_B.sl.r_7 c arg1 harg1 arg4 harg4 arg6 harg6 arg8 harg8 arg10 harg10 x0 x3 x5 x7 x9) (kernelRun0_B.sl.r_13 c arg1 harg1 arg5 harg5 x0 x4) (kernelRun0_B.sl.r_1 c arg2 harg2 x1) (kernelRun0_B.sl.r_2 c arg3 harg3 x2)) (kernelRun0_B.sl.r_72 c arg1 harg1 arg2 harg2 arg3 harg3 arg4 harg4 arg5 harg5 arg6 harg6 arg7 harg7 arg8 harg8 arg9 harg9 arg10 harg10 arg12 harg12 x0 x1 x2 x3 x4 x5 x6 x7 x8 x9 xs0)) := rfl

theorem stp2_B : (kernelRun0_B.sl.r_156 c arg1 harg1 arg2 harg2 arg3 harg3 arg4 harg4 arg5 harg5 arg6 harg6 arg7 harg7 arg8 harg8 arg9 harg9 arg10 harg10 arg12 harg12 x0 x1 x2 x3 x4 x5 x6 x7 x8 x9 xs0) =
    stateOf (opsAt ![128, 0] slices_S256x2048_o128_0_S64x2048 (kernelRun0_B.sl.r_5 c arg4 harg4 arg7 harg7 arg9 harg9 x3 x6 x8) (kernelRun0_B.sl.r_14 c arg4 harg4 arg7 harg7 arg9 harg9 x3 x6 x8) (kernelRun0_B.sl.r_6 c arg4 harg4 arg8 harg8 arg10 harg10 x3 x7 x9) (kernelRun0_B.sl.r_7 c arg1 harg1 arg4 harg4 arg6 harg6 arg8 harg8 arg10 harg10 x0 x3 x5 x7 x9) (kernelRun0_B.sl.r_13 c arg1 harg1 arg5 harg5 x0 x4) (kernelRun0_B.sl.r_1 c arg2 harg2 x1) (kernelRun0_B.sl.r_2 c arg3 harg3 x2)) (kernelRun0_B.sl.r_116 c arg1 harg1 arg2 harg2 arg3 harg3 arg4 harg4 arg5 harg5 arg6 harg6 arg7 harg7 arg8 harg8 arg9 harg9 arg10 harg10 arg12 harg12 x0 x1 x2 x3 x4 x5 x6 x7 x8 x9 xs0) := rfl

theorem y2_B : (kernelRun0_B.sl.v2158 c arg1 harg1 arg2 harg2 arg3 harg3 arg4 harg4 arg5 harg5 arg6 harg6 arg7 harg7 arg8 harg8 arg9 harg9 arg10 harg10 arg12 harg12 x0 x1 x2 x3 x4 x5 x6 x7 x8 x9 xs0) =
    flat (outsOf (opsAt ![128, 0] slices_S256x2048_o128_0_S64x2048 (kernelRun0_B.sl.r_5 c arg4 harg4 arg7 harg7 arg9 harg9 x3 x6 x8) (kernelRun0_B.sl.r_14 c arg4 harg4 arg7 harg7 arg9 harg9 x3 x6 x8) (kernelRun0_B.sl.r_6 c arg4 harg4 arg8 harg8 arg10 harg10 x3 x7 x9) (kernelRun0_B.sl.r_7 c arg1 harg1 arg4 harg4 arg6 harg6 arg8 harg8 arg10 harg10 x0 x3 x5 x7 x9) (kernelRun0_B.sl.r_13 c arg1 harg1 arg5 harg5 x0 x4) (kernelRun0_B.sl.r_1 c arg2 harg2 x1) (kernelRun0_B.sl.r_2 c arg3 harg3 x2)) (kernelRun0_B.sl.r_116 c arg1 harg1 arg2 harg2 arg3 harg3 arg4 harg4 arg5 harg5 arg6 harg6 arg7 harg7 arg8 harg8 arg9 harg9 arg10 harg10 arg12 harg12 x0 x1 x2 x3 x4 x5 x6 x7 x8 x9 xs0)) := rfl

theorem stp3_B : (k0_pay2 (kernelRun0_B.sl.r_192 c arg1 harg1 arg2 harg2 arg3 harg3 arg4 harg4 arg5 harg5 arg6 harg6 arg7 harg7 arg8 harg8 arg9 harg9 arg10 harg10 arg12 harg12 x0 x1 x2 x3 x4 x5 x6 x7 x8 x9 xs0) (kernelRun0_B.sl.r_193 c arg1 harg1 arg2 harg2 arg3 harg3 arg4 harg4 arg5 harg5 arg6 harg6 arg7 harg7 arg8 harg8 arg9 harg9 arg10 harg10 arg12 harg12 x0 x1 x2 x3 x4 x5 x6 x7 x8 x9 xs0) (k0_pay496 kernelRun0_B.sl.r_166) kernelRun0_B.sl.cst_183) =
    (shapeCast S16x128x128 (stateOf (opsAt ![192, 0] slices_S256x2048_o192_0_S64x2048 (kernelRun0_B.sl.r_5 c arg4 harg4 arg7 harg7 arg9 harg9 x3 x6 x8) (kernelRun0_B.sl.r_14 c arg4 harg4 arg7 harg7 arg9 harg9 x3 x6 x8) (kernelRun0_B.sl.r_6 c arg4 harg4 arg8 harg8 arg10 harg10 x3 x7 x9) (kernelRun0_B.sl.r_7 c arg1 harg1 arg4 harg4 arg6 harg6 arg8 harg8 arg10 harg10 x0 x3 x5 x7 x9) (kernelRun0_B.sl.r_13 c arg1 harg1 arg5 harg5 x0 x4) (kernelRun0_B.sl.r_1 c arg2 harg2 x1) (kernelRun0_B.sl.r_2 c arg3 harg3 x2)) (kernelRun0_B.sl.r_156 c arg1 harg1 arg2 harg2 arg3 harg3 arg4 harg4 arg5 harg5 arg6 harg6 arg7 harg7 arg8 harg8 arg9 harg9 arg10 harg10 arg12 harg12 x0 x1 x2 x3 x4 x5 x6 x7 x8 x9 xs0)) shapeCasts_S16x128x128_S16x128x128) := rfl

theorem y3_B : (kernelRun0_B.sl.r_190 c arg1 harg1 arg2 harg2 arg3 harg3 arg4 harg4 arg5 harg5 arg6 harg6 arg7 harg7 arg8 harg8 arg9 harg9 arg10 harg10 arg12 harg12 x0 x1 x2 x3 x4 x5 x6 x7 x8 x9 xs0) =
    outsOf (opsAt ![192, 0] slices_S256x2048_o192_0_S64x2048 (kernelRun0_B.sl.r_5 c arg4 harg4 arg7 harg7 arg9 harg9 x3 x6 x8) (kernelRun0_B.sl.r_14 c arg4 harg4 arg7 harg7 arg9 harg9 x3 x6 x8) (kernelRun0_B.sl.r_6 c arg4 harg4 arg8 harg8 arg10 harg10 x3 x7 x9) (kernelRun0_B.sl.r_7 c arg1 harg1 arg4 harg4 arg6 harg6 arg8 harg8 arg10 harg10 x0 x3 x5 x7 x9) (kernelRun0_B.sl.r_13 c arg1 harg1 arg5 harg5 x0 x4) (kernelRun0_B.sl.r_1 c arg2 harg2 x1) (kernelRun0_B.sl.r_2 c arg3 harg3 x2)) (kernelRun0_B.sl.r_156 c arg1 harg1 arg2 harg2 arg3 harg3 arg4 harg4 arg5 harg5 arg6 harg6 arg7 harg7 arg8 harg8 arg9 harg9 arg10 harg10 arg12 harg12 x0 x1 x2 x3 x4 x5 x6 x7 x8 x9 xs0) := rfl

theorem s1_B : (kernelRun0_B.sl.r_72 c arg1 harg1 arg2 harg2 arg3 harg3 arg4 harg4 arg5 harg5 arg6 harg6 arg7 harg7 arg8 harg8 arg9 harg9 arg10 harg10 arg12 harg12 x0 x1 x2 x3 x4 x5 x6 x7 x8 x9 xs0) = state1 (F := F) ⟨x0, x1, x2, x3, x4, x5, x6, x7, x8, x9⟩ xs0 := by
  rw [stp0_B, h_B, lw_B, cum_B, a_B, kd_B, kk_B, v_B, r_B]
  rfl

theorem s2_B : (kernelRun0_B.sl.r_116 c arg1 harg1 arg2 harg2 arg3 harg3 arg4 harg4 arg5 harg5 arg6 harg6 arg7 harg7 arg8 harg8 arg9 harg9 arg10 harg10 arg12 harg12 x0 x1 x2 x3 x4 x5 x6 x7 x8 x9 xs0) = state2 (F := F) ⟨x0, x1, x2, x3, x4, x5, x6, x7, x8, x9⟩ xs0 := by
  rw [stp1_B, s1_B, lw_B, cum_B, a_B, kd_B, kk_B, v_B, r_B]
  rfl

theorem s3_B : (kernelRun0_B.sl.r_156 c arg1 harg1 arg2 harg2 arg3 harg3 arg4 harg4 arg5 harg5 arg6 harg6 arg7 harg7 arg8 harg8 arg9 harg9 arg10 harg10 arg12 harg12 x0 x1 x2 x3 x4 x5 x6 x7 x8 x9 xs0) = state3 (F := F) ⟨x0, x1, x2, x3, x4, x5, x6, x7, x8, x9⟩ xs0 := by
  rw [stp2_B, s2_B, lw_B, cum_B, a_B, kd_B, kk_B, v_B, r_B]
  rfl

theorem s4_B : (k0_pay2 (kernelRun0_B.sl.r_192 c arg1 harg1 arg2 harg2 arg3 harg3 arg4 harg4 arg5 harg5 arg6 harg6 arg7 harg7 arg8 harg8 arg9 harg9 arg10 harg10 arg12 harg12 x0 x1 x2 x3 x4 x5 x6 x7 x8 x9 xs0) (kernelRun0_B.sl.r_193 c arg1 harg1 arg2 harg2 arg3 harg3 arg4 harg4 arg5 harg5 arg6 harg6 arg7 harg7 arg8 harg8 arg9 harg9 arg10 harg10 arg12 harg12 x0 x1 x2 x3 x4 x5 x6 x7 x8 x9 xs0) (k0_pay496 kernelRun0_B.sl.r_166) kernelRun0_B.sl.cst_183) = state4 (F := F) ⟨x0, x1, x2, x3, x4, x5, x6, x7, x8, x9⟩ xs0 := by
  rw [stp3_B, s3_B, lw_B, cum_B, a_B, kd_B, kk_B, v_B, r_B, shapeCast_self]
  rfl

theorem z0_B : (kernelRun0_B.sl.r_73 c arg1 harg1 arg2 harg2 arg3 harg3 arg4 harg4 arg5 harg5 arg6 harg6 arg7 harg7 arg8 harg8 arg9 harg9 arg10 harg10 arg12 harg12 x0 x1 x2 x3 x4 x5 x6 x7 x8 x9 xs0) = flat (outsOf (F := F) (ops0 ⟨x0, x1, x2, x3, x4, x5, x6, x7, x8, x9⟩) (xs0)) := by
  rw [y0_B, h_B, lw_B, cum_B, a_B, kd_B, kk_B, v_B, r_B]
  rfl

theorem z1_B : (kernelRun0_B.sl.v1508 c arg1 harg1 arg2 harg2 arg3 harg3 arg4 harg4 arg5 harg5 arg6 harg6 arg7 harg7 arg8 harg8 arg9 harg9 arg10 harg10 arg12 harg12 x0 x1 x2 x3 x4 x5 x6 x7 x8 x9 xs0) = flat (outsOf (F := F) (ops1 ⟨x0, x1, x2, x3, x4, x5, x6, x7, x8, x9⟩) (state1 (F := F) ⟨x0, x1, x2, x3, x4, x5, x6, x7, x8, x9⟩ xs0)) := by
  rw [y1_B, s1_B, lw_B, cum_B, a_B, kd_B, kk_B, v_B, r_B]
  rfl

theorem z2_B : (kernelRun0_B.sl.v2158 c arg1 harg1 arg2 harg2 arg3 harg3 arg4 harg4 arg5 harg5 arg6 harg6 arg7 harg7 arg8 harg8 arg9 harg9 arg10 harg10 arg12 harg12 x0 x1 x2 x3 x4 x5 x6 x7 x8 x9 xs0) = flat (outsOf (F := F) (ops2 ⟨x0, x1, x2, x3, x4, x5, x6, x7, x8, x9⟩) (state2 (F := F) ⟨x0, x1, x2, x3, x4, x5, x6, x7, x8, x9⟩ xs0)) := by
  rw [y2_B, s2_B, lw_B, cum_B, a_B, kd_B, kk_B, v_B, r_B]
  rfl

theorem z3_B : (kernelRun0_B.sl.r_190 c arg1 harg1 arg2 harg2 arg3 harg3 arg4 harg4 arg5 harg5 arg6 harg6 arg7 harg7 arg8 harg8 arg9 harg9 arg10 harg10 arg12 harg12 x0 x1 x2 x3 x4 x5 x6 x7 x8 x9 xs0) = outsOf (F := F) (ops3 ⟨x0, x1, x2, x3, x4, x5, x6, x7, x8, x9⟩) (state3 (F := F) ⟨x0, x1, x2, x3, x4, x5, x6, x7, x8, x9⟩ xs0) := by
  rw [y3_B, s3_B, lw_B, cum_B, a_B, kd_B, kk_B, v_B, r_B]
  rfl

theorem lw_A : (kernelRun0_A.sl.r_5 c arg4 harg4 arg7 harg7 arg9 harg9 x3 x6 x8) = preLw (F := F) ⟨x0, x1, x2, x3, x4, x5, x6, x7, x8, x9⟩ := by
  unfold kernelRun0_A.sl.r_5 kernelRun0_A.sl.r_3
  simp (disch := decide) only [View.ld_unit_lit', View.readCov_unit_lit', View.readCov_cons_unit_lit', View.readAt_eq_ld, Memref.IsWhole.read_unread]
  rfl

theorem cum_A : (kernelRun0_A.sl.r_14 c arg4 harg4 arg7 harg7 arg9 harg9 x3 x6 x8) = preCum (F := F) ⟨x0, x1, x2, x3, x4, x5, x6, x7, x8, x9⟩ := by
  unfold kernelRun0_A.sl.r_14 kernelRun0_A.sl.r_5 kernelRun0_A.sl.r_3
  simp (disch := decide) only [View.ld_unit_lit', View.readCov_unit_lit', View.readCov_cons_unit_lit', View.readAt_eq_ld, Memref.IsWhole.read_unread]
  rfl

theorem a_A : (kernelRun0_A.sl.r_6 c arg4 harg4 arg8 harg8 arg10 harg10 x3 x7 x9) = preA (F := F) ⟨x0, x1, x2, x3, x4, x5, x6, x7, x8, x9⟩ := by
  unfold kernelRun0_A.sl.r_6 kernelRun0_A.sl.r_4
  simp (disch := decide) only [View.ld_unit_lit', View.readCov_unit_lit', View.readCov_cons_unit_lit', View.readAt_eq_ld, Memref.IsWhole.read_unread]
  rfl

theorem kd_A : (kernelRun0_A.sl.r_7 c arg1 harg1 arg4 harg4 arg6 harg6 arg8 harg8 arg10 harg10 x0 x3 x5 x7 x9) = preKd (F := F) ⟨x0, x1, x2, x3, x4, x5, x6, x7, x8, x9⟩ := by
  unfold kernelRun0_A.sl.r_7 kernelRun0_A.sl.r_4 kernelRun0_A.sl.r
  simp (disch := decide) only [View.ld_unit_lit', View.readCov_unit_lit', View.readCov_cons_unit_lit', View.readAt_eq_ld, Memref.IsWhole.read_unread]
  rfl

theorem kk_A : (kernelRun0_A.sl.r_13 c arg1 harg1 arg5 harg5 x0 x4) = preKk (F := F) ⟨x0, x1, x2, x3, x4, x5, x6, x7, x8, x9⟩ := by
  unfold kernelRun0_A.sl.r_13 kernelRun0_A.sl.r_8 kernelRun0_A.sl.r_11 kernelRun0_A.sl.r_12 kernelRun0_A.sl.r_9 kernelRun0_A.sl.r kernelRun0_A.sl.r_10
  simp (disch := decide) only [View.ld_unit_lit', View.readCov_unit_lit', View.readCov_cons_unit_lit', View.readAt_eq_ld, Memref.IsWhole.read_unread]
  rfl

theorem v_A : (kernelRun0_A.sl.r_1 c arg2 harg2 x1) = k0_pay5 x1 := by
  unfold kernelRun0_A.sl.r_1
  simp (disch := decide) only [View.ld_unit_lit', View.readCov_unit_lit', View.readCov_cons_unit_lit', View.readAt_eq_ld, Memref.IsWhole.read_unread]

theorem r_A : (kernelRun0_A.sl.r_2 c arg3 harg3 x2) = k0_pay6 x2 := by
  unfold kernelRun0_A.sl.r_2
  simp (disch := decide) only [View.ld_unit_lit', View.readCov_unit_lit', View.readCov_cons_unit_lit', View.readAt_eq_ld, Memref.IsWhole.read_unread]

theorem h_A : (kernelRun0_A.sl.v208 (F := F) c arg12) = k0_pay3 (F := F) := by
  unfold kernelRun0_A.sl.v208 kernelRun0_A.sl.HS0_1
  simp (disch := decide) only [View.ld_unit_lit', View.readCov_unit_lit', View.readCov_cons_unit_lit', View.readAt_eq_ld, Memref.IsWhole.read_unread]

theorem stp0_A : (kernelRun0_A.sl.r_71 c arg1 harg1 arg2 harg2 arg3 harg3 arg4 harg4 arg5 harg5 arg6 harg6 arg7 harg7 arg8 harg8 arg9 harg9 arg10 harg10 arg12 x0 x1 x2 x3 x4 x5 x6 x7 x8 x9) =
    stateOf (opsAt ![0, 0] slices_S256x2048_o0_0_S64x2048 (kernelRun0_A.sl.r_5 c arg4 harg4 arg7 harg7 arg9 harg9 x3 x6 x8) (kernelRun0_A.sl.r_14 c arg4 harg4 arg7 harg7 arg9 harg9 x3 x6 x8) (kernelRun0_A.sl.r_6 c arg4 harg4 arg8 harg8 arg10 harg10 x3 x7 x9) (kernelRun0_A.sl.r_7 c arg1 harg1 arg4 harg4 arg6 harg6 arg8 harg8 arg10 harg10 x0 x3 x5 x7 x9) (kernelRun0_A.sl.r_13 c arg1 harg1 arg5 harg5 x0 x4) (kernelRun0_A.sl.r_1 c arg2 harg2 x1) (kernelRun0_A.sl.r_2 c arg3 harg3 x2)) (kernelRun0_A.sl.v208 (F := F) c arg12) := rfl

theorem y0_A : (kernelRun0_A.sl.r_72 c arg1 harg1 arg2 harg2 arg3 harg3 arg4 harg4 arg5 harg5 arg6 harg6 arg7 harg7 arg8 harg8 arg9 harg9 arg10 harg10 arg12 x0 x1 x2 x3 x4 x5 x6 x7 x8 x9) =
    flat (outsOf (opsAt ![0, 0] slices_S256x2048_o0_0_S64x2048 (kernelRun0_A.sl.r_5 c arg4 harg4 arg7 harg7 arg9 harg9 x3 x6 x8) (kernelRun0_A.sl.r_14 c arg4 harg4 arg7 harg7 arg9 harg9 x3 x6 x8) (kernelRun0_A.sl.r_6 c arg4 harg4 arg8 harg8 arg10 harg10 x3 x7 x9) (kernelRun0_A.sl.r_7 c arg1 harg1 arg4 harg4 arg6 harg6 arg8 harg8 arg10 harg10 x0 x3 x5 x7 x9) (kernelRun0_A.sl.r_13 c arg1 harg1 arg5 harg5 x0 x4) (kernelRun0_A.sl.r_1 c arg2 harg2 x1) (kernelRun0_A.sl.r_2 c arg3 harg3 x2)) (kernelRun0_A.sl.v208 (F := F) c arg12)) := rfl

theorem stp1_A : (kernelRun0_A.sl.r_115 c arg1 harg1 arg2 harg2 arg3 harg3 arg4 harg4 arg5 harg5 arg6 harg6 arg7 harg7 arg8 harg8 arg9 harg9 arg10 harg10 arg12 x0 x1 x2 x3 x4 x5 x6 x7 x8 x9) =
    stateOf (opsAt ![64, 0] slices_S256x2048_o64_0_S64x2048 (kernelRun0_A.sl.r_5 c arg4 harg4 arg7 harg7 arg9 harg9 x3 x6 x8) (kernelRun0_A.sl.r_14 c arg4 harg4 arg7 harg7 arg9 harg9 x3 x6 x8) (kernelRun0_A.sl.r_6 c arg4 harg4 arg8 harg8 arg10 harg10 x3 x7 x9) (kernelRun0_A.sl.r_7 c arg1 harg1 arg4 harg4 arg6 harg6 arg8 harg8 arg10 harg10 x0 x3 x5 x7 x9) (kernelRun0_A.sl.r_13 c arg1 harg1 arg5 harg5 x0 x4) (kernelRun0_A.sl.r_1 c arg2 harg2 x1) (kernelRun0_A.sl.r_2 c arg3 harg3 x2)) (kernelRun0_A.sl.r_71 c arg1 harg1 arg2 harg2 arg3 harg3 arg4 harg4 arg5 harg5 arg6 harg6 arg7 harg7 arg8 harg8 arg9 harg9 arg10 harg10 arg12 x0 x1 x2 x3 x4 x5 x6 x7 x8 x9) := rfl

theorem y1_A : (kernelRun0_A.sl.v1508 c arg1 harg1 arg2 harg2 arg3 harg3 arg4 harg4 arg5 harg5 arg6 harg6 arg7 harg7 arg8 harg8 arg9 harg9 arg10 harg10 arg12 x0 x1 x2 x3 x4 x5 x6 x7 x8 x9) =
    flat (outsOf (opsAt ![64, 0] slices_S256x2048_o64_0_S64x2048 (kernelRun0_A.sl.r_5 c arg4 harg4 arg7 harg7 arg9 harg9 x3 x6 x8) (kernelRun0_A.sl.r_14 c arg4 harg4 arg7 harg7 arg9 harg9 x3 x6 x8) (kernelRun0_A.sl.r_6 c arg4 harg4 arg8 harg8 arg10 harg10 x3 x7 x9) (kernelRun0_A.sl.r_7 c arg1 harg1 arg4 harg4 arg6 harg6 arg8 harg8 arg10 harg10 x0 x3 x5 x7 x9) (kernelRun0_A.sl.r_13 c arg1 harg1 arg5 harg5 x0 x4) (kernelRun0_A.sl.r_1 c arg2 harg2 x1) (kernelRun0_A.sl.r_2 c arg3 harg3 x2)) (kernelRun0_A.sl.r_71 c arg1 harg1 arg2 harg2 arg3 harg3 arg4 harg4 arg5 harg5 arg6 harg6 arg7 harg7 arg8 harg8 arg9 harg9 arg10 harg10 arg12 x0 x1 x2 x3 x4 x5 x6 x7 x8 x9)) := rfl

theorem stp2_A : (kernelRun0_A.sl.r_155 c arg1 harg1 arg2 harg2 arg3 harg3 arg4 harg4 arg5 harg5 arg6 harg6 arg7 harg7 arg8 harg8 arg9 harg9 arg10 harg10 arg12 x0 x1 x2 x3 x4 x5 x6 x7 x8 x9) =
    stateOf (opsAt ![128, 0] slices_S256x2048_o128_0_S64x2048 (kernelRun0_A.sl.r_5 c arg4 harg4 arg7 harg7 arg9 harg9 x3 x6 x8) (kernelRun0_A.sl.r_14 c arg4 harg4 arg7 harg7 arg9 harg9 x3 x6 x8) (kernelRun0_A.sl.r_6 c arg4 harg4 arg8 harg8 arg10 harg10 x3 x7 x9) (kernelRun0_A.sl.r_7 c arg1 harg1 arg4 harg4 arg6 harg6 arg8 harg8 arg10 harg10 x0 x3 x5 x7 x9) (kernelRun0_A.sl.r_13 c arg1 harg1 arg5 harg5 x0 x4) (kernelRun0_A.sl.r_1 c arg2 harg2 x1) (kernelRun0_A.sl.r_2 c arg3 harg3 x2)) (kernelRun0_A.sl.r_115 c arg1 harg1 arg2 harg2 arg3 harg3 arg4 harg4 arg5 harg5 arg6 harg6 arg7 harg7 arg8 harg8 arg9 harg9 arg10 harg10 arg12 x0 x1 x2 x3 x4 x5 x6 x7 x8 x9) := rfl

theorem y2_A : (kernelRun0_A.sl.v2158 c arg1 harg1 arg2 harg2 arg3 harg3 arg4 harg4 arg5 harg5 arg6 harg6 arg7 harg7 arg8 harg8 arg9 harg9 arg10 harg10 arg12 x0 x1 x2 x3 x4 x5 x6 x7 x8 x9) =
    flat (outsOf (opsAt ![128, 0] slices_S256x2048_o128_0_S64x2048 (kernelRun0_A.sl.r_5 c arg4 harg4 arg7 harg7 arg9 harg9 x3 x6 x8) (kernelRun0_A.sl.r_14 c arg4 harg4 arg7 harg7 arg9 harg9 x3 x6 x8) (kernelRun0_A.sl.r_6 c arg4 harg4 arg8 harg8 arg10 harg10 x3 x7 x9) (kernelRun0_A.sl.r_7 c arg1 harg1 arg4 harg4 arg6 harg6 arg8 harg8 arg10 harg10 x0 x3 x5 x7 x9) (kernelRun0_A.sl.r_13 c arg1 harg1 arg5 harg5 x0 x4) (kernelRun0_A.sl.r_1 c arg2 harg2 x1) (kernelRun0_A.sl.r_2 c arg3 harg3 x2)) (kernelRun0_A.sl.r_115 c arg1 harg1 arg2 harg2 arg3 harg3 arg4 harg4 arg5 harg5 arg6 harg6 arg7 harg7 arg8 harg8 arg9 harg9 arg10 harg10 arg12 x0 x1 x2 x3 x4 x5 x6 x7 x8 x9)) := rfl

theorem stp3_A : (k0_pay2 (kernelRun0_A.sl.r_191 c arg1 harg1 arg2 harg2 arg3 harg3 arg4 harg4 arg5 harg5 arg6 harg6 arg7 harg7 arg8 harg8 arg9 harg9 arg10 harg10 arg12 x0 x1 x2 x3 x4 x5 x6 x7 x8 x9) (kernelRun0_A.sl.r_192 c arg1 harg1 arg2 harg2 arg3 harg3 arg4 harg4 arg5 harg5 arg6 harg6 arg7 harg7 arg8 harg8 arg9 harg9 arg10 harg10 arg12 x0 x1 x2 x3 x4 x5 x6 x7 x8 x9) (k0_pay496 kernelRun0_A.sl.r_165) kernelRun0_A.sl.cst_183) =
    (shapeCast S16x128x128 (stateOf (opsAt ![192, 0] slices_S256x2048_o192_0_S64x2048 (kernelRun0_A.sl.r_5 c arg4 harg4 arg7 harg7 arg9 harg9 x3 x6 x8) (kernelRun0_A.sl.r_14 c arg4 harg4 arg7 harg7 arg9 harg9 x3 x6 x8) (kernelRun0_A.sl.r_6 c arg4 harg4 arg8 harg8 arg10 harg10 x3 x7 x9) (kernelRun0_A.sl.r_7 c arg1 harg1 arg4 harg4 arg6 harg6 arg8 harg8 arg10 harg10 x0 x3 x5 x7 x9) (kernelRun0_A.sl.r_13 c arg1 harg1 arg5 harg5 x0 x4) (kernelRun0_A.sl.r_1 c arg2 harg2 x1) (kernelRun0_A.sl.r_2 c arg3 harg3 x2)) (kernelRun0_A.sl.r_155 c arg1 harg1 arg2 harg2 arg3 harg3 arg4 harg4 arg5 harg5 arg6 harg6 arg7 harg7 arg8 harg8 arg9 harg9 arg10 harg10 arg12 x0 x1 x2 x3 x4 x5 x6 x7 x8 x9)) shapeCasts_S16x128x128_S16x128x128) := rfl

theorem y3_A : (kernelRun0_A.sl.r_189 c arg1 harg1 arg2 harg2 arg3 harg3 arg4 harg4 arg5 harg5 arg6 harg6 arg7 harg7 arg8 harg8 arg9 harg9 arg10 harg10 arg12 x0 x1 x2 x3 x4 x5 x6 x7 x8 x9) =
    outsOf (opsAt ![192, 0] slices_S256x2048_o192_0_S64x2048 (kernelRun0_A.sl.r_5 c arg4 harg4 arg7 harg7 arg9 harg9 x3 x6 x8) (kernelRun0_A.sl.r_14 c arg4 harg4 arg7 harg7 arg9 harg9 x3 x6 x8) (kernelRun0_A.sl.r_6 c arg4 harg4 arg8 harg8 arg10 harg10 x3 x7 x9) (kernelRun0_A.sl.r_7 c arg1 harg1 arg4 harg4 arg6 harg6 arg8 harg8 arg10 harg10 x0 x3 x5 x7 x9) (kernelRun0_A.sl.r_13 c arg1 harg1 arg5 harg5 x0 x4) (kernelRun0_A.sl.r_1 c arg2 harg2 x1) (kernelRun0_A.sl.r_2 c arg3 harg3 x2)) (kernelRun0_A.sl.r_155 c arg1 harg1 arg2 harg2 arg3 harg3 arg4 harg4 arg5 harg5 arg6 harg6 arg7 harg7 arg8 harg8 arg9 harg9 arg10 harg10 arg12 x0 x1 x2 x3 x4 x5 x6 x7 x8 x9) := rfl

theorem s1_A : (kernelRun0_A.sl.r_71 c arg1 harg1 arg2 harg2 arg3 harg3 arg4 harg4 arg5 harg5 arg6 harg6 arg7 harg7 arg8 harg8 arg9 harg9 arg10 harg10 arg12 x0 x1 x2 x3 x4 x5 x6 x7 x8 x9) = state1 (F := F) ⟨x0, x1, x2, x3, x4, x5, x6, x7, x8, x9⟩ k0_pay3 := by
  rw [stp0_A, h_A, lw_A, cum_A, a_A, kd_A, kk_A, v_A, r_A]
  rfl

theorem s2_A : (kernelRun0_A.sl.r_115 c arg1 harg1 arg2 harg2 arg3 harg3 arg4 harg4 arg5 harg5 arg6 harg6 arg7 harg7 arg8 harg8 arg9 harg9 arg10 harg10 arg12 x0 x1 x2 x3 x4 x5 x6 x7 x8 x9) = state2 (F := F) ⟨x0, x1, x2, x3, x4, x5, x6, x7, x8, x9⟩ k0_pay3 := by
  rw [stp1_A, s1_A, lw_A, cum_A, a_A, kd_A, kk_A, v_A, r_A]
  rfl

theorem s3_A : (kernelRun0_A.sl.r_155 c arg1 harg1 arg2 harg2 arg3 harg3 arg4 harg4 arg5 harg5 arg6 harg6 arg7 harg7 arg8 harg8 arg9 harg9 arg10 harg10 arg12 x0 x1 x2 x3 x4 x5 x6 x7 x8 x9) = state3 (F := F) ⟨x0, x1, x2, x3, x4, x5, x6, x7, x8, x9⟩ k0_pay3 := by
  rw [stp2_A, s2_A, lw_A, cum_A, a_A, kd_A, kk_A, v_A, r_A]
  rfl

theorem s4_A : (k0_pay2 (kernelRun0_A.sl.r_191 c arg1 harg1 arg2 harg2 arg3 harg3 arg4 harg4 arg5 harg5 arg6 harg6 arg7 harg7 arg8 harg8 arg9 harg9 arg10 harg10 arg12 x0 x1 x2 x3 x4 x5 x6 x7 x8 x9) (kernelRun0_A.sl.r_192 c arg1 harg1 arg2 harg2 arg3 harg3 arg4 harg4 arg5 harg5 arg6 harg6 arg7 harg7 arg8 harg8 arg9 harg9 arg10 harg10 arg12 x0 x1 x2 x3 x4 x5 x6 x7 x8 x9) (k0_pay496 kernelRun0_A.sl.r_165) kernelRun0_A.sl.cst_183) = state4 (F := F) ⟨x0, x1, x2, x3, x4, x5, x6, x7, x8, x9⟩ k0_pay3 := by
  rw [stp3_A, s3_A, lw_A, cum_A, a_A, kd_A, kk_A, v_A, r_A, shapeCast_self]
  rfl

theorem z0_A : (kernelRun0_A.sl.r_72 c arg1 harg1 arg2 harg2 arg3 harg3 arg4 harg4 arg5 harg5 arg6 harg6 arg7 harg7 arg8 harg8 arg9 harg9 arg10 harg10 arg12 x0 x1 x2 x3 x4 x5 x6 x7 x8 x9) = flat (outsOf (F := F) (ops0 ⟨x0, x1, x2, x3, x4, x5, x6, x7, x8, x9⟩) (k0_pay3)) := by
  rw [y0_A, h_A, lw_A, cum_A, a_A, kd_A, kk_A, v_A, r_A]
  rfl

theorem z1_A : (kernelRun0_A.sl.v1508 c arg1 harg1 arg2 harg2 arg3 harg3 arg4 harg4 arg5 harg5 arg6 harg6 arg7 harg7 arg8 harg8 arg9 harg9 arg10 harg10 arg12 x0 x1 x2 x3 x4 x5 x6 x7 x8 x9) = flat (outsOf (F := F) (ops1 ⟨x0, x1, x2, x3, x4, x5, x6, x7, x8, x9⟩) (state1 (F := F) ⟨x0, x1, x2, x3, x4, x5, x6, x7, x8, x9⟩ k0_pay3)) := by
  rw [y1_A, s1_A, lw_A, cum_A, a_A, kd_A, kk_A, v_A, r_A]
  rfl

theorem z2_A : (kernelRun0_A.sl.v2158 c arg1 harg1 arg2 harg2 arg3 harg3 arg4 harg4 arg5 harg5 arg6 harg6 arg7 harg7 arg8 harg8 arg9 harg9 arg10 harg10 arg12 x0 x1 x2 x3 x4 x5 x6 x7 x8 x9) = flat (outsOf (F := F) (ops2 ⟨x0, x1, x2, x3, x4, x5, x6, x7, x8, x9⟩) (state2 (F := F) ⟨x0, x1, x2, x3, x4, x5, x6, x7, x8, x9⟩ k0_pay3)) := by
  rw [y2_A, s2_A, lw_A, cum_A, a_A, kd_A, kk_A, v_A, r_A]
  rfl

theorem z3_A : (kernelRun0_A.sl.r_189 c arg1 harg1 arg2 harg2 arg3 harg3 arg4 harg4 arg5 harg5 arg6 harg6 arg7 harg7 arg8 harg8 arg9 harg9 arg10 harg10 arg12 x0 x1 x2 x3 x4 x5 x6 x7 x8 x9) = outsOf (F := F) (ops3 ⟨x0, x1, x2, x3, x4, x5, x6, x7, x8, x9⟩) (state3 (F := F) ⟨x0, x1, x2, x3, x4, x5, x6, x7, x8, x9⟩ k0_pay3) := by
  rw [y3_A, s3_A, lw_A, cum_A, a_A, kd_A, kk_A, v_A, r_A]
  rfl

theorem out_B (i : grid0.Coords) (arg11 : Memref sig .tc .vmem S256x2048 .f32) (harg11 : arg11.IsWhole) (hc0 : ¬cond0_0 i) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0 = pointOut (F := F) ⟨x0, x1, x2, x3, x4, x5, x6, x7, x8, x9⟩ xs0 := by
  unfold out0_B_10
  unfold kernelRun0_B
  dsimp only
  simp (disch := decide) only [View.read_writes_junk_eq_canon, View.canon_cons_unit_lit']
  rw [z0_B, z1_B, z2_B, z3_B]
  rfl

theorem sout_B (i : grid0.Coords) (arg11 : Memref sig .tc .vmem S256x2048 .f32) (harg11 : arg11.IsWhole) (hc0 : ¬cond0_0 i) :
    sout0_B_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0 = state4 (F := F) ⟨x0, x1, x2, x3, x4, x5, x6, x7, x8, x9⟩ xs0 := by
  unfold sout0_B_0
  unfold kernelRun0_B
  dsimp only
  simp (disch := decide) only [View.read_writes_junk_eq_canon, View.canon_cons_unit_lit']
  exact s4_B ..

theorem out_A (i : grid0.Coords) (arg11 : Memref sig .tc .vmem S256x2048 .f32) (harg11 : arg11.IsWhole) (hc0 : cond0_0 i) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 = pointOut (F := F) ⟨x0, x1, x2, x3, x4, x5, x6, x7, x8, x9⟩ k0_pay3 := by
  unfold out0_A_10
  unfold kernelRun0_A
  dsimp only
  simp (disch := decide) only [View.read_writes_junk_eq_canon, View.canon_cons_unit_lit']
  rw [z0_A, z1_A, z2_A, z3_A]
  rfl

theorem sout_A (i : grid0.Coords) (arg11 : Memref sig .tc .vmem S256x2048 .f32) (harg11 : arg11.IsWhole) (hc0 : cond0_0 i) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 = state4 (F := F) ⟨x0, x1, x2, x3, x4, x5, x6, x7, x8, x9⟩ k0_pay3 := by
  unfold sout0_A_0
  unfold kernelRun0_A
  dsimp only
  simp (disch := decide) only [View.read_writes_junk_eq_canon, View.canon_cons_unit_lit']
  exact s4_A ..

end Cert.KernelIdeal.Hand
-- ==== Proof.Blocks.lean ====
module

public import proofs.«01_k».proof.Proof.Point
public import proofs.«01_k».proof.Proof.Body
public import proofs.«01_k».proof.Proof.Gen.KernelIdeal.Value
public import Idealize.ShloMosaic.Lib.Claim
public import Idealize.ShloMosaic.Lib.StableHlo.ReadAt
public import Idealize.ShloMosaic.Lib.Routing.OpsSet

/-! What the scan's grid points read. -/

set_option maxRecDepth 100000

@[expose] public section

noncomputable section

open Idealize.ShloMosaic Idealize.ShloMosaic.TcCoe Idealize.SL.Sem
open Idealize.ShloMosaic.Pipeline (Dat)

namespace Cert.KernelIdeal.Hand

open Cert.KernelIdeal Cert.KernelIdeal.Gen Scan

variable (m : (ℓ : Loc nD τ sig) → Buf (Elt Ideal) ℓ)

/-- The stacked projections: the latents' rows, then the context's. -/
def stackedRows (za : FVec Ideal S8192x6592 .f32) (zca : FVec Ideal S256x6592 .f32) (r : Fin 8448) (q : Fin 6592) : EReal :=
  if h : r.val < 8192 then za (ix2 (⟨r.val, h⟩ : Fin 8192) q) else zca (ix2 (⟨r.val - 8192, by omega⟩ : Fin 256) q)

theorem stackedRows_latent (za : FVec Ideal S8192x6592 .f32) (zca : FVec Ideal S256x6592 .f32) {r : Fin 8448} (h : r.val < 8192) (q : Fin 6592) :
    stackedRows za zca r q = za (ix2 (⟨r.val, h⟩ : Fin 8192) q) := dif_pos h

theorem stackedRows_context (za : FVec Ideal S8192x6592 .f32) (zca : FVec Ideal S256x6592 .f32) {r : Fin 8448} (h : ¬ r.val < 8192) (q : Fin 6592) :
    stackedRows za zca r q = zca (ix2 (⟨r.val - 8192, by omega⟩ : Fin 256) q) := dif_neg h

theorem zs_at (c : Dev nD) (r : Fin 8448) (q : Fin 6656) (q' : Fin 6592)
    (hq : (q.val < 4096 ∧ q'.val = q.val) ∨ (4096 ≤ q.val ∧ q.val < 6144 ∧ q'.val = q.val + 192) ∨ (6144 ≤ q.val ∧ q.val < 6400 ∧ q'.val + 2048 = q.val)) :
    (V m c main_v5 (ix2 r q) : EReal) = stackedRows (m ((c : Thread nD τ).loc main_arg0)) (m ((c : Thread nD τ).loc main_arg1)) r q' := by
  simp only [V, hostOps0, List.flatten_cons, List.flatten_nil, List.append_nil, List.cons_append, List.nil_append]
  after_reads_at
  rcases hq with ⟨h1, h2⟩ | ⟨h1, h2, h3⟩ | ⟨h1, h2, h3⟩
  · rw [dif_pos h1]
    after_reads_at
    by_cases hr : r.val < 8192
    · rw [dif_pos hr]
      after_reads_at
      refine Eq.trans ?_ (stackedRows_latent _ _ hr _).symm
      exact congrArg _ (congrArg₂ ix2 rfl (Fin.ext h2.symm))
    · rw [dif_neg hr]
      after_reads_at
      refine Eq.trans ?_ (stackedRows_context _ _ hr _).symm
      exact congrArg _ (congrArg₂ ix2 rfl (Fin.ext h2.symm))
  · rw [dif_neg (by omega), dif_pos (by omega)]
    after_reads_at
    by_cases hr : r.val < 8192
    · rw [dif_pos hr]
      after_reads_at
      refine Eq.trans ?_ (stackedRows_latent _ _ hr _).symm
      exact congrArg _ (congrArg₂ ix2 rfl (Fin.ext (by simp only []; omega)))
    · rw [dif_neg hr]
      after_reads_at
      refine Eq.trans ?_ (stackedRows_context _ _ hr _).symm
      exact congrArg _ (congrArg₂ ix2 rfl (Fin.ext (by simp only []; omega)))
  · rw [dif_neg (by omega), dif_neg (by omega), dif_pos (by omega)]
    after_reads_at
    by_cases hr : r.val < 8192
    · rw [dif_pos hr]
      after_reads_at
      refine Eq.trans ?_ (stackedRows_latent _ _ hr _).symm
      exact congrArg _ (congrArg₂ ix2 rfl (Fin.ext (by simp only []; omega)))
    · rw [dif_neg hr]
      after_reads_at
      refine Eq.trans ?_ (stackedRows_context _ _ hr _).symm
      exact congrArg _ (congrArg₂ ix2 rfl (Fin.ext (by simp only []; omega)))

theorem lands (k : S96x2048.Idx) (i : Fin 128) (q : Fin 2048) :
    scatter_S128x2048_S1_S96x2048_01_n_0_0.resultIdx? k (broadcastInDim S1 ![] bcast_S_S1 (constantI S_ 32 0#32)) = some (ix2 i q)
      ↔ (k 0).val = i.val ∧ (k 1).val = q.val := by
  have s0 : scatter_S128x2048_S1_S96x2048_01_n_0_0.start k (broadcastInDim S1 ![] bcast_S_S1 (constantI S_ 32 0#32)) 0 = 0 := rfl
  have s1 : scatter_S128x2048_S1_S96x2048_01_n_0_0.start k (broadcastInDim S1 ![] bcast_S_S1 (constantI S_ 32 0#32)) 1 = 0 := rfl
  have w0 : scatter_S128x2048_S1_S96x2048_01_n_0_0.window k 0 = (k 0).val := rfl
  have w1 : scatter_S128x2048_S1_S96x2048_01_n_0_0.window k 1 = (k 1).val := rfl
  refine (Routing.resultIdx?_ix2 (R := 128) (C := 2048) _ k _ i q).trans ?_
  rw [s0, s1, w0, w1]
  omega

theorem padded_at (u : FVec Ideal S96x2048 .bf16) (i : Fin 128) (q : Fin 2048) :
    (Host.scatter scatter_S128x2048_S1_S96x2048_01_n_0_0 (fun x b => b) (broadcastInDim S128x2048 ![] bcast_S_S128x2048 (constant (F := Ideal) S_ FTy.bf16 0#16))
      (broadcastInDim S1 ![] bcast_S_S1 (constantI S_ 32 0#32)) u (ix2 i q) : EReal) = if h : i.val < 96 then u (ix2 (⟨i.val, h⟩ : Fin 96) q) else 0 := by
  by_cases h : i.val < 96
  · rw [dif_pos h]
    refine Routing.scatter_set_hit _ _ _ _ _ _ (fun k hk => ?_) (ix2 (⟨i.val, h⟩ : Fin 96) q) ((lands _ i q).mpr ⟨rfl, rfl⟩)
    obtain ⟨h0, h1⟩ := (lands _ i q).mp hk
    refine congrArg u (funext fun a => ?_)
    match a with
    | ⟨0, _⟩ => exact Fin.ext h0
    | ⟨1, _⟩ => exact Fin.ext h1
  · rw [dif_neg h, Routing.scatter_set_miss _ _ _ _ _ fun k hk => h (by rw [← ((lands _ i q).mp hk).1]; exact (k 0).isLt)]
    pointwise

theorem w0_at (c : Dev nD) (q : Fin 2048) : (V m c main_v19 (ix2 (0 : Fin 1) q) : EReal) = m ((c : Thread nD τ).loc main_arg4) (ix3 0 0 q) := by
  simp only [V, hostOps0]
  after_reads_at

theorem a0_at (c : Dev nD) (q : Fin 2048) : (V m c main_v21 (ix2 (0 : Fin 1) q) : EReal) = m ((c : Thread nD τ).loc main_arg6) (ix3 0 0 q) := by
  simp only [V, hostOps0]
  after_reads_at

theorem wd_at (c : Dev nD) (i : Fin 128) (q : Fin 2048) : (V m c main_v11 (ix2 i q) : EReal)
    = if h : i.val < 96 then m ((c : Thread nD τ).loc main_arg5) (ix4 0 0 (⟨i.val, h⟩ : Fin 96) q) else (0 : EReal) := by
  simp only [V, hostOps0]
  after_reads_at
  rw [padded_at]
  rfl

theorem wa_at (c : Dev nD) (i : Fin 128) (q : Fin 2048) : (V m c main_v17 (ix2 i q) : EReal)
    = if h : i.val < 96 then m ((c : Thread nD τ).loc main_arg7) (ix4 0 0 (⟨i.val, h⟩ : Fin 96) q) else (0 : EReal) := by
  simp only [V, hostOps0]
  after_reads_at
  rw [padded_at]
  rfl

/-- Where each window's block stands at each grid point: the context first, then the latents. -/
theorem places : ∀ t : Fin cfg0.N,
    win0_0.index t = ![(t.val + 32) % 33, 0] ∧ win0_1.index t = ![(t.val + 32) % 33, 1] ∧ win0_2.index t = ![(t.val + 32) % 33, 2]
    ∧ win0_3.index t = ![(t.val + 32) % 33, 24] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![(t.val + 32) % 33, 0] :=
  (by decide +kernel : ∀ t : Fin grid0.N, _)

end Cert.KernelIdeal.Hand
-- ==== Proof.Rows.lean ====
/-
  What each grid point of the scan reads: its blocks of the prepared operands, as the layer's real inputs.
-/
module

public import proofs.«01_k».proof.Proof.Blocks

@[expose] public section

set_option maxRecDepth 20000

noncomputable section

open Idealize.ShloMosaic Idealize.ShloMosaic.TcCoe Idealize.SL.Sem
open Idealize.ShloMosaic.Pipeline (Dat)

namespace Cert.KernelIdeal.Hand

open Cert.KernelIdeal Cert.KernelIdeal.Gen Scan

/-- An array all of whose entries are real numbers. -/
def AllReal {s : Shape} (x : FVec Ideal s .f32) : Prop := ∀ i, (x i : EReal) = ((EReal.toReal (x i) : ℝ) : EReal)

/-- The eight arrays the scan takes, all real. -/
structure Reals (za : FVec Ideal S8192x6592 .f32) (zca : FVec Ideal S256x6592 .f32) (kw ka : FVec Ideal S1x2048 .f32) (w0 : FVec Ideal S1x2x2048 .f32)
    (wd : FVec Ideal S1x2x96x2048 .f32) (a0 : FVec Ideal S1x2x2048 .f32) (wa : FVec Ideal S1x2x96x2048 .f32) : Prop where
  za : AllReal za
  zca : AllReal zca
  kw : AllReal kw
  ka : AllReal ka
  w0 : AllReal w0
  wd : AllReal wd
  a0 : AllReal a0
  wa : AllReal wa

/-- The scan's inputs, of the arrays. -/
def dataOf (za : FVec Ideal S8192x6592 .f32) (zca : FVec Ideal S256x6592 .f32) (kw ka : FVec Ideal S1x2048 .f32) (w0 : FVec Ideal S1x2x2048 .f32)
    (wd : FVec Ideal S1x2x96x2048 .f32) (a0 : FVec Ideal S1x2x2048 .f32) (wa : FVec Ideal S1x2x96x2048 .f32) : Data :=
  inputs (fun r q => EReal.toReal (za (ix2 r q))) (fun r q => EReal.toReal (zca (ix2 r q))) (fun q => EReal.toReal (kw (ix2 0 q)))
    (fun q => EReal.toReal (ka (ix2 0 q))) (fun q => EReal.toReal (w0 (ix3 0 0 q))) (fun q => EReal.toReal (a0 (ix3 0 0 q)))
    (fun x q => EReal.toReal (wd (ix4 0 0 x q))) (fun x q => EReal.toReal (wa (ix4 0 0 x q)))

theorem dataOf_dec (za : FVec Ideal S8192x6592 .f32) (zca : FVec Ideal S256x6592 .f32) (kw ka : FVec Ideal S1x2048 .f32) (w0 : FVec Ideal S1x2x2048 .f32)
    (wd : FVec Ideal S1x2x96x2048 .f32) (a0 : FVec Ideal S1x2x2048 .f32) (wa : FVec Ideal S1x2x96x2048 .f32) (n : ℕ) (q : Fin 2048) :
    (dataOf za zca kw ka w0 wd a0 wa).dec n q = EReal.toReal (w0 (ix3 0 0 q))
      + ∑ x : Fin 96, Real.tanh (rowAt (fun r q => EReal.toReal (za (ix2 r q))) (fun r q => EReal.toReal (zca (ix2 r q))) n ⟨4096 + x.val, by omega⟩)
        * EReal.toReal (wd (ix4 0 0 x q)) := rfl

theorem dataOf_icl (za : FVec Ideal S8192x6592 .f32) (zca : FVec Ideal S256x6592 .f32) (kw ka : FVec Ideal S1x2048 .f32) (w0 : FVec Ideal S1x2x2048 .f32)
    (wd : FVec Ideal S1x2x96x2048 .f32) (a0 : FVec Ideal S1x2x2048 .f32) (wa : FVec Ideal S1x2x96x2048 .f32) (n : ℕ) (q : Fin 2048) :
    (dataOf za zca kw ka w0 wd a0 wa).icl n q = EReal.toReal (a0 (ix3 0 0 q))
      + ∑ x : Fin 96, rowAt (fun r q => EReal.toReal (za (ix2 r q))) (fun r q => EReal.toReal (zca (ix2 r q))) n ⟨4192 + x.val, by omega⟩
        * EReal.toReal (wa (ix4 0 0 x q)) := rfl

/-- A row of the stacked projections is the row its place in the sequence names. -/
theorem stacked_real {za : FVec Ideal S8192x6592 .f32} {zca : FVec Ideal S256x6592 .f32} (hz : AllReal za) (hc : AllReal zca) (t : ℕ) (ht : t < 33)
    (s : ℕ) (hs : s < 256) (r : Fin 8448) (hr : r.val = (t + 32) % 33 * 256 + s) (q : Fin 6592) :
    stackedRows za zca r q
      = ((rowAt (fun r q => EReal.toReal (za (ix2 r q))) (fun r q => EReal.toReal (zca (ix2 r q))) (256 * t + s) q : ℝ) : EReal) := by
  unfold rowAt
  rcases Nat.eq_zero_or_pos t with rfl | hp
  · rw [stackedRows_context _ _ (by omega), dif_pos (by omega), hc]
    exact congrArg (fun i => ((EReal.toReal (zca (ix2 i q)) : ℝ) : EReal)) (Fin.ext (by simp only []; omega))
  · have h1 : (t + 32) % 33 = t - 1 := by omega
    rw [h1] at hr
    rw [stackedRows_latent _ _ (by omega), dif_neg (by omega), dif_pos (by omega), hz]
    exact congrArg (fun i => ((EReal.toReal (za (ix2 i q)) : ℝ) : EReal)) (Fin.ext (by simp only []; omega))

/-- A sum of 128 products whose last 32 weights are zero is the sum of the first 96. -/
theorem sum_padded (f : Fin 128 → EReal) (w : Fin 96 → EReal) :
    ∑ x : Fin 128, f x * (if h : x.val < 96 then w ⟨x.val, h⟩ else 0) = ∑ x : Fin 96, f ⟨x.val, by omega⟩ * w x := by
  rw [show (∑ x : Fin 128, f x * (if h : x.val < 96 then w ⟨x.val, h⟩ else 0)) = ∑ x : Fin (96 + 32), f x * (if h : x.val < 96 then w ⟨x.val, h⟩ else 0) from rfl,
    Fin.sum_univ_add, Finset.sum_eq_zero (s := (Finset.univ : Finset (Fin 32))), add_zero]
  · refine Finset.sum_congr rfl fun x _ => ?_
    rw [dif_pos (show (Fin.castAdd 32 x).val < 96 from x.isLt)]
    rfl
  · intro x _
    rw [dif_neg (show ¬ (Fin.natAdd 96 x).val < 96 from by simp), mul_zero]

/-- A low-rank branch over the padded columns, of real numbers. -/
theorem branch_real (b0 : EReal) (f w : Fin 128 → EReal) (b : ℝ) (g u : Fin 96 → ℝ) (hb : b0 = b) (hf : ∀ x : Fin 96, f ⟨x.val, by omega⟩ = g x)
    (hw : ∀ x : Fin 128, w x = if h : x.val < 96 then ((u ⟨x.val, h⟩ : ℝ) : EReal) else 0) :
    branch b0 f w = ((b + ∑ x : Fin 96, g x * u x : ℝ) : EReal) := by
  unfold branch
  simp only [hw]
  rw [sum_padded f (fun x => ((u x : ℝ) : EReal)), hb, EReal.coe_add, coe_sum]
  refine congrArg₂ (· + ·) rfl (Finset.sum_congr rfl fun x _ => ?_)
  rw [hf, ← EReal.coe_mul]

variable (m : (ℓ : Loc nD τ sig) → Buf (Elt Ideal) ℓ)

/-- The inputs the kernel's eight arguments hold. -/
abbrev kData (c : Dev nD) : Data :=
  dataOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

abbrev kReals (c : Dev nD) : Prop :=
  Reals (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

theorem row_lt (t s : ℕ) (hs : s < 256) : (t + 32) % 33 * 256 + s < 8448 := by omega

theorem k_at (c : Dev nD) (t : Fin cfg0.N) (s : Fin 256) (q : Fin 2048) :
    (X0_0 m c t (ix2 s q) : EReal) = V m c main_v5 (ix2 (⟨(t.val + 32) % 33 * 256 + s.val, row_lt _ _ s.isLt⟩ : Fin 8448) (⟨q.val, by omega⟩ : Fin 6656)) := by
  obtain ⟨e0, -⟩ := places t
  unfold X0_0 Pipeline.Window.fill
  rw [dif_pos (moved0_0 t _)]
  refine congrArg (V m c main_v5) (funext fun a => Fin.ext ?_)
  match a with
  | ⟨0, _⟩ => blk_simp [e0]
  | ⟨1, _⟩ => blk_simp [e0]

theorem v_at (c : Dev nD) (t : Fin cfg0.N) (s : Fin 256) (q : Fin 2048) :
    (X0_1 m c t (ix2 s q) : EReal) = V m c main_v5 (ix2 (⟨(t.val + 32) % 33 * 256 + s.val, row_lt _ _ s.isLt⟩ : Fin 8448) (⟨2048 + q.val, by omega⟩ : Fin 6656)) := by
  obtain ⟨e0, e1, -⟩ := places t
  unfold X0_1 Pipeline.Window.fill
  rw [dif_pos (moved0_1 t _)]
  refine congrArg (V m c main_v5) (funext fun a => Fin.ext ?_)
  match a with
  | ⟨0, _⟩ => blk_simp [e1]
  | ⟨1, _⟩ => blk_simp [e1]

theorem r_at (c : Dev nD) (t : Fin cfg0.N) (s : Fin 256) (q : Fin 2048) :
    (X0_2 m c t (ix2 s q) : EReal) = V m c main_v5 (ix2 (⟨(t.val + 32) % 33 * 256 + s.val, row_lt _ _ s.isLt⟩ : Fin 8448) (⟨4096 + q.val, by omega⟩ : Fin 6656)) := by
  obtain ⟨e0, e1, e2, -⟩ := places t
  unfold X0_2 Pipeline.Window.fill
  rw [dif_pos (moved0_2 t _)]
  refine congrArg (V m c main_v5) (funext fun a => Fin.ext ?_)
  match a with
  | ⟨0, _⟩ => blk_simp [e2]
  | ⟨1, _⟩ => blk_simp [e2]

theorem la_emb (t : Fin cfg0.N) (s q : Fin 256) :
    ((cfg0.win 3).blk t).view.emb (ix2 s q) = ix2 (⟨(t.val + 32) % 33 * 256 + s.val, row_lt _ _ s.isLt⟩ : Fin 8448) (⟨6144 + q.val, by omega⟩ : Fin 6656) := by
  obtain ⟨e0, e1, e2, e3, -⟩ := places t
  refine funext fun a => Fin.ext ?_
  match a with
  | ⟨0, _⟩ => blk_simp [e3]
  | ⟨1, _⟩ => blk_simp [e3]

theorem la_read (c : Dev nD) (t : Fin cfg0.N) (s q : Fin 256) (A : (b : Ref sig .tc) → Buf (Elt Ideal) ((c : Thread nD τ).loc b)) :
    ((cfg0.win 3).blk t).view.read (Elt Ideal) (A (Pipeline.arrRef spec0 3)) (ix2 s q) = A main_v5 (ix2 (⟨(t.val + 32) % 33 * 256 + s.val, row_lt _ _ s.isLt⟩ : Fin 8448) (⟨6144 + q.val, by omega⟩ : Fin 6656)) :=
  congrArg (A main_v5) (la_emb t s q)

theorem la_at (c : Dev nD) (t : Fin cfg0.N) (s q : Fin 256) : iblk m c 3 t (ix2 s q) = V m c main_v5 (ix2 (⟨(t.val + 32) % 33 * 256 + s.val, row_lt _ _ s.isLt⟩ : Fin 8448) (⟨6144 + q.val, by omega⟩ : Fin 6656)) := by
  unfold iblk
  exact la_read c t s q (V m c)

theorem kwb_emb (t : Fin cfg0.N) (q : Fin 2048) :
    ((cfg0.win 4).blk t).view.emb (ix2 (0 : Fin 1) q) = ix2 (0 : Fin 1) q := by
  obtain ⟨e0, e1, e2, e3, e4, -⟩ := places t
  refine funext fun a => Fin.ext ?_
  match a with
  | ⟨0, _⟩ => blk_simp [e4]
  | ⟨1, _⟩ => blk_simp [e4]

theorem kwb_read (c : Dev nD) (t : Fin cfg0.N) (q : Fin 2048) (A : (b : Ref sig .tc) → Buf (Elt Ideal) ((c : Thread nD τ).loc b)) :
    ((cfg0.win 4).blk t).view.read (Elt Ideal) (A (Pipeline.arrRef spec0 4)) (ix2 (0 : Fin 1) q) = A main_arg2 (ix2 (0 : Fin 1) q) :=
  congrArg (A main_arg2) (kwb_emb t q)

theorem kwb_at (c : Dev nD) (t : Fin cfg0.N) (q : Fin 2048) : iblk m c 4 t (ix2 (0 : Fin 1) q) = V m c main_arg2 (ix2 (0 : Fin 1) q) := by
  unfold iblk
  exact kwb_read c t q (V m c)

theorem kab_emb (t : Fin cfg0.N) (q : Fin 2048) :
    ((cfg0.win 5).blk t).view.emb (ix2 (0 : Fin 1) q) = ix2 (0 : Fin 1) q := by
  obtain ⟨e0, e1, e2, e3, e4, e5, -⟩ := places t
  refine funext fun a => Fin.ext ?_
  match a with
  | ⟨0, _⟩ => blk_simp [e5]
  | ⟨1, _⟩ => blk_simp [e5]

theorem kab_read (c : Dev nD) (t : Fin cfg0.N) (q : Fin 2048) (A : (b : Ref sig .tc) → Buf (Elt Ideal) ((c : Thread nD τ).loc b)) :
    ((cfg0.win 5).blk t).view.read (Elt Ideal) (A (Pipeline.arrRef spec0 5)) (ix2 (0 : Fin 1) q) = A main_arg3 (ix2 (0 : Fin 1) q) :=
  congrArg (A main_arg3) (kab_emb t q)

theorem kab_at (c : Dev nD) (t : Fin cfg0.N) (q : Fin 2048) : iblk m c 5 t (ix2 (0 : Fin 1) q) = V m c main_arg3 (ix2 (0 : Fin 1) q) := by
  unfold iblk
  exact kab_read c t q (V m c)

theorem w0b_emb (t : Fin cfg0.N) (q : Fin 2048) :
    ((cfg0.win 6).blk t).view.emb (ix2 (0 : Fin 1) q) = ix2 (0 : Fin 1) q := by
  obtain ⟨e0, e1, e2, e3, e4, e5, e6, -⟩ := places t
  refine funext fun a => Fin.ext ?_
  match a with
  | ⟨0, _⟩ => blk_simp [e6]
  | ⟨1, _⟩ => blk_simp [e6]

theorem w0b_read (c : Dev nD) (t : Fin cfg0.N) (q : Fin 2048) (A : (b : Ref sig .tc) → Buf (Elt Ideal) ((c : Thread nD τ).loc b)) :
    ((cfg0.win 6).blk t).view.read (Elt Ideal) (A (Pipeline.arrRef spec0 6)) (ix2 (0 : Fin 1) q) = A main_v19 (ix2 (0 : Fin 1) q) :=
  congrArg (A main_v19) (w0b_emb t q)

theorem w0b_at (c : Dev nD) (t : Fin cfg0.N) (q : Fin 2048) : iblk m c 6 t (ix2 (0 : Fin 1) q) = V m c main_v19 (ix2 (0 : Fin 1) q) := by
  unfold iblk
  exact w0b_read c t q (V m c)

theorem a0b_emb (t : Fin cfg0.N) (q : Fin 2048) :
    ((cfg0.win 7).blk t).view.emb (ix2 (0 : Fin 1) q) = ix2 (0 : Fin 1) q := by
  obtain ⟨e0, e1, e2, e3, e4, e5, e6, e7, -⟩ := places t
  refine funext fun a => Fin.ext ?_
  match a with
  | ⟨0, _⟩ => blk_simp [e7]
  | ⟨1, _⟩ => blk_simp [e7]

theorem a0b_read (c : Dev nD) (t : Fin cfg0.N) (q : Fin 2048) (A : (b : Ref sig .tc) → Buf (Elt Ideal) ((c : Thread nD τ).loc b)) :
    ((cfg0.win 7).blk t).view.read (Elt Ideal) (A (Pipeline.arrRef spec0 7)) (ix2 (0 : Fin 1) q) = A main_v21 (ix2 (0 : Fin 1) q) :=
  congrArg (A main_v21) (a0b_emb t q)

theorem a0b_at (c : Dev nD) (t : Fin cfg0.N) (q : Fin 2048) : iblk m c 7 t (ix2 (0 : Fin 1) q) = V m c main_v21 (ix2 (0 : Fin 1) q) := by
  unfold iblk
  exact a0b_read c t q (V m c)

/-- The weights of a branch, padded, and a grid point's block of them. -/
def wdAll (c : Dev nD) : FVec Ideal S128x2048 .bf16 := V m c main_v11

def wdBlk (c : Dev nD) (t : Fin cfg0.N) : FVec Ideal S128x2048 .bf16 := iblk m c 8 t

theorem wdAll_at (c : Dev nD) (i : Fin 128) (q : Fin 2048) : @Eq EReal (wdAll m c (ix2 i q))
    (if h : i.val < 96 then m ((c : Thread nD τ).loc main_arg5) (ix4 0 0 (⟨i.val, h⟩ : Fin 96) q) else 0) := wd_at m c i q

theorem wdb_emb (t : Fin cfg0.N) (x : Fin 128) (q : Fin 2048) :
    ((cfg0.win 8).blk t).view.emb (ix2 x q) = ix2 x q := by
  obtain ⟨e0, e1, e2, e3, e4, e5, e6, e7, e8, -⟩ := places t
  refine funext fun a => Fin.ext ?_
  match a with
  | ⟨0, _⟩ => blk_simp [e8]
  | ⟨1, _⟩ => blk_simp [e8]

theorem wdb_read (c : Dev nD) (t : Fin cfg0.N) (x : Fin 128) (q : Fin 2048) (A : (b : Ref sig .tc) → Buf (Elt Ideal) ((c : Thread nD τ).loc b)) :
    ((cfg0.win 8).blk t).view.read (Elt Ideal) (A (Pipeline.arrRef spec0 8)) (ix2 x q) = A main_v11 (ix2 x q) :=
  congrArg (A main_v11) (wdb_emb t x q)

theorem wdb_at (c : Dev nD) (t : Fin cfg0.N) (x : Fin 128) (q : Fin 2048) : wdBlk m c t (ix2 x q) = wdAll m c (ix2 x q) := by
  unfold wdBlk wdAll iblk
  exact wdb_read c t x q (V m c)

/-- The weights of a branch, padded, and a grid point's block of them. -/
def waAll (c : Dev nD) : FVec Ideal S128x2048 .bf16 := V m c main_v17

def waBlk (c : Dev nD) (t : Fin cfg0.N) : FVec Ideal S128x2048 .bf16 := iblk m c 9 t

theorem waAll_at (c : Dev nD) (i : Fin 128) (q : Fin 2048) : @Eq EReal (waAll m c (ix2 i q))
    (if h : i.val < 96 then m ((c : Thread nD τ).loc main_arg7) (ix4 0 0 (⟨i.val, h⟩ : Fin 96) q) else 0) := wa_at m c i q

theorem wab_emb (t : Fin cfg0.N) (x : Fin 128) (q : Fin 2048) :
    ((cfg0.win 9).blk t).view.emb (ix2 x q) = ix2 x q := by
  obtain ⟨e0, e1, e2, e3, e4, e5, e6, e7, e8, e9, -⟩ := places t
  refine funext fun a => Fin.ext ?_
  match a with
  | ⟨0, _⟩ => blk_simp [e9]
  | ⟨1, _⟩ => blk_simp [e9]

theorem wab_read (c : Dev nD) (t : Fin cfg0.N) (x : Fin 128) (q : Fin 2048) (A : (b : Ref sig .tc) → Buf (Elt Ideal) ((c : Thread nD τ).loc b)) :
    ((cfg0.win 9).blk t).view.read (Elt Ideal) (A (Pipeline.arrRef spec0 9)) (ix2 x q) = A main_v17 (ix2 x q) :=
  congrArg (A main_v17) (wab_emb t x q)

theorem wab_at (c : Dev nD) (t : Fin cfg0.N) (x : Fin 128) (q : Fin 2048) : waBlk m c t (ix2 x q) = waAll m c (ix2 x q) := by
  unfold waBlk waAll iblk
  exact wab_read c t x q (V m c)

end Cert.KernelIdeal.Hand
-- ==== Proof.Fit.lean ====
/-
  Each grid point's blocks are 256 positions of the layer's inputs.
-/
module

public import proofs.«01_k».proof.Proof.Rows

@[expose] public section

set_option maxRecDepth 20000

noncomputable section

open Idealize.ShloMosaic Idealize.ShloMosaic.TcCoe Idealize.SL.Sem
open Idealize.ShloMosaic.Pipeline (Dat)

namespace Cert.KernelIdeal.Hand

open Cert.KernelIdeal Cert.KernelIdeal.Gen Scan

variable (m : (ℓ : Loc nD τ sig) → Buf (Elt Ideal) ℓ)

/-- The entry of the stacked projections at a position of the sequence. -/
abbrev kRow (c : Dev nD) (n : ℕ) (q : Fin 6592) : ℝ :=
  rowAt (fun r q => EReal.toReal (m ((c : Thread nD τ).loc main_arg0) (ix2 r q))) (fun r q => EReal.toReal (m ((c : Thread nD τ).loc main_arg1) (ix2 r q))) n q

theorem z_row (c : Dev nD) (h : kReals m c) (t : Fin cfg0.N) (s : Fin 256) (q : Fin 6656) (q' : Fin 6592)
    (hq : (q.val < 4096 ∧ q'.val = q.val) ∨ (4096 ≤ q.val ∧ q.val < 6144 ∧ q'.val = q.val + 192) ∨ (6144 ≤ q.val ∧ q.val < 6400 ∧ q'.val + 2048 = q.val)) :
    (V m c main_v5 (ix2 (⟨(t.val + 32) % 33 * 256 + s.val, row_lt _ _ s.isLt⟩ : Fin 8448) q) : EReal) = ((kRow m c (256 * t.val + s.val) q' : ℝ) : EReal) :=
  (zs_at m c _ q q' hq).trans (stacked_real h.za h.zca t.val t.isLt s.val s.isLt _ rfl q')

theorem la_row (c : Dev nD) (h : kReals m c) (t : Fin cfg0.N) (s e : Fin 256) (q' : Fin 6592) (hq : q'.val = 4096 + e.val) :
    (iblk m c 3 t (ix2 s e) : EReal) = ((kRow m c (256 * t.val + s.val) q' : ℝ) : EReal) := by
  refine (la_at m c t s e).trans (z_row m c h t s _ q' (Or.inr (Or.inr ?_)))
  refine ⟨?_, ?_, ?_⟩
  · show 6144 ≤ 6144 + e.val; omega
  · show 6144 + e.val < 6400; omega
  · show q'.val + 2048 = 6144 + e.val; omega

theorem dec_row (c : Dev nD) (h : kReals m c) (t : Fin cfg0.N) (s : Fin 256) (x : Fin 96) (e : Fin 256) (he : e.val = x.val) :
    (iblk m c 3 t (ix2 s e) : EReal) = ((kRow m c (256 * t.val + s.val) (⟨4096 + x.val, by omega⟩ : Fin 6592) : ℝ) : EReal) :=
  la_row m c h t s e _ (by show 4096 + x.val = 4096 + e.val; omega)

theorem icl_row (c : Dev nD) (h : kReals m c) (t : Fin cfg0.N) (s : Fin 256) (x : Fin 96) (e : Fin 256) (he : e.val = 96 + x.val) :
    (iblk m c 3 t (ix2 s e) : EReal) = ((kRow m c (256 * t.val + s.val) (⟨4192 + x.val, by omega⟩ : Fin 6592) : ℝ) : EReal) :=
  la_row m c h t s e _ (by show 4192 + x.val = 4096 + e.val; omega)

theorem wd_row (c : Dev nD) (h : kReals m c) (t : Fin cfg0.N) (x : Fin 128) (q : Fin 2048) :
    @Eq EReal (wdBlk m c t (ix2 x q)) (if h : x.val < 96 then (((EReal.toReal (m ((c : Thread nD τ).loc main_arg5) (ix4 0 0 (⟨x.val, h⟩ : Fin 96) q))) : ℝ) : EReal) else 0) :=
  ((wdb_at m c t x q).trans (wdAll_at m c x q)).trans (dite_congr rfl (fun _ => h.wd _) fun _ => rfl)

theorem wa_row (c : Dev nD) (h : kReals m c) (t : Fin cfg0.N) (x : Fin 128) (q : Fin 2048) :
    @Eq EReal (waBlk m c t (ix2 x q)) (if h : x.val < 96 then (((EReal.toReal (m ((c : Thread nD τ).loc main_arg7) (ix4 0 0 (⟨x.val, h⟩ : Fin 96) q))) : ℝ) : EReal) else 0) :=
  ((wab_at m c t x q).trans (waAll_at m c x q)).trans (dite_congr rfl (fun _ => h.wa _) fun _ => rfl)

theorem dec_fits (c : Dev nD) (h : kReals m c) (t : Fin cfg0.N) (s : Fin 256) (q : Fin 2048) :
    branch (iblk m c 6 t (ix2 (0 : Fin 1) q)) (fun x => Ideal.tanh (iblk m c 3 t (ix2 s (⟨x.val, by omega⟩ : Fin 256)))) (fun x => wdBlk m c t (ix2 x q))
      = (((EReal.toReal (m ((c : Thread nD τ).loc main_arg4) (ix3 0 0 q))) + ∑ x : Fin 96, Real.tanh (kRow m c (256 * t.val + s.val) (⟨4096 + x.val, by omega⟩ : Fin 6592)) * EReal.toReal (m ((c : Thread nD τ).loc main_arg5) (ix4 0 0 x q)) : ℝ) : EReal) :=
  branch_real _ _ _ _ (fun x => Real.tanh (kRow m c (256 * t.val + s.val) (⟨4096 + x.val, by omega⟩ : Fin 6592))) (fun x => EReal.toReal (m ((c : Thread nD τ).loc main_arg5) (ix4 0 0 x q)))
    ((w0b_at m c t q).trans ((w0_at m c q).trans (h.w0 _))) (fun x => (congrArg Ideal.tanh (dec_row m c h t s x _ rfl)).trans (Ideal.tanh_coe _)) (fun x => wd_row m c h t x q)

theorem icl_fits (c : Dev nD) (h : kReals m c) (t : Fin cfg0.N) (s : Fin 256) (q : Fin 2048) :
    branch (iblk m c 7 t (ix2 (0 : Fin 1) q)) (fun x => iblk m c 3 t (ix2 s (⟨96 + x.val, by omega⟩ : Fin 256))) (fun x => waBlk m c t (ix2 x q))
      = (((EReal.toReal (m ((c : Thread nD τ).loc main_arg6) (ix3 0 0 q))) + ∑ x : Fin 96, kRow m c (256 * t.val + s.val) (⟨4192 + x.val, by omega⟩ : Fin 6592) * EReal.toReal (m ((c : Thread nD τ).loc main_arg7) (ix4 0 0 x q)) : ℝ) : EReal) :=
  branch_real _ _ _ _ (fun x => kRow m c (256 * t.val + s.val) (⟨4192 + x.val, by omega⟩ : Fin 6592)) (fun x => EReal.toReal (m ((c : Thread nD τ).loc main_arg7) (ix4 0 0 x q)))
    ((a0b_at m c t q).trans ((a0_at m c q).trans (h.a0 _))) (fun x => icl_row m c h t s x _ rfl) (fun x => wa_row m c h t x q)

/-- The blocks of grid point `t` are the inputs' positions from `256 t`. -/
theorem fits (c : Dev nD) (h : kReals m c) (t : Fin cfg0.N) : Fits ⟨X0_0 m c t, X0_1 m c t, X0_2 m c t, iblk m c 3 t, iblk m c 4 t, iblk m c 5 t, iblk m c 6 t, iblk m c 7 t, wdBlk m c t, waBlk m c t⟩ (kData m c) (256 * t.val) where
  k s q := (k_at m c t s q).trans (z_row m c h t s _ _ (Or.inl ⟨by simp only []; omega, rfl⟩))
  v s q := (v_at m c t s q).trans (z_row m c h t s _ _ (Or.inl ⟨by simp only []; omega, rfl⟩))
  r s q := (r_at m c t s q).trans (z_row m c h t s _ _ (Or.inr (Or.inl ⟨by simp only []; omega, by simp only []; omega, by simp only []; omega⟩)))
  kw q := (kwb_at m c t q).trans (h.kw _)
  ka q := (kab_at m c t q).trans (h.ka _)
  dec s q := by
    dsimp only
    rw [dataOf_dec]
    exact dec_fits m c h t s q
  icl s q := by
    dsimp only
    rw [dataOf_icl]
    exact icl_fits m c h t s q

end Cert.KernelIdeal.Hand
-- ==== Proof.Result.lean ====
/-
  The layer's result, row by row.
-/
module

public import proofs.«01_k».proof.Proof.Data

@[expose] public section

noncomputable section

namespace Scan

/-- A channel's pair of heads, the head within it and the lane within the head. -/
theorem exists_chan (q : Fin 2048) : ∃ p g j, q = chan p g j :=
  ⟨⟨q.val / 128, by omega⟩, ⟨q.val % 128 / 64, by omega⟩, ⟨q.val % 64, by omega⟩, Fin.ext (by simp only [chan]; omega)⟩

/-- The recurrence's reading at a position and a channel. -/
def outAt (d : Data) (n : ℕ) (q : Fin 2048) : ℝ :=
  Scan.read (d.pos ⟨q.val / 128, by omega⟩ ⟨q.val % 128 / 64, by omega⟩) 0 n ⟨q.val % 64, by omega⟩

theorem outAt_chan (d : Data) (n : ℕ) (p : Fin 16) (g : Fin 2) (j : Fin 64) : outAt d n (chan p g j) = Scan.read (d.pos p g) 0 n j := by
  unfold outAt
  have h1 : (⟨(chan p g j).val / 128, by omega⟩ : Fin 16) = p := Fin.ext (by simp only [chan]; omega)
  have h2 : (⟨(chan p g j).val % 128 / 64, by omega⟩ : Fin 2) = g := Fin.ext (by simp only [chan]; omega)
  have h3 : (⟨(chan p g j).val % 64, by omega⟩ : Fin 64) = j := Fin.ext (by simp only [chan]; omega)
  rw [h1, h2, h3]

/-- The position a row of the result holds: the latents' rows come first, then the context's. -/
def source (r : ℕ) : ℕ := if r < 8192 then r + 256 else r - 8192

/-- The result at a row and a channel. -/
def result (d : Data) (r : Fin 8448) (q : Fin 2048) : EReal := ((outAt d (source r.val) q : ℝ) : EReal)

end Scan
-- ==== Proof.Grid.lean ====
/-
  The kernel's output array is the recurrence, read position by position.
-/
module

public import proofs.«01_k».proof.Proof.Fit
public import proofs.«01_k».proof.Proof.Result

@[expose] public section

set_option maxRecDepth 20000

noncomputable section

open Idealize.ShloMosaic Idealize.ShloMosaic.TcCoe Idealize.SL.Sem
open Idealize.ShloMosaic.Pipeline (Dat)

namespace Cert.KernelIdeal.Hand

open Cert.KernelIdeal Cert.KernelIdeal.Gen Scan

variable (m : (ℓ : Loc nD τ sig) → Buf (Elt Ideal) ℓ)

/-- The blocks of a grid point. -/
def kBlk (c : Dev nD) (t : Fin cfg0.N) : Blk Ideal :=
  ⟨X0_0 m c t, X0_1 m c t, X0_2 m c t, iblk m c 3 t, iblk m c 4 t, iblk m c 5 t, iblk m c 6 t, iblk m c 7 t, wdBlk m c t, waBlk m c t⟩

theorem outs_A (c : Dev nD) (t : Fin cfg0.N) (h0 : t.val % 33 = 0) :
    outsAt0 m c t.val t.isLt = (pointOut (kBlk m c t) k0_pay3, state4 (kBlk m c t) k0_pay3) := by
  rw [outsAt0_A m c t h0, out_A, sout_A]
  unfold kBlk wdBlk waBlk
  exact Eq.refl _

theorem outs_B (c : Dev nD) (t : Fin cfg0.N) (h0 : ¬ t.val % 33 = 0) :
    outsAt0 m c t.val t.isLt = (pointOut (kBlk m c t) (outsAt0 m c (t.val - 1) (by omega)).2, state4 (kBlk m c t) (outsAt0 m c (t.val - 1) (by omega)).2) := by
  rw [outsAt0_B m c t h0, out_B, sout_B]
  unfold kBlk wdBlk waBlk
  exact Eq.refl _

theorem zero_state (d : Data) : IsState (k0_pay3 (F := Ideal)) (states d 0) := by
  intro p g i g' j
  rw [show ((states d 0 p g i j : ℝ) : EReal) = 0 from EReal.coe_zero, ite_self]
  pointwise [k0_pay3]

/-- Each grid point's output block and the state it leaves. -/
theorem grid (c : Dev nD) (h : kReals m c) : ∀ n (hn : n < cfg0.N),
    (∀ (s : Fin 256) p g j, ((outsAt0 m c n hn).1 (ix2 s (chan p g j)) : EReal) = ((Scan.read ((kData m c).pos p g) 0 (256 * n + s.val) j : ℝ) : EReal))
    ∧ IsState (outsAt0 m c n hn).2 (states (kData m c) (256 * n + 256)) := by
  intro n
  induction n with
  | zero =>
    intro hn
    have e := outs_A m c ⟨0, hn⟩ rfl
    rw [show outsAt0 m c 0 hn = _ from e]
    exact Fits.point (fits m c h ⟨0, hn⟩) (zero_state _)
  | succ n ih =>
    intro hn
    have e := outs_B m c ⟨n + 1, hn⟩ (by have : n + 1 < 33 := hn; simp only []; omega)
    rw [show outsAt0 m c (n + 1) hn = _ from e]
    exact Fits.point (fits m c h ⟨n + 1, hn⟩) (ih (by omega)).2

theorem out_at (c : Dev nD) (h : kReals m c) (t : Fin cfg0.N) (s : Fin 256) (q : Fin 2048) :
    ((outsAt0 m c t.val t.isLt).1 (ix2 s q) : EReal) = ((outAt (kData m c) (256 * t.val + s.val) q : ℝ) : EReal) := by
  obtain ⟨p, g, j, rfl⟩ := exists_chan q
  rw [outAt_chan]
  exact (grid m c h t.val t.isLt).1 s p g j

/-- A block's rows land where the array's rows are read. -/
theorem block (c : Dev nD) (h : kReals m c) (t : Fin cfg0.N) (y : S256x2048.Idx) :
    ((outsAt0 m c t.val t.isLt).1 y : EReal) = result (kData m c) ((win0_10.blk t).view.emb y 0) ((win0_10.blk t).view.emb y 1) := by
  have e := (places t).2.2.2.2.2.2.2.2.2.2
  have ht : t.val < 33 := t.isLt
  have hs : (y 0).val < 256 := (y 0).isLt
  rw [eq_ix2 (n0 := 256) (n1 := 2048) y, out_at m c h t (y 0) (y 1)]
  unfold result
  have h0 : ((win0_10.blk t).view.emb (ix2 (y 0) (y 1)) 0).val = 256 * ((t.val + 32) % 33) + (y 0).val := by blk_simp [e]; try omega
  have h1 : (win0_10.blk t).view.emb (ix2 (y 0) (y 1)) 1 = y 1 := Fin.ext (by blk_simp [e])
  rw [h1, h0, show source (256 * ((t.val + 32) % 33) + (y 0).val) = 256 * t.val + (y 0).val from by unfold source; split <;> omega]

/-- The kernel's array, once every block has been written. -/
theorem final (c : Dev nD) (h : kReals m c) :
    (dats m 0 c).arrAt 10 cfg0.N = fun i => result (kData m c) (i 0) (i 1) := by
  refine (dats m 0 c).arrAt_eq_of_covers 10 _ (by decide +kernel) fun t _ y => ?_
  blk_simp
  rw [after0_10]
  exact block m c h t y

end Cert.KernelIdeal.Hand
-- ==== Proof.Trip.lean ====
/-
  One trip of the reference's loop, read at an index.
-/
module

public import proofs.«01_k».proof.Proof.Gen.ReferenceIdeal.Run
public import Idealize.ShloMosaic.Lib.Pointwise

@[expose] public section

set_option maxRecDepth 20000

noncomputable section

open Idealize.ShloMosaic Idealize.ShloMosaic.TcCoe Idealize.SL.Sem

namespace Cert.ReferenceIdeal.Hand

open Cert.ReferenceIdeal Cert.ReferenceIdeal.Gen

/-- The loop's counter. -/
abbrev Ctr := (⟨S_, .i32⟩ : BufTy).Contents (Elt Ideal)

/-- The start of the slice a trip takes, clamped: the trip's row, from its first entry. -/
theorem start_at (n : Fin 8448) (ht) (a : Fin 3) :
    Host.clampedStart S8448x32x64 S1x32x64 ht (fun k => (((![fun _ => BitVec.ofNat 32 n.val, constantI S_ 32 0#32, constantI S_ 32 0#32] : Fin 3 → Ctr)) k (Shape.Idx.first h_S_)).toInt) a
      = (![n.val, 0, 0] : Fin 3 → ℕ) a := by
  have hn : (BitVec.ofNat 32 n.val).toInt = n.val := by
    rw [BitVec.toInt_ofNat', Int.bmod]
    have := n.isLt
    split <;> omega
  match a with
  | ⟨0, _⟩ => exact Host.clampedStart_of_le _ _ _ _ hn (by show n.val + 1 ≤ 8448; omega)
  | ⟨1, _⟩ => exact Host.clampedStart_of_le _ _ _ 0 rfl (by show 0 + 32 ≤ 32; omega)
  | ⟨2, _⟩ => exact Host.clampedStart_of_le _ _ _ 0 rfl (by show 0 + 64 ≤ 64; omega)

/-- The row a trip takes. -/
theorem row_at (b : FVec Ideal S8448x32x64 .f32) (n : Fin 8448) (h : Fin 32) (j : Fin 64) (p0) (p1) (p2) :
    b (ix3 ⟨Host.clampedStart S8448x32x64 S1x32x64 sliceFits_S8448x32x64_S1x32x64.1 (fun k => (((![fun _ => BitVec.ofNat 32 n.val, constantI S_ 32 0#32, constantI S_ 32 0#32] : Fin 3 → Ctr)) k (Shape.Idx.first h_S_)).toInt) 0, p0⟩
          ⟨Host.clampedStart S8448x32x64 S1x32x64 sliceFits_S8448x32x64_S1x32x64.1 (fun k => (((![fun _ => BitVec.ofNat 32 n.val, constantI S_ 32 0#32, constantI S_ 32 0#32] : Fin 3 → Ctr)) k (Shape.Idx.first h_S_)).toInt) 1 + h.val, p1⟩
          ⟨Host.clampedStart S8448x32x64 S1x32x64 sliceFits_S8448x32x64_S1x32x64.1 (fun k => (((![fun _ => BitVec.ofNat 32 n.val, constantI S_ 32 0#32, constantI S_ 32 0#32] : Fin 3 → Ctr)) k (Shape.Idx.first h_S_)).toInt) 2 + j.val, p2⟩)
      = b (ix3 n h j) := by
  have s0 := start_at n sliceFits_S8448x32x64_S1x32x64.1 0
  have s1 := start_at n sliceFits_S8448x32x64_S1x32x64.1 1
  have s2 := start_at n sliceFits_S8448x32x64_S1x32x64.1 2
  congr 1
  funext a
  match a with
  | ⟨0, _⟩ => exact Fin.ext s0
  | ⟨1, _⟩ => exact Fin.ext ((congrArg (· + h.val) s1).trans (Nat.zero_add _))
  | ⟨2, _⟩ => exact Fin.ext ((congrArg (· + j.val) s2).trans (Nat.zero_add _))

/-- The rows after a trip has put its own in. -/
theorem put_at (b : FVec Ideal S8448x32x64 .f32) (u : FVec Ideal S1x32x64 .f32) (n : Fin 8448) (n' : Fin 8448) (h : Fin 32) (j : Fin 64) :
    Host.dynamicUpdateSlice b u (fun k => (((![fun _ => BitVec.ofNat 32 n.val, constantI S_ 32 0#32, constantI S_ 32 0#32] : Fin 3 → Ctr)) k (Shape.Idx.first h_S_)).toInt) updateFits_S8448x32x64_S1x32x64 (ix3 n' h j)
      = if n' = n then u (ix3 0 h j) else b (ix3 n' h j) := by
  have s0 := start_at n updateFits_S8448x32x64_S1x32x64.1 0
  have s1 := start_at n updateFits_S8448x32x64_S1x32x64.1 1
  have s2 := start_at n updateFits_S8448x32x64_S1x32x64.1 2
  simp only [Matrix.cons_val_zero, Matrix.cons_val_one, Matrix.cons_val] at s0 s1 s2
  rw [Host.dynamicUpdateSlice_apply]
  by_cases e : n' = n
  · subst e
    rw [dif_pos (fun a => by
      match a with
      | ⟨0, _⟩ => exact ⟨s0.le, lt_of_lt_of_eq (Nat.lt_succ_self n'.val) (congrArg (· + 1) s0.symm)⟩
      | ⟨1, _⟩ => exact ⟨s1.le.trans (Nat.zero_le _), lt_of_lt_of_le h.isLt (Nat.le_add_left 32 _)⟩
      | ⟨2, _⟩ => exact ⟨s2.le.trans (Nat.zero_le _), lt_of_lt_of_le j.isLt (Nat.le_add_left 64 _)⟩), if_pos rfl]
    congr 1
    funext a
    match a with
    | ⟨0, _⟩ => exact Fin.ext (Nat.sub_eq_zero_of_le s0.ge)
    | ⟨1, _⟩ => exact Fin.ext ((congrArg (h.val - ·) s1).trans (Nat.sub_zero _))
    | ⟨2, _⟩ => exact Fin.ext ((congrArg (j.val - ·) s2).trans (Nat.sub_zero _))
  · rw [dif_neg (fun hin => e (Fin.ext (by
      have l1 : n.val ≤ n'.val := s0.symm.le.trans (hin 0).1
      have l2 : n'.val < n.val + 1 := lt_of_lt_of_eq (hin 0).2 (congrArg (· + 1) s0)
      omega))), if_neg e]

variable (V0 : Valuation τ sig (Elt Ideal)) (n : Fin 8448)

/-- The state after a trip, of the buffers before it. -/
def newState : FVec Ideal S32x64x64 .f32 := Value.res_main_while0b_v98 V0

/-- The state a trip leaves. -/
theorem state_at {S : FVec Ideal S32x64x64 .f32} {D K V A B : FVec Ideal S8448x32x64 .f32}
    (hc : V0 (Proc.devRef .tc main_v72_6) = fun _ => BitVec.ofNat 32 n.val)
    (e0 : V0 (Proc.devRef .tc main_v72_0) = D) (e1 : V0 (Proc.devRef .tc main_v72_1) = K) (e2 : V0 (Proc.devRef .tc main_v72_2) = V)
    (e3 : V0 (Proc.devRef .tc main_v72_3) = A) (e4 : V0 (Proc.devRef .tc main_v72_4) = B) (e7 : V0 (Proc.devRef .tc main_v72_7) = S)
    (h : Fin 32) (v k : Fin 64) :
    @Eq EReal (newState V0 (ix3 h v k))
      ((S (ix3 h v k) : EReal) * D (ix3 n h k) + (∑ j : Fin 64, (S (ix3 h v j) : EReal) * A (ix3 n h j)) * B (ix3 n h k)
        + V (ix3 n h v) * K (ix3 n h k)) := by
  unfold newState Value.res_main_while0b_v98
  rw [hc, e0, e1, e2, e3, e4, e7]
  pointwise
  refine congrArg₂ (fun x y : EReal => x + y) (congrArg₂ (fun x y : EReal => x + y) (congrArg (fun y : EReal => _ * y) (row_at D n h k _ _ _))
    (congrArg₂ (fun x y : EReal => x * y) (Finset.sum_congr rfl fun j _ => congrArg (fun y : EReal => _ * y) (row_at A n h j _ _ _)) (row_at B n h k _ _ _)))
    (congrArg₂ (fun x y : EReal => x * y) (row_at V n h v _ _ _) (row_at K n h k _ _ _))

/-- The rows a trip leaves. -/
theorem rows_at {Y R : FVec Ideal S8448x32x64 .f32}
    (hc : V0 (Proc.devRef .tc main_v72_6) = fun _ => BitVec.ofNat 32 n.val)
    (e5 : V0 (Proc.devRef .tc main_v72_5) = R) (e8 : V0 (Proc.devRef .tc main_v72_8) = Y) (n' : Fin 8448) (h : Fin 32) (v : Fin 64) :
    @Eq EReal (Value.step_main_v72_8 V0 (ix3 n' h v))
      (if n' = n then ∑ j : Fin 64, (newState V0 (ix3 h v j) : EReal) * R (ix3 n h j) else Y (ix3 n' h v)) := by
  unfold Value.step_main_v72_8 newState
  rw [hc, e5, e8]
  generalize Value.res_main_while0b_v98 V0 = S
  refine (put_at _ _ n n' h v).trans ?_
  split
  · pointwise
    exact Finset.sum_congr rfl fun j _ => congrArg (fun y : EReal => _ * y) (row_at R n h j _ _ _)
  · rfl

end Cert.ReferenceIdeal.Hand
-- ==== Proof.Loop.lean ====
/-
  The reference's loop is the recurrence, one position a trip.
-/
module

public import proofs.«01_k».proof.Proof.Trip
public import proofs.«01_k».proof.Proof.Reads
public import proofs.«01_k».proof.Proof.Result

@[expose] public section

set_option maxRecDepth 20000

noncomputable section

open Idealize.ShloMosaic Idealize.ShloMosaic.TcCoe Idealize.SL.Sem

namespace Cert.ReferenceIdeal.Hand

open Cert.ReferenceIdeal Cert.ReferenceIdeal.Gen Scan

/-- A head's positions: head `h` is the second or the first of its pair. -/
def headPos (d : Data) (h : Fin 32) : ℕ → Pos := d.pos ⟨h.val / 2, by omega⟩ ⟨h.val % 2, by omega⟩

/-- An array that holds, position by position, a real vector per head. -/
def Holds (x : FVec Ideal S8448x32x64 .f32) (f : Fin 32 → ℕ → Fin 64 → ℝ) : Prop :=
  ∀ (n : Fin 8448) h j, @Eq EReal (x (ix3 n h j)) ((f h n.val j : ℝ) : EReal)

/-- What the loop's buffers hold after `k` trips. -/
structure After (d : Data) (k : ℕ) (V : Valuation τ sig (Elt Ideal)) : Prop where
  decay : Holds (V (Proc.devRef .tc main_v72_0)) fun h n j => Real.exp ((headPos d h n).lw j)
  key : Holds (V (Proc.devRef .tc main_v72_1)) fun h n => (headPos d h n).κ
  value : Holds (V (Proc.devRef .tc main_v72_2)) fun h n => (headPos d h n).v
  remove : Holds (V (Proc.devRef .tc main_v72_3)) fun h n => (headPos d h n).α
  replace : Holds (V (Proc.devRef .tc main_v72_4)) fun h n => (headPos d h n).β
  reader : Holds (V (Proc.devRef .tc main_v72_5)) fun h n => (headPos d h n).r
  count : V (Proc.devRef .tc main_v72_6) = fun _ => BitVec.ofNat 32 k
  state : ∀ (h : Fin 32) (v j : Fin 64), @Eq EReal ((V (Proc.devRef .tc main_v72_7) : FVec Ideal S32x64x64 .f32) (ix3 h v j)) ((seq (headPos d h) 0 k v j : ℝ) : EReal)
  rows : ∀ (n : Fin 8448) (h : Fin 32) (v : Fin 64), n.val < k →
    @Eq EReal ((V (Proc.devRef .tc main_v72_8) : FVec Ideal S8448x32x64 .f32) (ix3 n h v)) ((Scan.read (headPos d h) 0 n.val v : ℝ) : EReal)

variable {d : Data} {k : ℕ} {V : Valuation τ sig (Elt Ideal)}

/-- The state after a trip. -/
theorem After.state_step (a : After d k V) (hk : k < 8448) (h : Fin 32) (v j : Fin 64) :
    @Eq EReal (newState V (ix3 h v j)) ((seq (headPos d h) 0 (k + 1) v j : ℝ) : EReal) := by
  refine (state_at V ⟨k, hk⟩ a.count rfl rfl rfl rfl rfl rfl h v j).trans ?_
  refine (congrArg₂ (fun x y : EReal => x + y) (congrArg₂ (fun x y : EReal => x + y) (congrArg₂ (fun x y : EReal => x * y) (a.state h v j) (a.decay ⟨k, hk⟩ h j))
    (congrArg₂ (fun x y : EReal => x * y) (Finset.sum_congr rfl fun j' _ => congrArg₂ (fun x y : EReal => x * y) (a.state h v j') (a.remove ⟨k, hk⟩ h j')) (a.replace ⟨k, hk⟩ h j)))
    (congrArg₂ (fun x y : EReal => x * y) (a.value ⟨k, hk⟩ h v) (a.key ⟨k, hk⟩ h j))).trans ?_
  show _ = ((step (seq (headPos d h) 0 k) (headPos d h k) v j : ℝ) : EReal)
  unfold step
  rw [EReal.coe_add, EReal.coe_add, EReal.coe_mul, EReal.coe_mul, EReal.coe_mul, Cert.KernelIdeal.Hand.coe_sum]
  simp only [EReal.coe_mul]

/-- One trip more. -/
theorem After.next (a : After d k V) (hk : k < 8448) : After d (k + 1) (Value.STEP V) where
  decay := by rw [Value.STEP_main_v72_0]; exact a.decay
  key := by rw [Value.STEP_main_v72_1]; exact a.key
  value := by rw [Value.STEP_main_v72_2]; exact a.value
  remove := by rw [Value.STEP_main_v72_3]; exact a.remove
  replace := by rw [Value.STEP_main_v72_4]; exact a.replace
  reader := by rw [Value.STEP_main_v72_5]; exact a.reader
  count := by
    rw [Value.STEP_main_v72_6]
    unfold Value.step_main_v72_6
    rw [a.count]
    funext i
    exact (BitVec.ofNat_add k 1).symm
  state := by
    rw [Value.STEP_main_v72_7]
    exact a.state_step hk
  rows := by
    intro n h v hn
    rw [Value.STEP_main_v72_8]
    refine (rows_at V ⟨k, hk⟩ a.count rfl rfl n h v).trans ?_
    split
    · rename_i e
      subst e
      refine (Finset.sum_congr rfl fun j _ => congrArg₂ (fun x y : EReal => x * y) (a.state_step hk h v j) (a.reader ⟨k, hk⟩ h j)).trans ?_
      unfold Scan.read
      rw [Cert.KernelIdeal.Hand.coe_sum]
      simp only [EReal.coe_mul]
    · rename_i e
      exact a.rows n h v (by have : n.val ≠ k := fun x => e (Fin.ext x); omega)

/-- All the trips. -/
theorem After.iterate (a : After d 0 V) : ∀ k, k ≤ 8448 → After d k (Value.STEP^[k] V)
  | 0, _ => a
  | k + 1, hk => by
    rw [Function.iterate_succ_apply']
    exact (After.iterate a k (by omega)).next (by omega)

end Cert.ReferenceIdeal.Hand
-- ==== Proof.Soft.lean ====
/-
  The decay, written with the soft plus, is the decay written with the logistic function.
-/
module

public import proofs.«01_k».proof.Proof.Pre

@[expose] public section

noncomputable section

open Idealize.ShloMosaic

namespace Scan

/-- The soft plus as the layer computes it. -/
def soft (y : ℝ) : ℝ := max y 0 + Real.log (1 + Real.exp (-max y (-y)))

theorem exp_soft (y : ℝ) : Real.exp (soft y) = 1 + Real.exp y := by
  have hp : 0 < 1 + Real.exp (-max y (-y)) := by positivity
  unfold soft
  rw [Real.exp_add, Real.exp_log hp]
  rcases le_total 0 y with h | h
  · rw [max_eq_left h, max_eq_left (by linarith), mul_add, ← Real.exp_add, add_neg_cancel, Real.exp_zero]
    ring
  · rw [max_eq_right h, max_eq_right (by linarith), Real.exp_zero, neg_neg, one_mul]

/-- The soft plus over the extended reals, at a real number. -/
theorem soft_real (y : ℝ) : max (y : EReal) 0 + Ideal.log1p (Ideal.exp (-max (y : EReal) (-(y : EReal)))) = ((soft y : ℝ) : EReal) := by
  have hp : 0 < 1 + Real.exp (-max y (-y)) := by positivity
  have hm (a b : ℝ) : max (a : EReal) (b : EReal) = ((max a b : ℝ) : EReal) :=
    (EReal.coe_strictMono.monotone.map_max (f := ((↑) : ℝ → EReal))).symm
  unfold Ideal.log1p
  rw [← EReal.coe_neg, hm, ← EReal.coe_neg, Ideal.exp_coe, ← EReal.coe_one, ← EReal.coe_add, Ideal.log_coe, if_neg (not_le.mpr hp),
    ← EReal.coe_zero, hm, ← EReal.coe_add]
  rfl

/-- The decay. -/
theorem decay_soft (x : ℝ) : Real.exp (-Real.exp (-soft (-x) - 1 / 2)) = Real.exp ((0 - Real.exp (-(1 / 2))) * logistic x) := by
  congr 1
  rw [sub_eq_add_neg, Real.exp_add, Real.exp_neg (soft (-x)), exp_soft]
  unfold logistic
  rw [zero_sub x]
  ring

theorem half_real : Ideal.ofBits .f32 1056964608#32 = ((1 / 2 : ℝ) : EReal) := by
  simp [Ideal.ofBits, Ideal.ieee, -EReal.coe_mul]
  norm_num

theorem logistic_neg (x : ℝ) : Ideal.div 1 (1 + Ideal.exp (-(x : EReal))) = ((logistic x : ℝ) : EReal) := by
  rw [← Cert.KernelIdeal.Hand.logistic_real, zero_sub]

end Scan
-- ==== Proof.Entry.lean ====
/-
  What the reference's loop starts from, read at an index.
-/
module

public import proofs.«01_k».proof.Proof.Loop
public import proofs.«01_k».proof.Proof.Rows
public import proofs.«01_k».proof.Proof.Soft
public import Idealize.ShloMosaic.Lib.Pointwise
public import Idealize.ShloMosaic.Lib.StableHlo.ReadAt

@[expose] public section

set_option maxRecDepth 20000

noncomputable section

open Idealize.ShloMosaic Idealize.ShloMosaic.TcCoe Idealize.SL.Sem
open Idealize.ShloMosaic.StableHlo (after)

namespace Cert.ReferenceIdeal.Hand

open Cert.ReferenceIdeal Cert.ReferenceIdeal.Gen Scan
open Cert.KernelIdeal.Hand (Reals AllReal dataOf dataOf_dec dataOf_icl coe_sum least_word)

/-- The channel of a head's lane. -/
def col (h : Fin 32) (j : Fin 64) : Fin 2048 := ⟨h.val * 64 + j.val, by omega⟩

theorem col_chan (h : Fin 32) (j : Fin 64) : col h j = chan ⟨h.val / 2, by omega⟩ ⟨h.val % 2, by omega⟩ j :=
  Fin.ext (by simp only [col, chan]; omega)

/-- A gate's argument: a bias and a row against a column. -/
def gateArg (b : FVec Ideal S2x2048 .f32) (z : FVec Ideal S8448x96 .f32) (w : FVec Ideal S2x96x2048 .f32) (n : Fin 8448) (q : Fin 2048) : EReal :=
  b (ix2 0 q) + ∑ x : Fin 96, z (ix2 n x) * w (ix3 0 x q)

/-- What the operations before the soft plus leave. -/
structure Mid (d : Data) (W : Valuation τ sig (Elt Ideal)) : Prop where
  r : ∀ (n : Fin 8448) (q : Fin 2048), @Eq EReal (W (Proc.devRef .tc main_v0) (ix2 n (⟨4288 + q.val, by omega⟩ : Fin 6592))) ((d.r n.val q : ℝ) : EReal)
  k : ∀ (n : Fin 8448) (q : Fin 2048), @Eq EReal (W (Proc.devRef .tc main_v7) (ix2 n q)) ((d.k n.val q : ℝ) : EReal)
  v : ∀ (n : Fin 8448) (h : Fin 32) (j : Fin 64), @Eq EReal (W (Proc.devRef .tc main_v9) (ix3 n h j)) ((d.v n.val (col h j) : ℝ) : EReal)
  ka : ∀ q : Fin 2048, @Eq EReal (W (Proc.devRef .tc main_v2) (ix1 q)) ((d.ka q : ℝ) : EReal)
  kk : ∀ (n : Fin 8448) (h : Fin 32) (j : Fin 64), @Eq EReal (W (Proc.devRef .tc main_v24) (ix3 n h j))
    ((d.kk n.val ⟨h.val / 2, by omega⟩ ⟨h.val % 2, by omega⟩ j : ℝ) : EReal)
  icl : ∀ (n : Fin 8448) (q : Fin 2048), gateArg (W (Proc.devRef .tc main_v5)) (W (Proc.devRef .tc main_v12)) (W (Proc.devRef .tc main_v6)) n q
    = ((d.icl n.val q : ℝ) : EReal)

variable {d : Data} {W : Valuation τ sig (Elt Ideal)}

theorem soft_at (h : ∀ (n : Fin 8448) (q : Fin 2048), @Eq EReal (W (Proc.devRef .tc main_v33) (ix2 n q)) ((-d.dec n.val q : ℝ) : EReal))
    (n : Fin 8448) (q : Fin 2048) : @Eq EReal (after hostOps0_1 W (Proc.devRef .tc main_v34) (ix2 n q)) ((soft (-d.dec n.val q) : ℝ) : EReal) := by
  simp only [hostOps0_1]
  after_reads_at
  rw [if_neg (fun e => e rfl), h n q]
  exact soft_real _

theorem Mid.keep (a : Mid d W) : Mid d (after hostOps0_1 W) where
  r := fun n q => by simp only [hostOps0_1]; after_reads_at; exact a.r n q
  k := fun n q => by simp only [hostOps0_1]; after_reads_at; exact a.k n q
  v := fun n h j => by simp only [hostOps0_1]; after_reads_at; exact a.v n h j
  ka := fun q => by simp only [hostOps0_1]; after_reads_at; exact a.ka q
  kk := fun n h j => by simp only [hostOps0_1]; after_reads_at; exact a.kk n h j
  icl := fun n q => by unfold gateArg; simp only [hostOps0_1]; after_reads_at; exact a.icl n q

theorem Mid.entry (a : Mid d W) (hs : ∀ (n : Fin 8448) (q : Fin 2048), @Eq EReal (W (Proc.devRef .tc main_v34) (ix2 n q)) ((soft (-d.dec n.val q) : ℝ) : EReal)) :
    After d 0 (after hostOps0_2 W) where
  decay := by
    intro n h j
    simp only [hostOps0_2]
    after_reads_at
    refine (congrArg (fun x : EReal => Ideal.exp (-Ideal.exp (-x - Ideal.ofBits .f32 1056964608#32))) (hs n (col h j))).trans ?_
    rw [half_real, ← EReal.coe_neg, ← EReal.coe_sub, Ideal.exp_coe, ← EReal.coe_neg, Ideal.exp_coe, decay_soft, col_chan]
    rfl
  key := by
    intro n h j
    simp only [hostOps0_2]
    after_reads_at
    refine (congrArg₂ (fun x y : EReal => x * y) (a.k n (col h j)) (congrArg₂ (fun x y : EReal => 1 + (Ideal.div 1 (1 + Ideal.exp (-x)) - 1) * y)
      (a.icl n (col h j)) (a.ka (col h j)))).trans ?_
    rw [logistic_neg, ← EReal.coe_one, ← EReal.coe_sub, ← EReal.coe_mul, ← EReal.coe_add, ← EReal.coe_mul, col_chan]
    rfl
  value := by
    intro n h j
    simp only [hostOps0_2]
    after_reads_at
    refine (a.v n h j).trans ?_
    rw [col_chan]
    rfl
  remove := by
    intro n h j
    simp only [hostOps0_2]
    after_reads_at
    exact (congrArg (fun x : EReal => -x) (a.kk n h j)).trans (EReal.coe_neg _).symm
  replace := by
    intro n h j
    simp only [hostOps0_2]
    after_reads_at
    refine (congrArg₂ (fun x y : EReal => x * Ideal.div 1 (1 + Ideal.exp (-y))) (a.kk n h j) (a.icl n (col h j))).trans ?_
    rw [logistic_neg, ← EReal.coe_mul, col_chan]
    rfl
  reader := by
    intro n h j
    simp only [hostOps0_2]
    after_reads_at
    refine (a.r n (col h j)).trans ?_
    rw [col_chan]
    rfl
  count := by
    simp only [hostOps0_2]
    after_results_entrywise []
  state := by
    intro h v j
    simp only [hostOps0_2]
    after_reads_at
    simp only [id_eq]
    pointwise
    exact EReal.coe_zero.symm
  rows := fun n h v hn => absurd hn (Nat.not_lt_zero _)

/-- A row of the projections, of the context's array or of the latents'. -/
theorem row_real {za : FVec Ideal S8192x6592 .f32} {zca : FVec Ideal S256x6592 .f32} (hz : AllReal za) (hc : AllReal zca) (n : Fin 8448) (q : Fin 6592) :
    @Eq EReal (if h : n.val < 256 then zca (ix2 ⟨n.val, h⟩ q) else za (ix2 ⟨n.val - 256, by omega⟩ q))
      ((rowAt (fun r q => EReal.toReal (za (ix2 r q))) (fun r q => EReal.toReal (zca (ix2 r q))) n.val q : ℝ) : EReal) := by
  unfold rowAt
  by_cases h : n.val < 256
  · rw [dif_pos h, dif_pos h]
    exact hc _
  · rw [dif_neg h, dif_neg h, dif_pos (by omega)]
    exact hz _

variable {za : FVec Ideal S8192x6592 .f32} {zca : FVec Ideal S256x6592 .f32} {kw ka : FVec Ideal S1x2048 .f32} {w0 a0 : FVec Ideal S1x2x2048 .f32}
  {wd wa : FVec Ideal S1x2x96x2048 .f32}

/-- The arrays a valuation holds as arguments. -/
structure Args (W : Valuation τ sig (Elt Ideal)) (za : FVec Ideal S8192x6592 .f32) (zca : FVec Ideal S256x6592 .f32) (kw ka : FVec Ideal S1x2048 .f32)
    (w0 : FVec Ideal S1x2x2048 .f32) (wd : FVec Ideal S1x2x96x2048 .f32) (a0 : FVec Ideal S1x2x2048 .f32) (wa : FVec Ideal S1x2x96x2048 .f32) : Prop where
  h0 : W (Proc.devRef .tc main_arg0) = za
  h1 : W (Proc.devRef .tc main_arg1) = zca
  h2 : W (Proc.devRef .tc main_arg2) = kw
  h3 : W (Proc.devRef .tc main_arg3) = ka
  h4 : W (Proc.devRef .tc main_arg4) = w0
  h5 : W (Proc.devRef .tc main_arg5) = wd
  h6 : W (Proc.devRef .tc main_arg6) = a0
  h7 : W (Proc.devRef .tc main_arg7) = wa

theorem z_at (g : Args W za zca kw ka w0 wd a0 wa) (h : Reals za zca kw ka w0 wd a0 wa) (n : Fin 8448) (q : Fin 6592) :
    @Eq EReal (if h : n.val < 256 then W (Proc.devRef .tc main_arg1) (ix2 ⟨n.val, h⟩ q) else W (Proc.devRef .tc main_arg0) (ix2 ⟨n.val - 256, by omega⟩ q))
      ((rowAt (fun r q => EReal.toReal (za (ix2 r q))) (fun r q => EReal.toReal (zca (ix2 r q))) n.val q : ℝ) : EReal) := by
  rw [g.h0, g.h1]
  exact row_real h.za h.zca n q

theorem neg_dec_at (g : Args W za zca kw ka w0 wd a0 wa) (h : Reals za zca kw ka w0 wd a0 wa) (n : Fin 8448) (q : Fin 2048) :
    @Eq EReal (after hostOps0 W (Proc.devRef .tc main_v33) (ix2 n q)) ((-(dataOf za zca kw ka w0 wd a0 wa).dec n.val q : ℝ) : EReal) := by
  simp only [hostOps0]
  after_reads_at
  simp only [StableHlo.upto_zero]
  refine (congrArg₂ (fun x y : EReal => -(x + y)) ((congrFun g.h4 _).trans (h.w0 _))
    (Finset.sum_congr rfl fun x _ => congrArg₂ (fun x y : EReal => Ideal.tanh x * y) (z_at g h n ⟨4096 + x.val, by omega⟩) ((congrFun g.h5 _).trans (h.wd _)))).trans ?_
  rw [dataOf_dec, EReal.coe_neg, EReal.coe_add, coe_sum]
  simp only [Ideal.tanh_coe, EReal.coe_mul]

theorem mid (g : Args W za zca kw ka w0 wd a0 wa) (h : Reals za zca kw ka w0 wd a0 wa) : Mid (dataOf za zca kw ka w0 wd a0 wa) (after hostOps0 W) where
  r := by
    intro n q
    simp only [hostOps0]
    after_reads_at
    exact z_at g h n ⟨4288 + q.val, by omega⟩
  k := by
    intro n q
    simp only [hostOps0]
    after_reads_at
    simp only [StableHlo.upto_zero]
    exact z_at g h n ⟨q.val, by omega⟩
  v := by
    intro n e j
    simp only [hostOps0]
    after_reads_at
    simp only [StableHlo.upto_zero]
    exact z_at g h n ⟨2048 + (col e j).val, by omega⟩
  ka := by
    intro q
    simp only [hostOps0]
    after_reads_at
    exact (congrFun g.h3 _).trans (h.ka _)
  kk := by
    intro n e j
    simp only [hostOps0]
    after_reads_at
    simp only [StableHlo.upto_zero]
    have hx (x : Fin 64) := (congrArg₂ (fun x y : EReal => x * y) (z_at g h n ⟨(col e x).val, by omega⟩) ((congrFun g.h2 (ix2 0 (col e x))).trans (h.kw _))).trans
      (EReal.coe_mul _ _).symm
    refine (congrArg₂ Ideal.div (hx j) (congrArg (fun s : EReal => max (Ideal.sqrt s) (Ideal.ofBits .f32 730643660#32))
      (Finset.sum_congr rfl fun x _ => congrArg₂ (fun x y : EReal => x * y) (hx x) (hx x)))).trans ?_
    simp only [← EReal.coe_mul]
    rw [← coe_sum, Ideal.sqrt_coe, if_neg (not_lt.mpr (Finset.sum_nonneg fun _ _ => mul_self_nonneg _)), least_word,
      ← (EReal.coe_strictMono.monotone.map_max (f := ((↑) : ℝ → EReal)))]
    simp only [col_chan]
    refine (congrArg (fun y : ℝ => Ideal.div _ (y : EReal)) (show _ = (dataOf za zca kw ka w0 wd a0 wa).length n.val ⟨e.val / 2, by omega⟩ ⟨e.val % 2, by omega⟩ from rfl)).trans ?_
    rw [Ideal.div_coe (Data.length_pos _ _ _ _).ne', ← EReal.coe_mul]
    rfl
  icl := by
    intro n q
    unfold gateArg
    simp only [hostOps0]
    after_reads_at
    simp only [StableHlo.upto_zero]
    refine (congrArg₂ (fun x y : EReal => x + y) ((congrFun g.h6 _).trans (h.a0 _))
      (Finset.sum_congr rfl fun x _ => congrArg₂ (fun x y : EReal => x * y) (z_at g h n ⟨4192 + x.val, by omega⟩) ((congrFun g.h7 _).trans (h.wa _)))).trans ?_
    rw [dataOf_icl, EReal.coe_add, coe_sum]
    simp only [EReal.coe_mul]

end Cert.ReferenceIdeal.Hand
-- ==== Proof.Out.lean ====
/-
  The reference's result is the recurrence, the latents' rows first.
-/
module

public import proofs.«01_k».proof.Proof.Entry

@[expose] public section

set_option maxRecDepth 20000

noncomputable section

open Idealize.ShloMosaic Idealize.ShloMosaic.TcCoe Idealize.SL.Sem

namespace Cert.ReferenceIdeal.Hand

open Cert.ReferenceIdeal Cert.ReferenceIdeal.Gen Scan
open Cert.KernelIdeal.Hand (Reals dataOf)

/-- The rows put in the result's order: one row of them, at a channel. -/
theorem put_back (Y : FVec Ideal S8448x32x64 .f32) (r : Fin 8448) (q : Fin 2048) :
    concatenate S8448x2048 0 [⟨S8192x2048, (extractStridedSlice S8192x2048 ![256, 0] (shapeCast S8448x2048 Y shapeCasts_S8448x32x64_S8448x2048) slices_S8448x2048_S8192x2048_256_0)⟩, ⟨S256x2048, (extractStridedSlice S256x2048 ![0, 0] (shapeCast S8448x2048 Y shapeCasts_S8448x32x64_S8448x2048) slices_S8448x2048_S256x2048_0_0)⟩] concatenates_S8192x2048_S256x2048_S8448x2048_d0 (ix2 r q)
      = if h : r.val < 8192 then Y (ix3 ⟨256 + r.val, by omega⟩ ⟨q.val / 64, by omega⟩ ⟨q.val % 64, by omega⟩)
        else Y (ix3 ⟨r.val - 8192, by omega⟩ ⟨q.val / 64, by omega⟩ ⟨q.val % 64, by omega⟩) := by
  generalize hX : shapeCast S8448x2048 Y shapeCasts_S8448x32x64_S8448x2048 = X
  have hx (n : Fin 8448) : X (ix2 n q) = Y (ix3 n ⟨q.val / 64, by omega⟩ ⟨q.val % 64, by omega⟩) := by
    subst hX
    pointwise
  by_cases hr : r.val < 8192
  · rw [dif_pos hr, ← hx]
    refine (concatenate_pair_apply_left (t := S8448x2048) (s₁ := S8192x2048) (s₂ := S256x2048) _ _ _ _ _ rfl (ix2 (⟨r.val, hr⟩ : Fin 8192) q) ?_).trans ?_
    · intro b
      match b with
      | ⟨0, _⟩ => rfl
      | ⟨1, _⟩ => rfl
    · pointwise
  · rw [dif_neg hr, ← hx]
    refine (concatenate_pair_apply_right (t := S8448x2048) (s₁ := S8192x2048) (s₂ := S256x2048) _ _ _ _ _ rfl rfl (ix2 (⟨r.val - 8192, by omega⟩ : Fin 256) q) ?_ ?_).trans ?_
    · intro b hb
      match b with
      | ⟨0, _⟩ => exact absurd rfl hb
      | ⟨1, _⟩ => rfl
    · exact Nat.sub_add_cancel (Nat.le_of_not_lt hr)
    · refine congrArg X (funext fun b => ?_)
      match b with
      | ⟨0, _⟩ => exact Fin.ext (Nat.zero_add _)
      | ⟨1, _⟩ => exact Fin.ext (Nat.zero_add _)

/-- The rows the loop leaves, put in the result's order. -/
theorem out_at {d : Data} {V : Valuation τ sig (Elt Ideal)} (a : After d 8448 V) (r : Fin 8448) (q : Fin 2048) :
    @Eq EReal (Value.out_main_v76 V (ix2 r q)) (result d r q) := by
  have key (n : Fin 8448) (h : Fin 32) (j : Fin 64) (hq : h.val * 64 + j.val = q.val) :
      @Eq EReal ((V (Proc.devRef .tc main_v72_8) : FVec Ideal S8448x32x64 .f32) (ix3 n h j)) ((outAt d n.val q : ℝ) : EReal) := by
    rw [show q = col h j from Fin.ext hq.symm, col_chan, outAt_chan]
    exact a.rows n h j n.isLt
  unfold Value.out_main_v76
  generalize V (Proc.devRef .tc main_v72_8) = Y at *
  exact (put_back Y r q).trans (by
    by_cases hr : r.val < 8192
    · rw [dif_pos hr]
      refine (key ⟨256 + r.val, by omega⟩ ⟨q.val / 64, by omega⟩ ⟨q.val % 64, by omega⟩ (by show q.val / 64 * 64 + q.val % 64 = q.val; omega)).trans ?_
      unfold result source
      rw [if_pos hr]
      exact congrArg (fun n : ℕ => ((outAt d n q : ℝ) : EReal)) (Nat.add_comm 256 r.val)
    · rw [dif_neg hr]
      refine (key ⟨r.val - 8192, by omega⟩ ⟨q.val / 64, by omega⟩ ⟨q.val % 64, by omega⟩ (by show q.val / 64 * 64 + q.val % 64 = q.val; omega)).trans ?_
      unfold result source
      rw [if_neg hr])

variable (m : (ℓ : Loc nD τ sig) → Buf (Elt Ideal) ℓ)

/-- What the loop starts from. -/
theorem entry (c : Dev nD) {za : FVec Ideal S8192x6592 .f32} {zca : FVec Ideal S256x6592 .f32} {kw ka : FVec Ideal S1x2048 .f32} {w0 a0 : FVec Ideal S1x2x2048 .f32}
    {wd wa : FVec Ideal S1x2x96x2048 .f32} (h : Reals za zca kw ka w0 wd a0 wa)
    (e0 : m ((c.tc : Thread nD τ).loc main_arg0) = za) (e1 : m ((c.tc : Thread nD τ).loc main_arg1) = zca) (e2 : m ((c.tc : Thread nD τ).loc main_arg2) = kw)
    (e3 : m ((c.tc : Thread nD τ).loc main_arg3) = ka) (e4 : m ((c.tc : Thread nD τ).loc main_arg4) = w0) (e5 : m ((c.tc : Thread nD τ).loc main_arg5) = wd)
    (e6 : m ((c.tc : Thread nD τ).loc main_arg6) = a0) (e7 : m ((c.tc : Thread nD τ).loc main_arg7) = wa) :
    After (dataOf za zca kw ka w0 wd a0 wa) 0 (Idealize.ShloMosaic.StableHlo.entryContents Value.preI m c) := by
  simp only [Idealize.ShloMosaic.StableHlo.entryContents, Idealize.ShloMosaic.StableHlo.afterL_cons, Idealize.ShloMosaic.StableHlo.afterL_nil]
  have g : Args (Idealize.ShloMosaic.StableHlo.launchContents m c) za zca kw ka w0 wd a0 wa := ⟨e0, e1, e2, e3, e4, e5, e6, e7⟩
  exact (mid g h).keep.entry (soft_at (neg_dec_at g h))

end Cert.ReferenceIdeal.Hand
-- ==== Proof.Finite.lean ====
/-
  The precondition says that every entry of the layer's arrays is a real number.
-/
module

public import proofs.«01_k».proof.Pre_finite
public import proofs.«01_k».proof.Proof.Rows
public import Idealize.ShloMosaic.Lib.Pointwise
public import Idealize.ShloMosaic.Lib.ReduceAll
public import Idealize.ShloMosaic.Lib.Affine

@[expose] public section

set_option maxRecDepth 20000

noncomputable section

open Idealize.ShloMosaic

namespace Cert.Pre_finite

open Cert.KernelIdeal.Hand (AllReal Reals)

/-- The precondition's side conditions. -/
theorem facts : Facts where
  bcast_S_S8192x6592 := by decide
  reducesTo_S8192x6592_S_d0_1 := by decide
  h_S_ := by decide
  bcast_S_S256x6592 := by decide
  reducesTo_S256x6592_S_d0_1 := by decide
  bcast_S_S1x2048 := by decide
  reducesTo_S1x2048_S_d0_1 := by decide
  bcast_S_S1x2x2048 := by decide
  reducesTo_S1x2x2048_S_d0_1_2 := by decide
  bcast_S_S1x2x96x2048 := by decide
  reducesTo_S1x2x96x2048_S_d0_1_2_3 := by decide

/-- An extended real whose magnitude is below infinity is a real number. -/
theorem real_of_abs (x : EReal) (h : max x (-x) < ⊤) : x = ((EReal.toReal x : ℝ) : EReal) := by
  refine (EReal.coe_toReal ?_ ?_).symm
  · rintro rfl
    exact absurd h (by simp)
  · rintro rfl
    exact absurd h (by simp)

/-- One array's part of the precondition. -/
theorem all_real {s : Shape} {dims : List (Fin s.rank)} (x : FVec Ideal s .f32) (bc : S_.BroadcastsInDim s (![] : Fin 0 → Fin s.rank)) (red : s.ReducesTo dims S_) (hu : 0 < S_.numel)
    (j : S_.Idx) (e : Host.reduce IntOp.andi (cmpf .olt (Host.absf x) (broadcastInDim s ![] bc (constant S_ .f32 0x7F800000#32))) (constantI S_ 1 1#1) red hu j = 1#1) :
    AllReal x := by
  intro i
  have := Host.reduce_andi_all _ _ red hu j e i
  refine real_of_abs _ ?_
  pointwise at this
  rw [show Ideal.ofBits .f32 2139095040#32 = (⊤ : EReal) from by simp [Ideal.ofBits, Ideal.ieee]] at this
  exact of_decide_eq_true (by
    rcases hd : decide (FloatOps.absf (x i) < (⊤ : EReal)) with _ | _
    · rw [hd] at this
      exact absurd this (by decide)
    · rfl)

variable [Facts]

theorem reals_of {za : FVec Ideal S8192x6592 .f32} {zca : FVec Ideal S256x6592 .f32} {kw ka : FVec Ideal S1x2048 .f32} {w0 : FVec Ideal S1x2x2048 .f32}
    {wd : FVec Ideal S1x2x96x2048 .f32} {a0 : FVec Ideal S1x2x2048 .f32} {wa : FVec Ideal S1x2x96x2048 .f32} (j : S_.Idx)
    (h : fn (F := Ideal) za zca kw ka w0 wd a0 wa j = 1#1) : Reals za zca kw ka w0 wd a0 wa := by
  dsimp only [fn, fn_part1, fn_part2] at h
  simp only [andi_apply, IntOp.andi_eq_one] at h
  obtain ⟨⟨⟨⟨⟨⟨⟨h0, h1⟩, h2⟩, h3⟩, h4⟩, h5⟩, h6⟩, h7⟩ := h
  exact ⟨all_real _ _ _ _ _ h0, all_real _ _ _ _ _ h1, all_real _ _ _ _ _ h2, all_real _ _ _ _ _ h3, all_real _ _ _ _ _ h4, all_real _ _ _ _ _ h5,
    all_real _ _ _ _ _ h6, all_real _ _ _ _ _ h7⟩

end Cert.Pre_finite
-- ==== Proof.Up.lean ====
module

public import proofs.«01_k».proof.Proof.Gen.KernelUpIdeal.Value
public import proofs.«01_k».proof.Proof.Gen.ReferenceUpIdeal.Run
public import Idealize.ShloMosaic.Lib.Pipeline.ValueKit
public import Idealize.ShloMosaic.Lib.Pointwise
public import Idealize.ShloMosaic.Lib.Claim

/-! The gate and up projections: every block of the activation is `silu (h @ w_gate) * (h @ w_up)`, and the down
projection's weight is carried over row block by row block. -/

set_option maxRecDepth 16384

@[expose] public section

noncomputable section

open Idealize.ShloMosaic Idealize.ShloMosaic.TcCoe Idealize.SL.Sem
open Idealize.ShloMosaic.Pipeline (Dat)

namespace Cert.KernelUpIdeal.Hand

open Cert.KernelUpIdeal Cert.KernelUpIdeal.Gen

variable (m : (ℓ : Loc nD τ sig) → Buf (Elt Ideal) ℓ)

/-- The product with one weight, over whole arrays. -/
abbrev prod (h : FVec Ideal S8192x4096 .f32) (w : FVec Ideal S4096x11008 .f32) : FVec Ideal S8192x11008 .f32 :=
  Host.dotGeneral Cert.ReferenceUpIdeal.dot_S8192x4096_S4096x11008_S8192x11008_1_0_0_1_n_n none h w

/-- One everywhere. -/
abbrev ones : FVec Ideal S8192x11008 .f32 :=
  broadcastInDim S8192x11008 ![] Cert.ReferenceUpIdeal.Gen.bcast_S_S8192x11008 (constant Cert.ReferenceUpIdeal.S_ .f32 0x3F800000#32)

/-- The gated activation, over whole arrays. -/
abbrev gated (h : FVec Ideal S8192x4096 .f32) (wg wu : FVec Ideal S4096x11008 .f32) : FVec Ideal S8192x11008 .bf16 :=
  truncf .bf16 (mulf (mulf (prod h wg) (Host.divf ones (addf ones (Host.exp (Host.negf (prod h wg)))))) (prod h wu))
    Cert.ReferenceUpIdeal.Gen.bitsLt_bf16_f32

/-- The weight as the next call reads it. -/
abbrev carried (w : FVec Ideal S11008x4096 .f32) : FVec Ideal S11008x4096 .bf16 :=
  truncf .bf16 w Cert.ReferenceUpIdeal.Gen.bitsLt_bf16_f32

/-- Where each window's block stands at each grid point. -/
theorem places : ∀ t : Fin cfg0.N,
    win0_0.index t = ![(grid0.coords t 0).val, 0] ∧ win0_1.index t = ![0, (grid0.coords t 1).val]
    ∧ win0_2.index t = ![0, (grid0.coords t 1).val] ∧ win0_3.index t = win0_5.index t
    ∧ win0_4.index t = ![(grid0.coords t 0).val, (grid0.coords t 1).val] :=
  (by decide +kernel : ∀ t : Fin grid0.N, _)

/-- One block of the activation. -/
theorem block (c : Dev nD) (t : Fin cfg0.N) (y) :
    k0_pay1 (iblk m c 0 t) (iblk m c 1 t) (iblk m c 2 t) y
      = gated (m ((c : Thread nD τ).loc main_arg0)) (m ((c : Thread nD τ).loc main_arg1))
          (m ((c : Thread nD τ).loc main_arg2)) (((cfg0.win 4).blk t).view.emb y) := by
  obtain ⟨e0, e1, e2, e3, e4⟩ := places t
  pointwise [k0_pay1, gated, prod, ones]
  simp only [zero_sub, sub_eq_add_neg, zero_add]
  blk_point [iblk, V, e0, e1, e2, e4]

/-- The whole activation. -/
theorem final (c : Dev nD) : (dats m 0 c).arrAt 4 (cfgs 0).N
    = gated (m ((c : Thread nD τ).loc main_arg0)) (m ((c : Thread nD τ).loc main_arg1))
          (m ((c : Thread nD τ).loc main_arg2)) := by
  refine (dats m 0 c).arrAt_eq_of_covers 4 _ (by decide +kernel) fun t _ y => ?_
  blk_simp
  rw [after0_4]; frame_out
  exact block m c t y

/-- The carried weight. -/
theorem weight (c : Dev nD) : (dats m 0 c).arrAt 5 (cfgs 0).N
    = carried (m ((c : Thread nD τ).loc main_arg3)) := by
  refine (dats m 0 c).arrAt_eq_of_covers 5 _ (by decide +kernel) fun t _ y => ?_
  obtain ⟨e0, e1, e2, e3, e4⟩ := places t
  blk_simp
  rw [after0_5]; frame_out
  pointwise [k0_pay2, carried]
  blk_point [iblk, V, e3]

end Cert.KernelUpIdeal.Hand
-- ==== Proof.Down.lean ====
module

public import proofs.«01_k».proof.Proof.Gen.KernelDownIdeal.Value
public import proofs.«01_k».proof.Proof.Gen.ReferenceDownIdeal.Run
public import Idealize.ShloMosaic.Lib.Pipeline.ValueKit
public import Idealize.ShloMosaic.Lib.Pointwise
public import Idealize.ShloMosaic.Lib.Claim
public import Idealize.ShloMosaic.Lib.StableHlo.ReadAt

/-! The down projection with its gated residual: every output block is `x + gate * (act @ w_down)` on its rows and
columns, so the output array is. -/

set_option maxRecDepth 100000

@[expose] public section

noncomputable section

open Idealize.ShloMosaic Idealize.ShloMosaic.TcCoe Idealize.SL.Sem
open Idealize.ShloMosaic.Pipeline (Dat)

namespace Cert.KernelDownIdeal.Hand

open Cert.KernelDownIdeal Cert.KernelDownIdeal.Gen

variable (m : (ℓ : Loc nD τ sig) → Buf (Elt Ideal) ℓ)

/-- The residual plus the gated product, over the four arrays. -/
abbrev gated (act : FVec Ideal S8192x11008 .f32) (w : FVec Ideal S11008x4096 .f32) (x : FVec Ideal S8192x4096 .f32)
    (gate : FVec Ideal S1x4096 .f32) : FVec Ideal S8192x4096 .f32 :=
  addf x (mulf (broadcastInDim S8192x4096 ![0, 1] Cert.ReferenceDownIdeal.Gen.bcast_S1x4096_S8192x4096_0_1 gate)
    (Host.dotGeneral Cert.ReferenceDownIdeal.dot_S8192x11008_S11008x4096_S8192x4096_1_0_0_1_n_n none act w))

/-- Where each window's block stands at each grid point. -/
theorem places : ∀ t : Fin cfg0.N,
    win0_0.index t = ![(grid0.coords t 0).val, 0] ∧ win0_1.index t = ![0, (grid0.coords t 1).val]
    ∧ win0_2.index t = ![(grid0.coords t 0).val, (grid0.coords t 1).val]
    ∧ win0_3.index t = ![0, 24 + (grid0.coords t 1).val]
    ∧ win0_4.index t = ![(grid0.coords t 0).val, (grid0.coords t 1).val]
    ∧ (grid0.coords t 0).val < 16 ∧ (grid0.coords t 1).val < 8 :=
  (by decide +kernel : ∀ t : Fin grid0.N, _)

/-- The gate, read where it was placed among the modulation rows. -/
theorem gate_at (c : Dev nD) {j : S8x16384.Idx} {j' : Fin 4096} (h0 : (j 0).val = 0) (h1 : (j 1).val = 12288 + j'.val) :
    V m c main_v0 j = m ((c : Thread nD τ).loc main_arg3) (ix2 0 j') := by
  simp only [V, hostOps0, hostOps0_1, hostOps0_2, List.flatten_cons, List.flatten_nil, List.append_nil,
    List.cons_append, List.nil_append]
  after_reads_at
  rw [dif_pos ⟨by omega, by omega, by omega⟩]
  congr 1
  funext a
  match a with
  | ⟨0, _⟩ => exact Fin.ext h0
  | ⟨1, _⟩ => exact Fin.ext (by show (j 1).val - 12288 = j'.val; omega)

/-- One block of the output. -/
theorem block (c : Dev nD) (t : Fin cfg0.N) (y) :
    k0_pay1 (iblk m c 2 t) (View.ld (iblk m c 3 t) r0_1) (iblk m c 0 t) (iblk m c 1 t) y
      = gated (m ((c : Thread nD τ).loc main_arg0)) (m ((c : Thread nD τ).loc main_arg1))
          (m ((c : Thread nD τ).loc main_arg2)) (m ((c : Thread nD τ).loc main_arg3)) (((cfg0.win 4).blk t).view.emb y) := by
  obtain ⟨e0, e1, e2, e3, e4, b0, b1⟩ := places t
  pointwise [k0_pay1, gated]
  blk_point [iblk, V, e0, e1, e2, e3, e4]
  rw [gate_at m c (j' := (win0_4.blk t).view.emb y 1) (by blk_simp [e3]; rfl) (by blk_simp [e3, e4]; omega)]

/-- The whole output array. -/
theorem final (c : Dev nD) : (dats m 0 c).arrAt 4 (cfgs 0).N
    = gated (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]; frame_out
  exact block m c t y

end Cert.KernelDownIdeal.Hand
-- ==== Proof.Final.lean ====
module

public import proofs.«01_k».proof.Proof.Gen.KernelFinalIdeal.Value
public import proofs.«01_k».proof.Proof.Gen.ReferenceFinalIdeal.Run
public import Idealize.ShloMosaic.Lib.Pipeline.ValueKit
public import Idealize.ShloMosaic.Lib.Pointwise
public import Idealize.ShloMosaic.Lib.Claim
public import Idealize.ShloMosaic.Lib.StableHlo.ReadAt

/-! The final norm: every row block of the result is its rows divided by their root mean square and scaled by the gain. -/

set_option maxRecDepth 100000

@[expose] public section

noncomputable section

open Idealize.ShloMosaic Idealize.ShloMosaic.TcCoe Idealize.SL.Sem
open Idealize.ShloMosaic.Pipeline (Dat)

namespace Cert.KernelFinalIdeal.Hand

open Cert.KernelFinalIdeal Cert.KernelFinalIdeal.Gen

variable (m : (ℓ : Loc nD τ sig) → Buf (Elt Ideal) ℓ)

/-- The normed rows times the gain, over whole arrays. -/
abbrev normed (x : FVec Ideal S8192x4096 .f32) (gain : FVec Ideal S4096 .f32) : FVec Ideal S8192x4096 .f32 :=
  mulf (mulf x (broadcastInDim S8192x4096 ![0, 1] Cert.ReferenceFinalIdeal.Gen.bcast_S8192x1_S8192x4096_0_1
    (Host.rsqrt (addf (Host.divf (broadcastInDim Cert.ReferenceFinalIdeal.S8192x1 ![0] Cert.ReferenceFinalIdeal.Gen.bcast_S8192_S8192x1_0
      (Host.reduceAdd (mulf x x) (constant Cert.ReferenceFinalIdeal.S_ .f32 0x00000000#32) Cert.ReferenceFinalIdeal.Gen.reducesTo_S8192x4096_S8192_d1 Cert.ReferenceFinalIdeal.Gen.h_S_))
      (broadcastInDim Cert.ReferenceFinalIdeal.S8192x1 ![] Cert.ReferenceFinalIdeal.Gen.bcast_S_S8192x1 (constant Cert.ReferenceFinalIdeal.S_ .f32 0x45800000#32)))
      (broadcastInDim Cert.ReferenceFinalIdeal.S8192x1 ![] Cert.ReferenceFinalIdeal.Gen.bcast_S_S8192x1 (constant Cert.ReferenceFinalIdeal.S_ .f32 0x358637BD#32))))))
    (broadcastInDim S8192x4096 ![0, 1] Cert.ReferenceFinalIdeal.Gen.bcast_S1x4096_S8192x4096_0_1
      (broadcastInDim S1x4096 ![1] Cert.ReferenceFinalIdeal.Gen.bcast_S4096_S1x4096_1 gain))

/-- Where each window's block stands at each grid point. -/
theorem places : ∀ t : Fin cfg0.N,
    win0_0.index t = ![(grid0.coords t 0).val, 0] ∧ win0_1.index t = ![0, 0] ∧ win0_2.index t = ![(grid0.coords t 0).val, 0] :=
  (by decide +kernel : ∀ t : Fin grid0.N, _)

/-- One row block of the result. -/
theorem block (c : Dev nD) (t : Fin cfg0.N) (y) :
    k0_pay1 (iblk m c 0 t) (iblk m c 1 t) y
      = normed (m ((c : Thread nD τ).loc main_arg0)) (m ((c : Thread nD τ).loc main_arg1)) (((cfg0.win 2).blk t).view.emb y) := by
  obtain ⟨e0, e1, e2⟩ := places t
  pointwise [k0_pay1, normed]
  blk_point [iblk, V, e0, e1, e2]

/-- The whole result. -/
theorem final (c : Dev nD) : (dats m 0 c).arrAt 2 (cfgs 0).N
    = normed (m ((c : Thread nD τ).loc main_arg0)) (m ((c : Thread nD τ).loc main_arg1)) := by
  refine (dats m 0 c).arrAt_eq_of_covers 2 _ (by decide +kernel) fun t _ y => ?_
  blk_simp
  rw [after0_2]; frame_out
  exact block m c t y

end Cert.KernelFinalIdeal.Hand
-- ==== Proof.NormRef.lean ====
module

public import proofs.«01_k».proof.Proof.Gen.ReferenceNormIdeal.Run
public import Idealize.ShloMosaic.Lib.Pipeline.Value
public import Idealize.ShloMosaic.Lib.Pointwise
public import Idealize.ShloMosaic.Lib.Claim

/-! The first norm's reference: the modulated norm of the latents and of the context, joined. -/

set_option maxRecDepth 100000

@[expose] public section

noncomputable section

open Idealize.ShloMosaic Idealize.ShloMosaic.TcCoe Idealize.SL.Sem

namespace Cert.ReferenceNormIdeal.Hand

open Cert.ReferenceNormIdeal Cert.ReferenceNormIdeal.Gen

/-- The latents' rows, normed and modulated. -/
abbrev latents (x : FVec Ideal S8192x4096 .f32) (gain : FVec Ideal S1x4096 .f32) (mod : FVec Ideal S8x8192 .f32) : FVec Ideal S8192x4096 .f32 :=
  (addf (mulf (mulf (mulf x (broadcastInDim S8192x4096 ![0, 1] bcast_S8192x1_S8192x4096_0_1 (Host.rsqrt (addf (Host.divf (broadcastInDim S8192x1 ![0] bcast_S8192_S8192x1_0 (Host.reduceAdd (mulf x x) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 gain)) (broadcastInDim S8192x4096 ![0, 1] bcast_S1x4096_S8192x4096_0_1 (addf (broadcastInDim S1x4096 ![] bcast_S_S1x4096 (constant S_ .f32 0x3F800000#32)) (extractStridedSlice S1x4096 ![0, 0] (extractStridedSlice S8x4096 ![0, 4096] mod slices_S8x8192_S8x4096_0_4096) slices_S8x4096_S1x4096_0_0)))) (broadcastInDim S8192x4096 ![0, 1] bcast_S1x4096_S8192x4096_0_1 (extractStridedSlice S1x4096 ![0, 0] (extractStridedSlice S8x4096 ![0, 0] mod slices_S8x8192_S8x4096_0_0) slices_S8x4096_S1x4096_0_0)))

/-- The context's rows, normed and modulated. -/
abbrev contexts (ctx : FVec Ideal S256x4096 .f32) (gain : FVec Ideal S1x4096 .f32) (mod : FVec Ideal S8x8192 .f32) : FVec Ideal S256x4096 .f32 :=
  (addf (mulf (mulf (mulf ctx (broadcastInDim S256x4096 ![0, 1] bcast_S256x1_S256x4096_0_1 (Host.rsqrt (addf (Host.divf (broadcastInDim S256x1 ![0] bcast_S256_S256x1_0 (Host.reduceAdd (mulf ctx ctx) (constant S_ .f32 0x00000000#32) reducesTo_S256x4096_S256_d1 h_S_)) (broadcastInDim S256x1 ![] bcast_S_S256x1 (constant S_ .f32 0x45800000#32))) (broadcastInDim S256x1 ![] bcast_S_S256x1 (constant S_ .f32 0x358637BD#32)))))) (broadcastInDim S256x4096 ![0, 1] bcast_S1x4096_S256x4096_0_1 gain)) (broadcastInDim S256x4096 ![0, 1] bcast_S1x4096_S256x4096_0_1 (addf (broadcastInDim S1x4096 ![] bcast_S_S1x4096 (constant S_ .f32 0x3F800000#32)) (extractStridedSlice S1x4096 ![1, 0] (extractStridedSlice S8x4096 ![0, 4096] mod slices_S8x8192_S8x4096_0_4096) slices_S8x4096_S1x4096_1_0)))) (broadcastInDim S256x4096 ![0, 1] bcast_S1x4096_S256x4096_0_1 (extractStridedSlice S1x4096 ![1, 0] (extractStridedSlice S8x4096 ![0, 0] mod slices_S8x8192_S8x4096_0_0) slices_S8x4096_S1x4096_1_0)))

/-- The reference's array: the two, joined. -/
abbrev result (x : FVec Ideal S8192x4096 .f32) (ctx : FVec Ideal S256x4096 .f32) (gain : FVec Ideal S1x4096 .f32) (mod : FVec Ideal S8x8192 .f32) : FVec Ideal S8448x4096 .bf16 :=
  truncf .bf16 (concatenate S8448x4096 0 [⟨S8192x4096, latents x gain mod⟩, ⟨S256x4096, contexts ctx gain mod⟩] concatenates_S8192x4096_S256x4096_S8448x4096_d0) bitsLt_bf16_f32

/-- A row of the latents. -/
theorem result_lat (x : FVec Ideal S8192x4096 .f32) (ctx : FVec Ideal S256x4096 .f32) (gain : FVec Ideal S1x4096 .f32) (mod : FVec Ideal S8x8192 .f32) (j : S8448x4096.Idx) (i : S8192x4096.Idx)
    (h0 : (j 0).val = (i 0).val) (h1 : (j 1).val = (i 1).val) : result x ctx gain mod j = latents x gain mod i :=
  concatenate_pair_apply_left (t := S8448x4096) 0 (latents x gain mod) (contexts ctx gain mod) concatenates_S8192x4096_S256x4096_S8448x4096_d0 j rfl i (fun b => match b with
    | ⟨0, _⟩ => h0.symm
    | ⟨1, _⟩ => h1.symm)

/-- A row of the context. -/
theorem result_ctx (x : FVec Ideal S8192x4096 .f32) (ctx : FVec Ideal S256x4096 .f32) (gain : FVec Ideal S1x4096 .f32) (mod : FVec Ideal S8x8192 .f32) (j : S8448x4096.Idx) (i : S256x4096.Idx)
    (h0 : (j 0).val = 8192 + (i 0).val) (h1 : (j 1).val = (i 1).val) : result x ctx gain mod j = contexts ctx gain mod i :=
  concatenate_pair_apply_right (t := S8448x4096) 0 (latents x gain mod) (contexts ctx gain mod) concatenates_S8192x4096_S256x4096_S8448x4096_d0 j rfl rfl i
    (fun b hb => match b, hb with
    | ⟨0, _⟩, hb => absurd rfl hb
    | ⟨1, _⟩, _ => h1.symm) ((Nat.add_comm _ _).trans h0.symm)

end Cert.ReferenceNormIdeal.Hand
-- ==== Proof.Norm.lean ====
module

public import proofs.«01_k».proof.Proof.Gen.KernelNormIdeal.Value
public import proofs.«01_k».proof.Proof.NormRef
public import Idealize.ShloMosaic.Lib.Pipeline.ValueKit
public import Idealize.ShloMosaic.Lib.Pointwise
public import Idealize.ShloMosaic.Lib.Claim
public import Idealize.ShloMosaic.Lib.StableHlo.ReadAt

/-! The first norm: each of the first 32 row blocks of the result is normed and modulated latents, the last one is the
context's. -/

set_option maxRecDepth 100000

@[expose] public section

noncomputable section

open Idealize.ShloMosaic Idealize.ShloMosaic.TcCoe Idealize.SL.Sem
open Idealize.ShloMosaic.Pipeline (Dat)

namespace Cert.KernelNormIdeal.Hand

open Cert.KernelNormIdeal Cert.KernelNormIdeal.Gen
open Cert.ReferenceNormIdeal.Hand (latents contexts result result_lat result_ctx)

variable (m : (ℓ : Loc nD τ sig) → Buf (Elt Ideal) ℓ)

/-- Where each window's block stands at each grid point. -/
theorem places : ∀ t : Fin cfg0.N,
    (t.val < 32 → win0_0.index t = ![t.val, 0]) ∧ (¬ t.val < 32 → win0_1.index t = ![0, 0]) ∧ win0_2.index t = ![0, 0]
      ∧ win0_3.index t = ![0, 0] ∧ win0_4.index t = ![0, 1] ∧ win0_5.index t = ![t.val, 0] :=
  (by decide +kernel : ∀ t : Fin grid0.N, _)

/-- The latents' block at a point. -/
theorem x_at (c : Dev nD) (t : Fin cfg0.N) (h : t.val < 32) (s : Fin 256) (k : Fin 4096) {n : Fin 8192} (hn : t.val * 256 + s.val = n.val) :
    iblk m c 0 t (ix2 s k) = m ((c : Thread nD τ).loc main_arg0) (ix2 n k) := by
  obtain ⟨e0, e1, e2, e3, e4, e5⟩ := places t
  refine (show iblk m c 0 t (ix2 s k) = m ((c : Thread nD τ).loc main_arg0) ((win0_0.blk t).view.emb (ix2 s k)) from rfl).trans ?_
  congr 1
  funext a
  match a with
  | ⟨0, _⟩ => refine Fin.ext ?_; blk_simp [e0 h]; omega
  | ⟨1, _⟩ => refine Fin.ext ?_; blk_simp [e0 h]

/-- The context's block at the last point. -/
theorem ctx_at (c : Dev nD) (t : Fin cfg0.N) (h : ¬ t.val < 32) (s : Fin 256) (k : Fin 4096) :
    iblk m c 1 t (ix2 s k) = m ((c : Thread nD τ).loc main_arg1) (ix2 s k) := by
  obtain ⟨e0, e1, e2, e3, e4, e5⟩ := places t
  refine (show iblk m c 1 t (ix2 s k) = m ((c : Thread nD τ).loc main_arg1) ((win0_1.blk t).view.emb (ix2 s k)) from rfl).trans ?_
  congr 1
  funext a
  match a with
  | ⟨0, _⟩ => refine Fin.ext ?_; blk_simp [e1 h]
  | ⟨1, _⟩ => refine Fin.ext ?_; blk_simp [e1 h]

/-- The gain's block. -/
theorem gain_at (c : Dev nD) (t : Fin cfg0.N) (q : Fin 4096) :
    iblk m c 2 t (ix2 0 q) = m ((c : Thread nD τ).loc main_arg2) (ix2 0 q) := by
  obtain ⟨e0, e1, e2, e3, e4, e5⟩ := places t
  refine (show iblk m c 2 t (ix2 0 q) = m ((c : Thread nD τ).loc main_arg2) ((win0_2.blk t).view.emb (ix2 0 q)) from rfl).trans ?_
  congr 1
  funext a
  match a with
  | ⟨0, _⟩ => refine Fin.ext ?_; blk_simp [e2]
  | ⟨1, _⟩ => refine Fin.ext ?_; blk_simp [e2]

/-- The shifts' block. -/
theorem shift_at (c : Dev nD) (t : Fin cfg0.N) (r : Fin 8) (q : Fin 4096) {q' : Fin 8192} (hq : q.val = q'.val) :
    iblk m c 3 t (ix2 r q) = m ((c : Thread nD τ).loc main_arg3) (ix2 r q') := by
  obtain ⟨e0, e1, e2, e3, e4, e5⟩ := places t
  refine (show iblk m c 3 t (ix2 r q) = m ((c : Thread nD τ).loc main_arg3) ((win0_3.blk t).view.emb (ix2 r q)) from rfl).trans ?_
  congr 1
  funext a
  match a with
  | ⟨0, _⟩ => refine Fin.ext ?_; blk_simp [e3]
  | ⟨1, _⟩ => refine Fin.ext ?_; blk_simp [e3]; omega

/-- The scales' block. -/
theorem scale_at (c : Dev nD) (t : Fin cfg0.N) (r : Fin 8) (q : Fin 4096) {q' : Fin 8192} (hq : 4096 + q.val = q'.val) :
    iblk m c 4 t (ix2 r q) = m ((c : Thread nD τ).loc main_arg3) (ix2 r q') := by
  obtain ⟨e0, e1, e2, e3, e4, e5⟩ := places t
  refine (show iblk m c 4 t (ix2 r q) = m ((c : Thread nD τ).loc main_arg3) ((win0_4.blk t).view.emb (ix2 r q)) from rfl).trans ?_
  congr 1
  funext a
  match a with
  | ⟨0, _⟩ => refine Fin.ext ?_; blk_simp [e4]
  | ⟨1, _⟩ => refine Fin.ext ?_; blk_simp [e4]; omega

/-- A row block of the latents. -/
theorem block_lat (c : Dev nD) (t : Fin cfg0.N) (h : t.val < 32) (s : Fin 256) (q : Fin 4096) {n : Fin 8192} (hn : t.val * 256 + s.val = n.val) :
    k0_pay1 (iblk m c 0 t) (iblk m c 2 t) (View.ld (iblk m c 3 t) (Rect.unit ![0, 0] ![1, 4096] inb_S8x4096_S1x4096_0_0))
      (View.ld (iblk m c 4 t) (Rect.unit ![0, 0] ![1, 4096] inb_S8x4096_S1x4096_0_0)) (ix2 s q)
    = latents (m ((c : Thread nD τ).loc main_arg0)) (m ((c : Thread nD τ).loc main_arg2)) (m ((c : Thread nD τ).loc main_arg3)) (ix2 n q) := by
  pointwise [k0_pay1, latents]
  simp only [x_at m c t h s _ hn, gain_at]
  rw [scale_at m c t 0 q (q' := ⟨4096 + q.val, by omega⟩) rfl, shift_at m c t 0 q (q' := ⟨q.val, by omega⟩) rfl]

/-- The context's row block. -/
theorem block_ctx (c : Dev nD) (t : Fin cfg0.N) (h : ¬ t.val < 32) (s : Fin 256) (q : Fin 4096) :
    k0_pay2 (iblk m c 1 t) (iblk m c 2 t) (View.ld (iblk m c 3 t) (Rect.unit ![1, 0] ![1, 4096] inb_S8x4096_S1x4096_1_0))
      (View.ld (iblk m c 4 t) (Rect.unit ![1, 0] ![1, 4096] inb_S8x4096_S1x4096_1_0)) (ix2 s q)
    = contexts (m ((c : Thread nD τ).loc main_arg1)) (m ((c : Thread nD τ).loc main_arg2)) (m ((c : Thread nD τ).loc main_arg3)) (ix2 s q) := by
  pointwise [k0_pay2, contexts]
  simp only [ctx_at m c t h s _, gain_at]
  rw [scale_at m c t 1 q (q' := ⟨4096 + q.val, by omega⟩) rfl, shift_at m c t 1 q (q' := ⟨q.val, by omega⟩) rfl]

/-- The whole result. -/
theorem final (c : Dev nD) : (dats m 0 c).arrAt 5 (cfgs 0).N
    = result (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  obtain ⟨e0, e1, e2, e3, e4, e5⟩ := places t
  have ht : t.val < 33 := t.isLt
  have hy : (y 0).val < 256 := (y 0).isLt
  have y2 : y = ix2 (n0 := 256) (n1 := 4096) (y 0) (y 1) := by
    funext a
    match a with
    | ⟨0, _⟩ => rfl
    | ⟨1, _⟩ => rfl
  by_cases h : t.val < 32
  · blk_simp
    rw [after0_5, outsAt0_A m c t h (by omega)]
    unfold out0_A_5
    frame_out
    refine Eq.trans ?_ (result_lat _ _ _ _ _ (ix2 (⟨t.val * 256 + (y 0).val, by omega⟩ : Fin 8192) (y 1)) ?_ ?_).symm
    · exact (congrArg _ y2).trans (block_lat m c t h _ _ rfl)
    · blk_simp [e5]
    · blk_simp [e5]
  · blk_simp
    rw [after0_5, outsAt0_B m c t h (by omega)]
    unfold out0_B_5
    frame_out
    refine Eq.trans ?_ (result_ctx _ _ _ _ _ (ix2 (y 0) (y 1)) ?_ ?_).symm
    · exact (congrArg _ y2).trans (block_ctx m c t h _ _)
    · blk_simp [e5]; omega
    · blk_simp [e5]

end Cert.KernelNormIdeal.Hand
-- ==== Proof.ConvForm.lean ====
module

public import proofs.«01_k».proof.Proof.Gen.ReferenceConvIdeal
public import Idealize.ShloMosaic.Lib.Pointwise
public import Idealize.ShloMosaic.Lib.Claim

/-! The short convolution in closed form: one entry of the result. -/

set_option maxRecDepth 100000

@[expose] public section

noncomputable section

open Idealize.ShloMosaic Idealize.ShloMosaic.TcCoe Idealize.SL.Sem

namespace Cert.ReferenceConvIdeal.Hand

open Cert.ReferenceConvIdeal Cert.ReferenceConvIdeal.Gen

/-- One entry of the projection: a row of the activations against a column of the weight. -/
def proj (x : FVec Ideal S8192x4096 .f32) (w : FVec Ideal S4096x12736 .f32) (n q : ℕ) : EReal :=
  ∑ k : Fin 4096, x (ix2 ⟨n % 8192, by omega⟩ k) * w (ix2 k ⟨q % 12736, by omega⟩)

/-- What the taps read: the product of the second and third group of columns. -/
def gatedIn (x : FVec Ideal S8192x4096 .f32) (w : FVec Ideal S4096x12736 .f32) (n q : ℕ) : EReal :=
  proj x w n (8640 + q) * proj x w n (10688 + q)

/-- One entry of the result: the first group's column times the three taps, a tap outside the row of 64 being zero. -/
def convAt (x : FVec Ideal S8192x4096 .f32) (w : FVec Ideal S4096x12736 .f32) (cw : FVec Ideal S3x2048 .f32) (n : ℕ) (q : Fin 2048) : EReal :=
  proj x w n (6592 + q.val)
    * ((if n % 64 = 0 then (0 : EReal) else cw (ix2 0 q) * gatedIn x w (n - 1) q.val)
        + cw (ix2 1 q) * gatedIn x w n q.val
        + (if n % 64 = 63 then (0 : EReal) else cw (ix2 2 q) * gatedIn x w (n + 1) q.val))

end Cert.ReferenceConvIdeal.Hand
-- ==== Proof.Conv.lean ====
module

public import proofs.«01_k».proof.Proof.Gen.KernelConvIdeal.Value
public import proofs.«01_k».proof.Proof.ConvForm
public import Idealize.ShloMosaic.Lib.Pipeline.ValueKit
public import Idealize.ShloMosaic.Lib.Pointwise
public import Idealize.ShloMosaic.Lib.Claim
public import Idealize.ShloMosaic.Lib.StableHlo.ReadAt

/-! The short convolution: every block of the result is the gate's product with the three-tap convolution of two
products, along each row of 64 positions. -/

set_option maxRecDepth 100000

@[expose] public section

noncomputable section

open Idealize.ShloMosaic Idealize.ShloMosaic.TcCoe Idealize.SL.Sem
open Idealize.ShloMosaic.Pipeline (Dat)

namespace Cert.KernelConvIdeal.Hand

open Cert.KernelConvIdeal Cert.KernelConvIdeal.Gen
open Cert.ReferenceConvIdeal.Hand (proj gatedIn convAt)

variable (m : (ℓ : Loc nD τ sig) → Buf (Elt Ideal) ℓ)

/-- The mask's position within the row of 64, for either half of a block of rows. -/
theorem pos_lo : ∀ (i : Fin 8) (s : Fin 512), Scalar.select
      (IntOp.cmpi CmpIPredicate.sge
        (IntOp.addi (Scalar.addi (Scalar.muli (BitVec.ofNat 32 i.val) 1024#32) 0#32) (BitVec.ofNat 32 s.val)) 8192#32)
      (IntOp.subi (IntOp.addi (Scalar.addi (Scalar.muli (BitVec.ofNat 32 i.val) 1024#32) 0#32) (BitVec.ofNat 32 s.val)) 8192#32)
      (IntOp.andi (IntOp.addi (Scalar.addi (Scalar.muli (BitVec.ofNat 32 i.val) 1024#32) 0#32) (BitVec.ofNat 32 s.val)) 63#32) =
    BitVec.ofNat 32 (s.val % 64) := by decide +kernel

theorem pos_hi : ∀ (i : Fin 8) (s : Fin 512), Scalar.select
      (IntOp.cmpi CmpIPredicate.sge
        (IntOp.addi (Scalar.addi (Scalar.muli (BitVec.ofNat 32 i.val) 1024#32) 512#32) (BitVec.ofNat 32 s.val)) 8192#32)
      (IntOp.subi (IntOp.addi (Scalar.addi (Scalar.muli (BitVec.ofNat 32 i.val) 1024#32) 512#32) (BitVec.ofNat 32 s.val)) 8192#32)
      (IntOp.andi (IntOp.addi (Scalar.addi (Scalar.muli (BitVec.ofNat 32 i.val) 1024#32) 512#32) (BitVec.ofNat 32 s.val)) 63#32) =
    BitVec.ofNat 32 (s.val % 64) := by decide +kernel

/-- The last position of a row, for either half. -/
theorem end_lo : ∀ (i : Fin 8) (s : Fin 512), Scalar.select
      (IntOp.cmpi CmpIPredicate.sge
        (IntOp.addi (Scalar.addi (Scalar.muli (BitVec.ofNat 32 i.val) 1024#32) 0#32) (BitVec.ofNat 32 s.val)) 8192#32)
      0#32 63#32 = 63#32 := by decide +kernel

theorem end_hi : ∀ (i : Fin 8) (s : Fin 512), Scalar.select
      (IntOp.cmpi CmpIPredicate.sge
        (IntOp.addi (Scalar.addi (Scalar.muli (BitVec.ofNat 32 i.val) 1024#32) 512#32) (BitVec.ofNat 32 s.val)) 8192#32)
      0#32 63#32 = 63#32 := by decide +kernel

theorem first_eq (s : Fin 512) (e : EReal) :
    Scalar.select (IntOp.cmpi CmpIPredicate.eq (BitVec.ofNat 32 (s.val % 64)) 0#32) 0 e = if s.val % 64 = 0 then 0 else e := by
  have h : ∀ s : Fin 512, IntOp.cmpi CmpIPredicate.eq (BitVec.ofNat 32 (s.val % 64)) 0#32 = if s.val % 64 = 0 then 1#1 else 0#1 := by decide +kernel
  rw [h s]; by_cases h0 : s.val % 64 = 0
  · rw [if_pos h0, if_pos h0]; rfl
  · rw [if_neg h0, if_neg h0]; rfl

theorem last_eq (s : Fin 512) (e : EReal) :
    Scalar.select (IntOp.cmpi CmpIPredicate.eq (BitVec.ofNat 32 (s.val % 64)) 63#32) 0 e = if s.val % 64 = 63 then 0 else e := by
  have h : ∀ s : Fin 512, IntOp.cmpi CmpIPredicate.eq (BitVec.ofNat 32 (s.val % 64)) 63#32 = if s.val % 64 = 63 then 1#1 else 0#1 := by decide +kernel
  rw [h s]; by_cases h0 : s.val % 64 = 63
  · rw [if_pos h0, if_pos h0]; rfl
  · rw [if_neg h0, if_neg h0]; rfl

section Half

variable {x : FVec Ideal S8192x4096 .f32} {w : FVec Ideal S4096x12736 .f32} {cw : FVec Ideal S3x2048 .f32}
  {base : ℕ} {col : Fin 256 → Fin 2048} (hb : base % 64 = 0)

include hb in
/-- The taps and the gate over a half block, once its entries are known. -/
theorem half {p : EReal} {c0 c1 c2 : EReal} (u : Fin 512 → Fin 256 → EReal) (s : Fin 512) (q : Fin 256)
    (hp : p = proj x w (base + s.val) (6592 + (col q).val))
    (h0 : c0 = cw (ix2 0 (col q))) (h1 : c1 = cw (ix2 1 (col q))) (h2 : c2 = cw (ix2 2 (col q)))
    (hu : ∀ s q, u s q = gatedIn x w (base + s.val) (col q).val) :
    p * ((if s.val % 64 = 0 then 0 else c0 * u ⟨(s.val + 512 - 1) % 512, by omega⟩ q) + c1 * u s q
          + (if s.val % 64 = 63 then 0 else c2 * u ⟨(s.val + 512 - 511) % 512, by omega⟩ q))
      = convAt x w cw (base + s.val) (col q) := by
  unfold convAt
  have a0 : (base + s.val) % 64 = s.val % 64 := by omega
  rw [a0, hp, h0, h1, h2, hu, hu, hu]
  have hs := s.isLt
  congr 2
  · congr 1
    split
    · rfl
    · rw [show base + (s.val + 512 - 1) % 512 = base + s.val - 1 by omega]
  · split
    · rfl
    · rw [show base + (s.val + 512 - 511) % 512 = base + s.val + 1 by omega]

end Half

theorem lo_at (v5 : FVec Ideal S256x4096 .bf16) (v13 : FVec Ideal S8x256 .f32) (v15 : FVec Ideal S512x4096 .bf16) (v18 : FVec Ideal S512x256 .f32)
    (i : grid0.Coords) (s : Fin 512) (q : Fin 256) :
    k0_pay13 v5 v13 v15 v18 (k0_pay11 i) (k0_pay12 i) (ix2 s q)
      = (∑ k : Fin 4096, v15 (ix2 s k) * v5 (ix2 q k) : EReal)
        * ((if s.val % 64 = 0 then (0 : EReal) else v13 (ix2 0 q) * v18 (ix2 ⟨(s.val + 512 - 1) % 512, by omega⟩ q)) + v13 (ix2 1 q) * v18 (ix2 s q)
          + (if s.val % 64 = 63 then (0 : EReal) else v13 (ix2 2 q) * v18 (ix2 ⟨(s.val + 512 - 511) % 512, by omega⟩ q))) := by
  rw [← first_eq, ← last_eq]
  pointwise [k0_pay13, k0_pay11, k0_pay12, k0_pay10, k0_pay9]
  have e1 := pos_lo (i 0) s
  have e2 := end_lo (i 0) s
  rw [e1, e2]

theorem hi_at (v5 : FVec Ideal S256x4096 .bf16) (v13 : FVec Ideal S8x256 .f32) (v15 : FVec Ideal S512x4096 .bf16) (v18 : FVec Ideal S512x256 .f32)
    (i : Fin 8) (s : Fin 512) (q : Fin 256) :
    k0_pay1 v5 v13 v15 v18 (k0_pay16 (BitVec.ofNat 32 i.val)) (k0_pay17 (BitVec.ofNat 32 i.val)) (k0_pay18 (BitVec.ofNat 32 i.val)) 63#32 (ix2 s q)
      = (∑ k : Fin 4096, v15 (ix2 s k) * v5 (ix2 q k) : EReal)
        * ((if s.val % 64 = 0 then (0 : EReal) else v13 (ix2 0 q) * v18 (ix2 ⟨(s.val + 512 - 1) % 512, by omega⟩ q)) + v13 (ix2 1 q) * v18 (ix2 s q)
          + (if s.val % 64 = 63 then (0 : EReal) else v13 (ix2 2 q) * v18 (ix2 ⟨(s.val + 512 - 511) % 512, by omega⟩ q))) := by
  rw [← first_eq, ← last_eq]
  pointwise [k0_pay1, k0_pay16, k0_pay17, k0_pay18]
  have e1 := pos_hi i s
  have e2 := end_hi i s
  rw [e1, e2]

theorem prods_hi (v8 v11 : FVec Ideal S256x4096 .bf16) (h : Vec Ideal S512x4096 .bf16) (s : Fin 512) (q : Fin 256) :
    k0_pay15 v8 v11 h (ix2 s q) = ((∑ k : Fin 4096, h (ix2 s k) * v8 (ix2 q k)) * (∑ k : Fin 4096, h (ix2 s k) * v11 (ix2 q k)) : EReal) := by
  pointwise [k0_pay15, k0_pay14]

theorem prods_lo (v6 v9 : Vec Ideal S256x4096 .f32) (h : Vec Ideal S512x4096 .bf16) (s : Fin 512) (q : Fin 256) :
    k0_pay8 v6 v9 h (ix2 s q)
      = ((∑ k : Fin 4096, h (ix2 s k) * k0_pay4 v6 (ix2 q k)) * (∑ k : Fin 4096, h (ix2 s k) * k0_pay5 v9 (ix2 q k)) : EReal) := by
  pointwise [k0_pay8, k0_pay7]

theorem h_at (c : Dev nD) {j : S8448x4096.Idx} {n : Fin 8192} {k : Fin 4096} (h0 : (j 0).val = n.val) (h1 : (j 1).val = k.val) :
    V m c main_v1 j = m ((c : Thread nD τ).loc main_arg0) (ix2 n k) := by
  have hn : n.val < 8448 := Nat.lt_of_lt_of_le n.isLt (by decide)
  have hj : j = ix2 (⟨n.val, hn⟩ : Fin 8448) k := by
    funext a
    match a with
    | ⟨0, _⟩ => exact Fin.ext h0
    | ⟨1, _⟩ => exact Fin.ext h1
  rw [hj]
  clear hj h0 h1 j
  simp only [V, hostOps0, hostOps0_1, List.flatten_cons, List.flatten_nil, List.append_nil,
    List.cons_append, List.nil_append]
  after_reads_at
  rfl

theorem w_at (c : Dev nD) (j : S12736x4096.Idx) :
    V m c main_v2 j = m ((c : Thread nD τ).loc main_arg2) (ix2 (j 1) (j 0)) := by
  simp only [V, hostOps0, hostOps0_1, List.flatten_cons, List.flatten_nil, List.append_nil,
    List.cons_append, List.nil_append]
  after_reads_at

theorem cw_at (c : Dev nD) {j : S8x2048.Idx} {r : Fin 3} {q : Fin 2048} (h0 : (j 0).val = r.val) (h1 : (j 1).val = q.val) :
    V m c main_v3 j = m ((c : Thread nD τ).loc main_arg3) (ix2 r q) := by
  simp only [V, hostOps0, hostOps0_1, List.flatten_cons, List.flatten_nil, List.append_nil,
    List.cons_append, List.nil_append]
  after_reads_at
  rw [dif_pos (by omega)]
  congr 1
  funext a
  match a with
  | ⟨0, _⟩ => exact Fin.ext h0
  | ⟨1, _⟩ => exact Fin.ext h1

/-- Where each window's block stands at each grid point. -/
theorem places : ∀ t : Fin cfg0.N,
    win0_0.index t = ![(grid0.coords t 0).val, 0] ∧ win0_1.index t = ![6592 + 256 * (grid0.coords t 1).val, 0]
    ∧ win0_2.index t = ![8640 + 256 * (grid0.coords t 1).val, 0]
    ∧ win0_3.index t = ![10688 + 256 * (grid0.coords t 1).val, 0]
    ∧ win0_4.index t = ![0, (grid0.coords t 1).val]
    ∧ win0_6.index t = ![(grid0.coords t 0).val, (grid0.coords t 1).val]
    ∧ win0_7.index t = win0_5.index t
    ∧ (grid0.coords t 0).val < 8 ∧ (grid0.coords t 1).val < 8 :=
  (by decide +kernel : ∀ t : Fin grid0.N, _)

/-- The activations' block at a point. -/
theorem staged_at (c : Dev nD) (t : Fin cfg0.N) {j : S1024x4096.Idx} {n : Fin 8192} {k : Fin 4096}
    (h0 : (grid0.coords t 0).val * 1024 + (j 0).val = n.val) (h1 : (j 1).val = k.val) :
    X0_0 m c t j = m ((c : Thread nD τ).loc main_arg0) (ix2 n k) := by
  obtain ⟨e0, e1, e2, e3, e4, e6, e7, b0, b1⟩ := places t
  unfold X0_0
  unfold Pipeline.Window.fill
  rw [dif_pos (moved0_0 t j)]
  refine h_at m c ?_ ?_
  · blk_simp [e0]; omega
  · blk_simp [e0]; omega

/-- The three weights' blocks at a point. -/
theorem wb_at (c : Dev nD) (t : Fin cfg0.N) (q : Fin 256) (k : Fin 4096) {col : Fin 12736} (h : 6592 + 256 * (grid0.coords t 1).val + q.val = col.val) :
    iblk m c 1 t (ix2 q k) = m ((c : Thread nD τ).loc main_arg2) (ix2 k col) := by
  obtain ⟨e0, e1, e2, e3, e4, e6, e7, b0, b1⟩ := places t
  refine (show iblk m c 1 t (ix2 q k) = V m c main_v2 ((win0_1.blk t).view.emb (ix2 q k)) from rfl).trans ?_
  rw [w_at]
  congr 1
  funext a
  match a with
  | ⟨0, _⟩ =>
    refine Fin.ext ((win0_1.rect_emb_val_off t (ix2 q k) 1).trans ?_)
    rw [e1]
    exact Nat.zero_add _
  | ⟨1, _⟩ =>
    refine Fin.ext ((win0_1.rect_emb_val_off t (ix2 q k) 0).trans ?_)
    rw [e1]
    exact h

theorem wc_at (c : Dev nD) (t : Fin cfg0.N) (q : Fin 256) (k : Fin 4096) {col : Fin 12736} (h : 8640 + 256 * (grid0.coords t 1).val + q.val = col.val) :
    iblk m c 2 t (ix2 q k) = m ((c : Thread nD τ).loc main_arg2) (ix2 k col) := by
  obtain ⟨e0, e1, e2, e3, e4, e6, e7, b0, b1⟩ := places t
  refine (show iblk m c 2 t (ix2 q k) = V m c main_v2 ((win0_2.blk t).view.emb (ix2 q k)) from rfl).trans ?_
  rw [w_at]
  congr 1
  funext a
  match a with
  | ⟨0, _⟩ =>
    refine Fin.ext ((win0_2.rect_emb_val_off t (ix2 q k) 1).trans ?_)
    rw [e2]
    exact Nat.zero_add _
  | ⟨1, _⟩ =>
    refine Fin.ext ((win0_2.rect_emb_val_off t (ix2 q k) 0).trans ?_)
    rw [e2]
    exact h

theorem wx_at (c : Dev nD) (t : Fin cfg0.N) (q : Fin 256) (k : Fin 4096) {col : Fin 12736} (h : 10688 + 256 * (grid0.coords t 1).val + q.val = col.val) :
    iblk m c 3 t (ix2 q k) = m ((c : Thread nD τ).loc main_arg2) (ix2 k col) := by
  obtain ⟨e0, e1, e2, e3, e4, e6, e7, b0, b1⟩ := places t
  refine (show iblk m c 3 t (ix2 q k) = V m c main_v2 ((win0_3.blk t).view.emb (ix2 q k)) from rfl).trans ?_
  rw [w_at]
  congr 1
  funext a
  match a with
  | ⟨0, _⟩ =>
    refine Fin.ext ((win0_3.rect_emb_val_off t (ix2 q k) 1).trans ?_)
    rw [e3]
    exact Nat.zero_add _
  | ⟨1, _⟩ =>
    refine Fin.ext ((win0_3.rect_emb_val_off t (ix2 q k) 0).trans ?_)
    rw [e3]
    exact h

theorem taps_at (c : Dev nD) (t : Fin cfg0.N) (r : Fin 8) (q : Fin 256) {r' : Fin 3} {col : Fin 2048} (hr : r.val = r'.val) (h : 256 * (grid0.coords t 1).val + q.val = col.val) :
    iblk m c 4 t (ix2 r q) = m ((c : Thread nD τ).loc main_arg3) (ix2 r' col) := by
  obtain ⟨e0, e1, e2, e3, e4, e6, e7, b0, b1⟩ := places t
  refine (show iblk m c 4 t (ix2 r q) = V m c main_v3 ((win0_4.blk t).view.emb (ix2 r q)) from rfl).trans ?_
  refine cw_at m c ?_ ?_
  · blk_simp [e4]; omega
  · blk_simp [e4]; omega

/-- A product of a half block's rows with one weight's block. -/
theorem proj_at (c : Dev nD) (t : Fin cfg0.N) (h : FVec Ideal S512x4096 .bf16) (v : FVec Ideal S256x4096 .bf16) {base off : ℕ} (s : Fin 512) (q : Fin 256)
    (hbase : base + 512 ≤ 8192) (hoff : off + 256 ≤ 12736)
    (hh : ∀ k : Fin 4096, h (ix2 s k) = m ((c : Thread nD τ).loc main_arg0) (ix2 ⟨base + s.val, by omega⟩ k))
    (hv : ∀ k : Fin 4096, v (ix2 q k) = m ((c : Thread nD τ).loc main_arg2) (ix2 k ⟨off + q.val, by omega⟩)) :
    @Eq EReal (∑ k : Fin 4096, h (ix2 s k) * v (ix2 q k))
      (proj (m ((c : Thread nD τ).loc main_arg0)) (m ((c : Thread nD τ).loc main_arg2)) (base + s.val) (off + q.val)) := by
  unfold proj
  refine Finset.sum_congr rfl fun k _ => ?_
  rw [hh, hv]
  congr 3
  · exact Fin.ext (Nat.mod_eq_of_lt (by omega)).symm
  · exact Fin.ext (Nat.mod_eq_of_lt (by omega)).symm

/-- The weight the next call reads, carried over row block by row block. -/
theorem weight (c : Dev nD) : (dats m 0 c).arrAt 7 (cfgs 0).N
    = truncf (F := Ideal) .bf16 (m ((c : Thread nD τ).loc main_arg4)) Cert.ReferenceConvIdeal.Gen.bitsLt_bf16_f32 := by
  refine (dats m 0 c).arrAt_eq_of_covers 7 _ (by decide +kernel) fun t _ y => ?_
  obtain ⟨e0, e1, e2, e3, e4, e6, e7, b0, b1⟩ := places t
  blk_simp
  rw [after0_7]
  unfold outsAt0 out0_A_7
  frame_out
  pointwise [k0_pay2]
  blk_point [iblk, V, e7]

/-- The second half of a block. -/
theorem hi_block (c : Dev nD) (t : Fin cfg0.N) (s : Fin 512) (q : Fin 256) (hq : 256 * (grid0.coords t 1).val + q.val < 2048) :
    k0_pay1 (k0_pay3 (iblk m c 1 t)) (k0_pay6 (iblk m c 4 t))
      (k0_pay14 (View.ld (X0_0 m c t) (Rect.unit ![512, 0] ![512, 4096] inb_S1024x4096_S512x4096_512_0)))
      (k0_pay15 (k0_pay4 (iblk m c 2 t)) (k0_pay5 (iblk m c 3 t))
        (View.ld (X0_0 m c t) (Rect.unit ![512, 0] ![512, 4096] inb_S1024x4096_S512x4096_512_0)))
      (k0_pay16 (BitVec.ofNat 32 (grid0.coords t 0).val)) (k0_pay17 (BitVec.ofNat 32 (grid0.coords t 0).val))
      (k0_pay18 (BitVec.ofNat 32 (grid0.coords t 0).val)) 63#32 (ix2 s q)
    = convAt (m ((c : Thread nD τ).loc main_arg0)) (m ((c : Thread nD τ).loc main_arg2)) (m ((c : Thread nD τ).loc main_arg3))
        ((grid0.coords t 0).val * 1024 + 512 + s.val) ⟨256 * (grid0.coords t 1).val + q.val, hq⟩ := by
  obtain ⟨e0, e1, e2, e3, e4, e6, e7, b0, b1⟩ := places t
  have hs := s.isLt
  refine (hi_at _ _ _ _ (grid0.coords t 0) s q).trans ?_
  have hh (s : Fin 512) (k : Fin 4096) :
      View.ld (X0_0 m c t) (Rect.unit ![512, 0] ![512, 4096] inb_S1024x4096_S512x4096_512_0) (ix2 s k)
        = m ((c : Thread nD τ).loc main_arg0) (ix2 ⟨(grid0.coords t 0).val * 1024 + 512 + s.val, by omega⟩ k) := by
    refine staged_at m c t ?_ ?_
    · show (grid0.coords t 0).val * 1024 + (512 + 1 * s.val) = (grid0.coords t 0).val * 1024 + 512 + s.val
      omega
    · show 0 + 1 * k.val = k.val
      omega
  refine half (base := (grid0.coords t 0).val * 1024 + 512) (by omega)
    (fun s q => k0_pay15 (k0_pay4 (iblk m c 2 t)) (k0_pay5 (iblk m c 3 t))
        (View.ld (X0_0 m c t) (Rect.unit ![512, 0] ![512, 4096] inb_S1024x4096_S512x4096_512_0)) (ix2 s q)) s q ?_ ?_ ?_ ?_ ?_
    (col := fun q => ⟨256 * (grid0.coords t 1).val + q.val, by omega⟩)
  · refine (proj_at m c t _ _ (base := (grid0.coords t 0).val * 1024 + 512) (off := 6592 + 256 * (grid0.coords t 1).val) s q (by omega) (by omega) ?_ ?_).trans ?_
    · intro k
      exact (show _ = _ by pointwise [k0_pay14]).trans (hh s k)
    · intro k
      exact (show _ = _ by pointwise [k0_pay3]).trans (wb_at m c t q k rfl)
    · rw [Nat.add_assoc 6592]
  · exact (show _ = _ by pointwise [k0_pay6]).trans (taps_at m c t 0 q rfl rfl)
  · exact (show _ = _ by pointwise [k0_pay6]).trans (taps_at m c t 1 q rfl rfl)
  · exact (show _ = _ by pointwise [k0_pay6]).trans (taps_at m c t 2 q rfl rfl)
  · intro s q
    refine (prods_hi _ _ _ s q).trans (congrArg₂ (fun a b : EReal => a * b) ?_ ?_)
    · refine (proj_at m c t _ _ (base := (grid0.coords t 0).val * 1024 + 512) (off := 8640 + 256 * (grid0.coords t 1).val) s q (by omega) (by omega) (hh s) ?_).trans ?_
      · intro k
        exact (show _ = _ by pointwise [k0_pay4]).trans (wc_at m c t q k rfl)
      · rw [Nat.add_assoc 8640]
    · refine (proj_at m c t _ _ (base := (grid0.coords t 0).val * 1024 + 512) (off := 10688 + 256 * (grid0.coords t 1).val) s q (by omega) (by omega) (hh s) ?_).trans ?_
      · intro k
        exact (show _ = _ by pointwise [k0_pay5]).trans (wx_at m c t q k rfl)
      · rw [Nat.add_assoc 10688]

/-- The first half of a block. -/
theorem lo_block (c : Dev nD) (t : Fin cfg0.N) (s : Fin 512) (q : Fin 256) (hq : 256 * (grid0.coords t 1).val + q.val < 2048) :
    k0_pay13 (k0_pay3 (iblk m c 1 t)) (k0_pay6 (iblk m c 4 t))
      (k0_pay7 (View.ld (X0_0 m c t) (Rect.unit ![0, 0] ![512, 4096] inb_S1024x4096_S512x4096_0_0)))
      (k0_pay8 (iblk m c 2 t) (iblk m c 3 t)
        (View.ld (X0_0 m c t) (Rect.unit ![0, 0] ![512, 4096] inb_S1024x4096_S512x4096_0_0)))
      (k0_pay11 (grid0.coords t)) (k0_pay12 (grid0.coords t)) (ix2 s q)
    = convAt (m ((c : Thread nD τ).loc main_arg0)) (m ((c : Thread nD τ).loc main_arg2)) (m ((c : Thread nD τ).loc main_arg3))
        ((grid0.coords t 0).val * 1024 + 0 + s.val) ⟨256 * (grid0.coords t 1).val + q.val, hq⟩ := by
  obtain ⟨e0, e1, e2, e3, e4, e6, e7, b0, b1⟩ := places t
  have hs := s.isLt
  refine (lo_at _ _ _ _ (grid0.coords t) s q).trans ?_
  have hh (s : Fin 512) (k : Fin 4096) :
      View.ld (X0_0 m c t) (Rect.unit ![0, 0] ![512, 4096] inb_S1024x4096_S512x4096_0_0) (ix2 s k)
        = m ((c : Thread nD τ).loc main_arg0) (ix2 ⟨(grid0.coords t 0).val * 1024 + 0 + s.val, by omega⟩ k) := by
    refine staged_at m c t ?_ ?_
    · show (grid0.coords t 0).val * 1024 + (0 + 1 * s.val) = (grid0.coords t 0).val * 1024 + 0 + s.val
      omega
    · show 0 + 1 * k.val = k.val
      omega
  refine half (base := (grid0.coords t 0).val * 1024 + 0) (by omega)
    (fun s q => k0_pay8 (iblk m c 2 t) (iblk m c 3 t)
        (View.ld (X0_0 m c t) (Rect.unit ![0, 0] ![512, 4096] inb_S1024x4096_S512x4096_0_0)) (ix2 s q)) s q ?_ ?_ ?_ ?_ ?_
    (col := fun q => ⟨256 * (grid0.coords t 1).val + q.val, by omega⟩)
  · refine (proj_at m c t _ _ (base := (grid0.coords t 0).val * 1024 + 0) (off := 6592 + 256 * (grid0.coords t 1).val) s q (by omega) (by omega) ?_ ?_).trans ?_
    · intro k
      exact (show _ = _ by pointwise [k0_pay7]).trans (hh s k)
    · intro k
      exact (show _ = _ by pointwise [k0_pay3]).trans (wb_at m c t q k rfl)
    · rw [Nat.add_assoc 6592]
  · exact (show _ = _ by pointwise [k0_pay6]).trans (taps_at m c t 0 q rfl rfl)
  · exact (show _ = _ by pointwise [k0_pay6]).trans (taps_at m c t 1 q rfl rfl)
  · exact (show _ = _ by pointwise [k0_pay6]).trans (taps_at m c t 2 q rfl rfl)
  · intro s q
    refine (prods_lo _ _ _ s q).trans (congrArg₂ (fun a b : EReal => a * b) ?_ ?_)
    · refine (proj_at m c t _ _ (base := (grid0.coords t 0).val * 1024 + 0) (off := 8640 + 256 * (grid0.coords t 1).val) s q (by omega) (by omega) (hh s) ?_).trans ?_
      · intro k
        exact (show _ = _ by pointwise [k0_pay4]).trans (wc_at m c t q k rfl)
      · rw [Nat.add_assoc 8640]
    · refine (proj_at m c t _ _ (base := (grid0.coords t 0).val * 1024 + 0) (off := 10688 + 256 * (grid0.coords t 1).val) s q (by omega) (by omega) (hh s) ?_).trans ?_
      · intro k
        exact (show _ = _ by pointwise [k0_pay5]).trans (wx_at m c t q k rfl)
      · rw [Nat.add_assoc 10688]

/-- The gated convolution, over the whole array, once the reference's array is known entry by entry. -/
theorem final (c : Dev nD) (X : FVec Ideal S8192x2048 .bf16)
    (hX : ∀ j : S8192x2048.Idx, X j = convAt (m ((c : Thread nD τ).loc main_arg0)) (m ((c : Thread nD τ).loc main_arg2))
      (m ((c : Thread nD τ).loc main_arg3)) (j 0).val (j 1)) : (dats m 0 c).arrAt 6 (cfgs 0).N = X := by
  refine (dats m 0 c).arrAt_eq_of_covers 6 _ (by decide +kernel) fun t _ y => ?_
  obtain ⟨e0, e1, e2, e3, e4, e6, e7, b0, b1⟩ := places t
  blk_simp
  rw [after0_6]
  unfold outsAt0 out0_A_6
  frame_out
  refine View.canon_eq_of_allAt _ _ _ (View.cover_of_tiled_head _ _ _ (by rfl) _) ?_
  refine View.allAt_cons_unit _ _ _ _ _ (fun x hx => ?_) (View.allAt_cons_unit _ _ _ _ _ (fun x hx => ?_) (View.allAt_nil _ _))
  · have h1 : (x 1).val < 256 := (x 1).isLt
    have hx0 : (y 0).val = 512 + (x 0).val := hx 0
    have hx1 : (y 1).val = 0 + (x 1).val := hx 1
    have ex : x = (ix2 (x 0) (x 1) : S512x256.Idx) := funext fun a => match a with | ⟨0, _⟩ => rfl | ⟨1, _⟩ => rfl
    have hq : 256 * (grid0.coords t 1).val + (x 1).val < 2048 := by omega
    have key := hi_block m c t (x 0) (x 1) hq
    rw [← ex] at key
    refine key.trans ((hX _).trans ?_).symm
    refine congrArg₂ (convAt _ _ _) ?_ (Fin.ext ?_)
    · blk_simp [e6]
      rw [hx0, ← Nat.add_assoc]
    · blk_simp [e6]
      show (grid0.coords t 1).val * 256 + (y 1).val = 256 * (grid0.coords t 1).val + (x 1).val
      rw [hx1, Nat.zero_add, Nat.mul_comm]
  · have h1 : (x 1).val < 256 := (x 1).isLt
    have hx0 : (y 0).val = 0 + (x 0).val := hx 0
    have hx1 : (y 1).val = 0 + (x 1).val := hx 1
    have ex : x = (ix2 (x 0) (x 1) : S512x256.Idx) := funext fun a => match a with | ⟨0, _⟩ => rfl | ⟨1, _⟩ => rfl
    have hq : 256 * (grid0.coords t 1).val + (x 1).val < 2048 := by omega
    have key := lo_block m c t (x 0) (x 1) hq
    rw [← ex] at key
    refine key.trans ((hX _).trans ?_).symm
    refine congrArg₂ (convAt _ _ _) ?_ (Fin.ext ?_)
    · blk_simp [e6]
      rw [hx0, Nat.zero_add]
    · blk_simp [e6]
      show (grid0.coords t 1).val * 256 + (y 1).val = 256 * (grid0.coords t 1).val + (x 1).val
      rw [hx1, Nat.zero_add, Nat.mul_comm]

end Cert.KernelConvIdeal.Hand
-- ==== Proof.ConvRef.lean ====
module

public import proofs.«01_k».proof.Proof.Gen.ReferenceConvIdeal.Run
public import proofs.«01_k».proof.Proof.ConvForm
public import Idealize.ShloMosaic.Lib.Pointwise
public import Idealize.ShloMosaic.Lib.Claim

/-! The short convolution's reference, entry by entry. -/

set_option maxRecDepth 100000

@[expose] public section

noncomputable section

open Idealize.ShloMosaic Idealize.ShloMosaic.TcCoe Idealize.SL.Sem

namespace Cert.ReferenceConvIdeal.Hand

open Cert.ReferenceConvIdeal Cert.ReferenceConvIdeal.Gen

/-- The reference's array, as its operations make it. -/
abbrev result (x : FVec Ideal S8192x4096 .f32) (w : FVec Ideal S4096x12736 .f32) (cw : FVec Ideal S3x2048 .f32) : FVec Ideal S8192x2048 .bf16 :=
  truncf .bf16 (mulf (extractStridedSlice S8192x2048 ![0, 0] (extractStridedSlice S8192x6144 ![0, 6592] (Host.dotGeneral dot_S8192x4096_S4096x12736_S8192x12736_1_0_0_1_n_n none x w) slices_S8192x12736_S8192x6144_0_6592) slices_S8192x6144_S8192x2048_0_0) (addf (addf (mulf (broadcastInDim S8192x2048 ![0, 1] bcast_S1x2048_S8192x2048_0_1 (broadcastInDim S1x2048 ![1] bcast_S2048_S1x2048_1 (shapeCast _ (extractStridedSlice S1x2048 ![0, 0] cw slices_S3x2048_S1x2048_0_0) shapeCasts_S1x2048_S2048))) (shapeCast _ (pad S128x64x2048 ![0, 1, 0] ![0, 0, 0] ![0, 0, 0] (extractStridedSlice S128x63x2048 ![0, 0, 0] (shapeCast _ (mulf (extractStridedSlice S8192x2048 ![0, 2048] (extractStridedSlice S8192x6144 ![0, 6592] (Host.dotGeneral dot_S8192x4096_S4096x12736_S8192x12736_1_0_0_1_n_n none x w) slices_S8192x12736_S8192x6144_0_6592) slices_S8192x6144_S8192x2048_0_2048) (extractStridedSlice S8192x2048 ![0, 4096] (extractStridedSlice S8192x6144 ![0, 6592] (Host.dotGeneral dot_S8192x4096_S4096x12736_S8192x12736_1_0_0_1_n_n none x w) slices_S8192x12736_S8192x6144_0_6592) slices_S8192x6144_S8192x2048_0_4096)) shapeCasts_S8192x2048_S128x64x2048) slices_S128x64x2048_S128x63x2048_0_0_0) (sitofp .f32 (constantI S_ 32 0#32)) pads_S128x63x2048_S128x64x2048_000_100_000 h_S_) shapeCasts_S128x64x2048_S8192x2048)) (mulf (broadcastInDim S8192x2048 ![0, 1] bcast_S1x2048_S8192x2048_0_1 (broadcastInDim S1x2048 ![1] bcast_S2048_S1x2048_1 (shapeCast _ (extractStridedSlice S1x2048 ![1, 0] cw slices_S3x2048_S1x2048_1_0) shapeCasts_S1x2048_S2048))) (mulf (extractStridedSlice S8192x2048 ![0, 2048] (extractStridedSlice S8192x6144 ![0, 6592] (Host.dotGeneral dot_S8192x4096_S4096x12736_S8192x12736_1_0_0_1_n_n none x w) slices_S8192x12736_S8192x6144_0_6592) slices_S8192x6144_S8192x2048_0_2048) (extractStridedSlice S8192x2048 ![0, 4096] (extractStridedSlice S8192x6144 ![0, 6592] (Host.dotGeneral dot_S8192x4096_S4096x12736_S8192x12736_1_0_0_1_n_n none x w) slices_S8192x12736_S8192x6144_0_6592) slices_S8192x6144_S8192x2048_0_4096)))) (mulf (broadcastInDim S8192x2048 ![0, 1] bcast_S1x2048_S8192x2048_0_1 (broadcastInDim S1x2048 ![1] bcast_S2048_S1x2048_1 (shapeCast _ (extractStridedSlice S1x2048 ![2, 0] cw slices_S3x2048_S1x2048_2_0) shapeCasts_S1x2048_S2048))) (shapeCast _ (pad S128x64x2048 ![0, 0, 0] ![0, 1, 0] ![0, 0, 0] (extractStridedSlice S128x63x2048 ![0, 1, 0] (shapeCast _ (mulf (extractStridedSlice S8192x2048 ![0, 2048] (extractStridedSlice S8192x6144 ![0, 6592] (Host.dotGeneral dot_S8192x4096_S4096x12736_S8192x12736_1_0_0_1_n_n none x w) slices_S8192x12736_S8192x6144_0_6592) slices_S8192x6144_S8192x2048_0_2048) (extractStridedSlice S8192x2048 ![0, 4096] (extractStridedSlice S8192x6144 ![0, 6592] (Host.dotGeneral dot_S8192x4096_S4096x12736_S8192x12736_1_0_0_1_n_n none x w) slices_S8192x12736_S8192x6144_0_6592) slices_S8192x6144_S8192x2048_0_4096)) shapeCasts_S8192x2048_S128x64x2048) slices_S128x64x2048_S128x63x2048_0_1_0) (sitofp .f32 (constantI S_ 32 0#32)) pads_S128x63x2048_S128x64x2048_000_010_000 h_S_) shapeCasts_S128x64x2048_S8192x2048)))) bitsLt_bf16_f32

/-- One entry of the projection, as the closed form names it. -/
theorem proj_eq (x : FVec Ideal S8192x4096 .f32) (w : FVec Ideal S4096x12736 .f32) (n : Fin 8192) (q : Fin 12736) :
    @Eq EReal (∑ k : Fin 4096, x (ix2 n k) * w (ix2 k q)) (proj x w n.val q.val) := by
  unfold proj
  refine Finset.sum_congr rfl fun k _ => ?_
  congr 3
  · exact Fin.ext (Nat.mod_eq_of_lt n.isLt).symm
  · exact Fin.ext (Nat.mod_eq_of_lt q.isLt).symm

theorem zero_eq : @Eq EReal (FloatOps.sitofp (F := Ideal) FTy.f32 0#32) 0 := by
  show (((0#32 : BitVec 32).toInt : ℝ) : EReal) = 0
  simp

/-- … and it, entry by entry. -/
theorem result_at (x : FVec Ideal S8192x4096 .f32) (w : FVec Ideal S4096x12736 .f32) (cw : FVec Ideal S3x2048 .f32) (n : Fin 8192) (q : Fin 2048) :
    result x w cw (ix2 n q) = convAt x w cw n.val q := by
  pointwise [result]
  simp only [proj_eq, zero_eq]
  unfold convAt gatedIn
  have c1 : 6592 + (2048 + q.val) = 8640 + q.val := by omega
  have c2 : 6592 + (4096 + q.val) = 10688 + q.val := by omega
  have hn : n.val / 64 < 128 := by have := n.isLt; omega
  rw [c1, c2]
  by_cases h0 : n.val % 64 = 0
  · have h1 : ¬ n.val % 64 = 63 := by omega
    rw [if_pos h0, if_neg h1, dif_neg (fun h => by omega), dif_pos ⟨hn, by omega⟩]
    rw [show n.val / 64 * 64 + (1 + n.val % 64) = n.val + 1 by omega, mul_zero]
  · rw [if_neg h0, dif_pos ⟨hn, by omega, by omega⟩]
    rw [show n.val / 64 * 64 + (n.val % 64 - 1) = n.val - 1 by omega]
    by_cases h1 : n.val % 64 = 63
    · rw [if_pos h1, dif_neg (fun h => by omega), mul_zero]
    · rw [if_neg h1, dif_pos ⟨hn, by omega⟩]
      rw [show n.val / 64 * 64 + (1 + n.val % 64) = n.val + 1 by omega]

theorem result_entry (x : FVec Ideal S8192x4096 .f32) (w : FVec Ideal S4096x12736 .f32) (cw : FVec Ideal S3x2048 .f32) (j : S8192x2048.Idx) :
    result x w cw j = convAt x w cw (j 0).val (j 1) := by
  rw [show j = ix2 (j 0) (j 1) from funext fun a => match a with | ⟨0, _⟩ => rfl | ⟨1, _⟩ => rfl]
  exact result_at x w cw (j 0) (j 1)

end Cert.ReferenceConvIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.KernelUpIdeal.Value
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceUpIdeal
public import proofs.«01_k».proof.Proof.Gen.ReferenceUpIdeal.Run
public import proofs.«01_k».proof.Proof.Gen.ReferenceDownIdeal
public import proofs.«01_k».proof.Proof.Gen.ReferenceDownIdeal.Run
public import proofs.«01_k».proof.Proof.Gen.KernelFinal
public import proofs.«01_k».proof.Proof.Gen.KernelNorm
public import proofs.«01_k».proof.Proof.Gen.KernelFinal.Skeleton
public import proofs.«01_k».proof.Proof.Gen.KernelNorm.Skeleton
public import proofs.«01_k».proof.Proof.Gen.KernelFinal.Launch
public import proofs.«01_k».proof.Proof.Gen.KernelNorm.Launch
public import proofs.«01_k».proof.Proof.Gen.KernelFinal.Points
public import proofs.«01_k».proof.Proof.Gen.KernelNorm.Points
public import proofs.«01_k».proof.Proof.Gen.KernelFinal.Frame
public import proofs.«01_k».proof.Proof.Gen.KernelNorm.Frame
public import proofs.«01_k».proof.Proof.Gen.KernelFinalIdeal
public import proofs.«01_k».proof.Proof.Gen.KernelNormIdeal
public import proofs.«01_k».proof.Proof.Gen.KernelFinalIdeal.Skeleton
public import proofs.«01_k».proof.Proof.Gen.KernelNormIdeal.Skeleton
public import proofs.«01_k».proof.Proof.Gen.KernelFinalIdeal.Launch
public import proofs.«01_k».proof.Proof.Gen.KernelNormIdeal.Launch
public import proofs.«01_k».proof.Proof.Gen.KernelFinalIdeal.Points
public import proofs.«01_k».proof.Proof.Gen.KernelNormIdeal.Points
public import proofs.«01_k».proof.Proof.Gen.KernelFinalIdeal.Frame
public import proofs.«01_k».proof.Proof.Gen.KernelNormIdeal.Frame
public import proofs.«01_k».proof.Proof.Gen.KernelFinalIdeal.Value
public import proofs.«01_k».proof.Proof.Gen.KernelNormIdeal.Value
public import proofs.«01_k».proof.Proof.Gen.ReferenceFinalIdeal
public import proofs.«01_k».proof.Proof.Gen.ReferenceNormIdeal
public import proofs.«01_k».proof.Proof.Gen.ReferenceFinalIdeal.Run
public import proofs.«01_k».proof.Proof.Gen.ReferenceNormIdeal.Run
public import proofs.«01_k».proof.Proof.Gen.KernelConv
public import proofs.«01_k».proof.Proof.Gen.KernelConv.Skeleton
public import proofs.«01_k».proof.Proof.Gen.KernelConv.Launch
public import proofs.«01_k».proof.Proof.Gen.KernelConv.Points
public import proofs.«01_k».proof.Proof.Gen.KernelConv.Frame
public import proofs.«01_k».proof.Proof.Gen.KernelConvIdeal
public import proofs.«01_k».proof.Proof.Gen.KernelConvIdeal.Skeleton
public import proofs.«01_k».proof.Proof.Gen.KernelConvIdeal.Launch
public import proofs.«01_k».proof.Proof.Gen.KernelConvIdeal.Points
public import proofs.«01_k».proof.Proof.Gen.KernelConvIdeal.Frame
public import proofs.«01_k».proof.Proof.Gen.KernelConvIdeal.Value
public import proofs.«01_k».proof.Proof.Gen.ReferenceConvIdeal
public import proofs.«01_k».proof.Proof.Gen.ReferenceConvIdeal.Run
public import proofs.«01_k».proof.Proof.Grid
public import proofs.«01_k».proof.Proof.Out
public import proofs.«01_k».proof.Proof.Finite
public import proofs.«01_k».proof.Proof.Up
public import proofs.«01_k».proof.Proof.Down
public import proofs.«01_k».proof.Proof.Final
public import proofs.«01_k».proof.Proof.Norm
public import proofs.«01_k».proof.Proof.Conv
public import proofs.«01_k».proof.Proof.ConvRef
public import Idealize.ShloMosaic.Lib.Claim
public import Idealize.ShloMosaic.Adequacy
public import Idealize.ShloMosaic.Init

@[expose] public section

noncomputable section

namespace Cert.Proof

open Idealize.ShloMosaic Idealize.SL.Sem

/-- The scan's reference keeps its arguments and has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The same for the gate and up projections' reference. -/
theorem frame_referenceUp : Cert.quiescent_ReferenceUpIdeal := fun m ρ _ =>
  (θ_run Cert.ReferenceUpIdeal.defs _ _).mono
    (fun r h => ⟨fun c => (h c).2.2, sem_eq_zero_of_no_sems (by decide) r.2⟩) (Cert.ReferenceUpIdeal.Value.run (F := Ideal) m ρ)

/-- The same for the down projection's reference. -/
theorem frame_referenceDown : Cert.quiescent_ReferenceDownIdeal := fun m ρ _ =>
  (θ_run Cert.ReferenceDownIdeal.defs _ _).mono
    (fun r h => ⟨fun c => (h c).2, sem_eq_zero_of_no_sems (by decide) r.2⟩) (Cert.ReferenceDownIdeal.Value.run (F := Ideal) m ρ)

/-- The same for the final norm's reference. -/
theorem frame_referenceFinal : Cert.quiescent_ReferenceFinalIdeal := fun m ρ _ =>
  (θ_run Cert.ReferenceFinalIdeal.defs _ _).mono
    (fun r h => ⟨fun c => (h c).2, sem_eq_zero_of_no_sems (by decide) r.2⟩) (Cert.ReferenceFinalIdeal.Value.run (F := Ideal) m ρ)

/-- The same for the short convolution's reference. -/
theorem frame_referenceConv : Cert.quiescent_ReferenceConvIdeal := fun m ρ _ =>
  (θ_run Cert.ReferenceConvIdeal.defs _ _).mono
    (fun r h => ⟨fun c => (h c).2.2, sem_eq_zero_of_no_sems (by decide) r.2⟩) (Cert.ReferenceConvIdeal.Value.run (F := Ideal) m ρ)

/-- The same for the first norm's reference. -/
theorem frame_referenceNorm : Cert.quiescent_ReferenceNormIdeal := fun m ρ _ =>
  (θ_run Cert.ReferenceNormIdeal.defs _ _).mono
    (fun r h => ⟨fun c => (h c).2, sem_eq_zero_of_no_sems (by decide) r.2⟩) (Cert.ReferenceNormIdeal.Value.run (F := Ideal) m ρ)

/-- The first norm's result is the reference's. -/
theorem value_norm : Cert.algebraic_KernelNormIdeal_ReferenceNormIdeal := by
  intro m g m' g' hpre hargs
  refine ⟨fun c => (Cert.KernelNormIdeal.Gen.dats m 0 c).arrAt 5 Cert.KernelNormIdeal.cfg0.N, ?_, ?_⟩
  · run_from Cert.KernelNormIdeal.Value.run_blocks m g
  · run_from Cert.ReferenceNormIdeal.Value.run m' g'
    obtain ⟨e0, e1, e2, e3⟩ := hargs c
    refine Eq.trans ?_ (Cert.KernelNormIdeal.Hand.final m c).symm
    rw [← e0, ← e1, ← e2, ← e3]

/-- The final norm's result is the reference's. -/
theorem value_final : Cert.algebraic_KernelFinalIdeal_ReferenceFinalIdeal := by
  pair_intro
  · run_from Cert.KernelFinalIdeal.Value.run_blocks m g
  · run_from Cert.ReferenceFinalIdeal.Value.run m' g'
    exact (Cert.KernelFinalIdeal.Hand.final m c).symm

/-- The short convolution's two results are the reference's. -/
theorem value_conv : Cert.algebraic_KernelConvIdeal_ReferenceConvIdeal := by
  pair_intro
  · run_from Cert.KernelConvIdeal.Value.run_blocks m g
  · run_from Cert.ReferenceConvIdeal.Value.run m' g'
    · exact (Cert.KernelConvIdeal.Hand.final m c _ (Cert.ReferenceConvIdeal.Hand.result_entry _ _ _)).symm
    · exact (Cert.KernelConvIdeal.Hand.weight m c).symm

/-- The gate and up projections' two results are the reference's. -/
theorem value_up : Cert.algebraic_KernelUpIdeal_ReferenceUpIdeal := by
  pair_intro
  · run_from Cert.KernelUpIdeal.Gen.run_main m g
  · run_from Cert.ReferenceUpIdeal.Value.run m' g'
    · exact (Cert.KernelUpIdeal.Hand.final m c).symm
    · exact (Cert.KernelUpIdeal.Hand.weight m c).symm

/-- The down projection's result is the reference's. -/
theorem value_down : Cert.algebraic_KernelDownIdeal_ReferenceDownIdeal := by
  pair_intro
  · run_from Cert.KernelDownIdeal.Value.run_blocks m g
  · run_from Cert.ReferenceDownIdeal.Value.run m' g'
    exact (Cert.KernelDownIdeal.Hand.final m c).symm

/-- Where the arguments are finite, the scan's result is the recurrence. -/
theorem value_scan : Cert.algebraic_KernelIdeal_ReferenceIdeal_pre_finite (hPre_finite := Cert.Pre_finite.facts) := by
  intro m g m' g' hpre hargs
  refine ⟨fun c i => Scan.result (Cert.KernelIdeal.Hand.kData m c) (i 0) (i 1), ?_, ?_⟩
  · run_from Cert.KernelIdeal.Value.run_blocks m g
    exact Cert.KernelIdeal.Hand.final m c (@Cert.Pre_finite.reals_of Cert.Pre_finite.facts _ _ _ _ _ _ _ _ (fun a => a.elim0) (congrFun (hpre c) _))
  · run_from Cert.ReferenceIdeal.Value.run m' g'
    obtain ⟨e0, e1, e2, e3, e4, e5, e6, e7⟩ := hargs c
    funext i
    rw [eq_ix2 i]
    exact Cert.ReferenceIdeal.Hand.out_at ((Cert.ReferenceIdeal.Hand.entry m' c
      (@Cert.Pre_finite.reals_of Cert.Pre_finite.facts _ _ _ _ _ _ _ _ (fun a => a.elim0) (congrFun (hpre c) _)) e0 e1 e2 e3 e4 e5 e6 e7).iterate 8448 le_rfl) _ _

theorem claim : Cert.Claim :=
  ⟨Cert.Kernel.Gen.facts, Cert.KernelIdeal.Gen.facts, Cert.ReferenceIdeal.Gen.facts, Cert.KernelUp.Gen.facts,
    Cert.KernelUpIdeal.Gen.facts, Cert.ReferenceUpIdeal.Gen.facts, Cert.KernelDown.Gen.facts,
    Cert.KernelDownIdeal.Gen.facts, Cert.ReferenceDownIdeal.Gen.facts,
    Cert.KernelFinal.Gen.facts, Cert.KernelFinalIdeal.Gen.facts, Cert.ReferenceFinalIdeal.Gen.facts,
    Cert.KernelConv.Gen.facts, Cert.KernelConvIdeal.Gen.facts, Cert.ReferenceConvIdeal.Gen.facts,
    Cert.KernelNorm.Gen.facts, Cert.KernelNormIdeal.Gen.facts, Cert.ReferenceNormIdeal.Gen.facts, Cert.Pre_finite.facts,
    fun m ρ _ => Cert.Kernel.Gen.frame m ρ, fun m ρ _ => Cert.KernelIdeal.Gen.frame m ρ, fun m ρ _ => Cert.KernelIdeal.Gen.frame m ρ, frame_reference,
    fun m ρ _ => frame_reference m ρ trivial,
    fun m ρ _ => Cert.KernelUp.Gen.frame m ρ, fun m ρ _ => Cert.KernelUpIdeal.Gen.frame m ρ, frame_referenceUp,
    fun m ρ _ => Cert.KernelDown.Gen.frame m ρ, fun m ρ _ => Cert.KernelDownIdeal.Gen.frame m ρ, frame_referenceDown,
    fun m ρ _ => Cert.KernelFinal.Gen.frame m ρ, fun m ρ _ => Cert.KernelFinalIdeal.Gen.frame m ρ, frame_referenceFinal,
    fun m ρ _ => Cert.KernelConv.Gen.frame m ρ, fun m ρ _ => Cert.KernelConvIdeal.Gen.frame m ρ, frame_referenceConv,
    fun m ρ _ => Cert.KernelNorm.Gen.frame m ρ, fun m ρ _ => Cert.KernelNormIdeal.Gen.frame m ρ, frame_referenceNorm,
    trivial, value_scan, trivial, value_up, trivial, value_down, trivial, value_final, trivial, value_conv,
    trivial, value_norm⟩

end Cert.Proof

end
